-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S8x1024 : Shape := ⟨2, ![8, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S4x8192x1024 .f32) (main_arg1 : FVec F S8x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  main_v8
-- ==== Kernel.lean ====
abbrev S4x8192x1024 : Shape := ⟨3, ![4, 8192, 1024]⟩
abbrev S8x1024 : Shape := ⟨2, ![8, 1024]⟩
abbrev S4x8x8192 : Shape := ⟨3, ![4, 8, 8192]⟩
abbrev S4x2x8192 : Shape := ⟨3, ![4, 2, 8192]⟩
abbrev S_ : Shape := ⟨0, ![]⟩
abbrev S2x1x512x1024 : Shape := ⟨4, ![2, 1, 512, 1024]⟩
abbrev S2 : Shape := ⟨1, ![2]⟩
abbrev S2x1x8x512 : Shape := ⟨4, ![2, 1, 8, 512]⟩
abbrev S2x1x2x512 : Shape := ⟨4, ![2, 1, 2, 512]⟩
abbrev S1 : Shape := ⟨1, ![1]⟩
abbrev S1x1x512x1024 : Shape := ⟨4, ![1, 1, 512, 1024]⟩
abbrev S1x512x1024 : Shape := ⟨3, ![1, 512, 1024]⟩
abbrev S512x1024 : Shape := ⟨2, ![512, 1024]⟩
abbrev S8x512 : Shape := ⟨2, ![8, 512]⟩
abbrev S1x1x8x512 : Shape := ⟨4, ![1, 1, 8, 512]⟩
abbrev S1x8x512 : Shape := ⟨3, ![1, 8, 512]⟩
abbrev S512 : Shape := ⟨1, ![512]⟩
abbrev S1x512 : Shape := ⟨2, ![1, 512]⟩
abbrev S2x512 : Shape := ⟨2, ![2, 512]⟩
abbrev S1x1x2x512 : Shape := ⟨4, ![1, 1, 2, 512]⟩
abbrev S1x2x512 : Shape := ⟨3, ![1, 2, 512]⟩
abbrev S4x8192x2 : Shape := ⟨3, ![4, 8192, 2]⟩
abbrev S4x8192x8 : Shape := ⟨3, ![4, 8192, 8]⟩

abbrev nBuf : Space → Nat
  | .hbm => 8
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S8x1024, .f32⟩
  | .hbm, ⟨2, _⟩ => ⟨S4x8x8192, .f32⟩
  | .hbm, ⟨3, _⟩ => ⟨S4x2x8192, .f32⟩
  | .hbm, ⟨4, _⟩ => ⟨S4x2x8192, .i32⟩
  | .hbm, ⟨5, _⟩ => ⟨S4x8192x2, .f32⟩
  | .hbm, ⟨6, _⟩ => ⟨S4x8192x2, .i32⟩
  | .hbm, ⟨7, _⟩ => ⟨S4x8192x8, .f32⟩
  | .local _ .vmem, ⟨0, _⟩ => ⟨S8x1024, .f32⟩
  | .local _ .vmem, ⟨1, _⟩ => ⟨S2x1x512x1024, .f32⟩
  | .local _ .vmem, ⟨2, _⟩ => ⟨S2x1x512x1024, .f32⟩
  | .local _ .vmem, ⟨3, _⟩ => ⟨S2x1x512x1024, .f32⟩
  | .local _ .vmem, ⟨4, _⟩ => ⟨S2x1x512x1024, .f32⟩
  | .local _ .vmem, ⟨5, _⟩ => ⟨S2x1x8x512, .f32⟩
  | .local _ .vmem, ⟨6, _⟩ => ⟨S2x1x8x512, .f32⟩
  | .local _ .vmem, ⟨7, _⟩ => ⟨S2x1x8x512, .f32⟩
  | .local _ .vmem, ⟨8, _⟩ => ⟨S2x1x8x512, .f32⟩
  | .local _ .vmem, ⟨9, _⟩ => ⟨S2x1x2x512, .f32⟩
  | .local _ .vmem, ⟨10, _⟩ => ⟨S2x1x2x512, .f32⟩
  | .local _ .vmem, ⟨11, _⟩ => ⟨S2x1x2x512, .f32⟩
  | .local _ .vmem, ⟨12, _⟩ => ⟨S2x1x2x512, .f32⟩
  | .local _ .vmem, ⟨13, _⟩ => ⟨S2x1x2x512, .i32⟩
  | .local _ .vmem, ⟨14, _⟩ => ⟨S2x1x2x512, .i32⟩
  | .local _ .vmem, ⟨15, _⟩ => ⟨S2x1x2x512, .i32⟩
  | .local _ .vmem, ⟨16, _⟩ => ⟨S2x1x2x512, .i32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_scratch0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped4 : Ref sig .tc := ⟨.vmem, 3, rfl⟩
abbrev cc0_scoped6 : Ref sig .tc := ⟨.vmem, 4, rfl⟩
abbrev cc0_scoped8 : Ref sig .tc := ⟨.vmem, 5, rfl⟩
abbrev cc0_scoped10 : Ref sig .tc := ⟨.vmem, 6, rfl⟩
abbrev cc0_scoped12 : Ref sig .tc := ⟨.vmem, 7, rfl⟩
abbrev cc0_scoped14 : Ref sig .tc := ⟨.vmem, 8, rfl⟩
abbrev cc0_scoped16 : Ref sig .tc := ⟨.vmem, 9, rfl⟩
abbrev cc0_scoped18 : Ref sig .tc := ⟨.vmem, 10, rfl⟩
abbrev cc0_scoped20 : Ref sig .tc := ⟨.vmem, 11, rfl⟩
abbrev cc0_scoped22 : Ref sig .tc := ⟨.vmem, 12, rfl⟩
abbrev cc0_scoped24 : Ref sig .tc := ⟨.vmem, 13, rfl⟩
abbrev cc0_scoped26 : Ref sig .tc := ⟨.vmem, 14, rfl⟩
abbrev cc0_scoped28 : Ref sig .tc := ⟨.vmem, 15, rfl⟩
abbrev cc0_scoped30 : Ref sig .tc := ⟨.vmem, 16, rfl⟩

abbrev nD : Nat := 1
abbrev τ : Topo := Topo.v7x

variable {F : FTy → Type} [FloatOps F]

abbrev grid0 : Pipeline.Grid := ⟨1, ![2], ![false]⟩

def k0_off1 : Fin 1 → Nat :=
  let c0_i32_39_r0 : BitVec 32 := 0#32
  let c2_i32_40_r0 : BitVec 32 := 2#32
  let v45_r0 : BitVec 32 := Scalar.remui c0_i32_39_r0 c2_i32_40_r0
  ![v45_r0.toNat]
def k0_off2 : Fin 4 → Nat :=
  let c0_i32_39_r0 : BitVec 32 := 0#32
  let c2_i32_40_r0 : BitVec 32 := 2#32
  let v45_r0 : BitVec 32 := Scalar.remui c0_i32_39_r0 c2_i32_40_r0
  let c0_i32_42_r0 : BitVec 32 := 0#32
  let c0_i32_43_r0 : BitVec 32 := 0#32
  let c0_i32_44_r0 : BitVec 32 := 0#32
  ![v45_r0.toNat, 0, 0, 0]
def k0_off3 (i : grid0.Coords) : Fin 3 → Nat :=
  let c1_i32_41_r0 : BitVec 32 := 1#32
  let c0_i32_r0 : BitVec 32 := 0#32
  let arg0 : BitVec 32 := BitVec.ofNat 32 (i 0).val
  let c2_i32 : BitVec 32 := 2#32
  let v1 : BitVec 32 := Scalar.muli arg0 c2_i32
  let v18_r0 : BitVec 32 := Scalar.addi c0_i32_r0 v1
  let v46_r0 : BitVec 32 := Scalar.muli c1_i32_41_r0 v18_r0
  let c0_i32_45_r0 : BitVec 32 := 0#32
  let c0_i32_46_r0 : BitVec 32 := 0#32
  ![v46_r0.toNat, 0, 0]
def k0_off4 (i : grid0.Coords) : Fin 3 → Nat :=
  let c1_i32_51_r0 : BitVec 32 := 1#32
  let c0_i32_r0 : BitVec 32 := 0#32
  let arg0 : BitVec 32 := BitVec.ofNat 32 (i 0).val
  let c2_i32 : BitVec 32 := 2#32
  let v1 : BitVec 32 := Scalar.muli arg0 c2_i32
  let v18_r0 : BitVec 32 := Scalar.addi c0_i32_r0 v1
  let v54_r0 : BitVec 32 := Scalar.muli c1_i32_51_r0 v18_r0
  let c2048_i32_r0 : BitVec 32 := 2048#32
  let c0_i32_55_r0 : BitVec 32 := 0#32
  ![v54_r0.toNat, 2048, 0]
def k0_off5 (i : grid0.Coords) : Fin 3 → Nat :=
  let c1_i32_60_r0 : BitVec 32 := 1#32
  let c0_i32_r0 : BitVec 32 := 0#32
  let arg0 : BitVec 32 := BitVec.ofNat 32 (i 0).val
  let c2_i32 : BitVec 32 := 2#32
  let v1 : BitVec 32 := Scalar.muli arg0 c2_i32
  let v18_r0 : BitVec 32 := Scalar.addi c0_i32_r0 v1
  let v62_r0 : BitVec 32 := Scalar.muli c1_i32_60_r0 v18_r0
  let c4096_i32_r0 : BitVec 32 := 4096#32
  let c0_i32_64_r0 : BitVec 32 := 0#32
  ![v62_r0.toNat, 4096, 0]
def k0_off6 (i : grid0.Coords) : Fin 3 → Nat :=
  let c1_i32_69_r0 : BitVec 32 := 1#32
  let c0_i32_r0 : BitVec 32 := 0#32
  let arg0 : BitVec 32 := BitVec.ofNat 32 (i 0).val
  let c2_i32 : BitVec 32 := 2#32
  let v1 : BitVec 32 := Scalar.muli arg0 c2_i32
  let v18_r0 : BitVec 32 := Scalar.addi c0_i32_r0 v1
  let v70_r0 : BitVec 32 := Scalar.muli c1_i32_69_r0 v18_r0
  let c6144_i32_r0 : BitVec 32 := 6144#32
  let c0_i32_73_r0 : BitVec 32 := 0#32
  ![v70_r0.toNat, 6144, 0]
@[reducible] def k0_t1_loop : Scf.Loop 32 :=
  let c0_i32_106_r0 : BitVec 32 := 0#32
  let c8_i32_r0 : BitVec 32 := 8#32
  let v77_r0 : BitVec 32 := Scalar.addi c0_i32_106_r0 c8_i32_r0
  let c1_i32_107_r0 : BitVec 32 := 1#32
  ⟨c0_i32_106_r0, v77_r0, c1_i32_107_r0⟩
def k0_off7 (arg9_r0 : BitVec 32) : Fin 1 → Nat :=
  let c2_i32_658_r0 : BitVec 32 := 2#32
  let v1097_r0 : BitVec 32 := Scalar.remui arg9_r0 c2_i32_658_r0
  ![v1097_r0.toNat]
def k0_cond1 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let v249_r0 : BitVec 32 := Scalar.addi v248_r0 v1
  let v263_r0 : BitVec 1 := Scalar.cmpi .ne v229_r0 v249_r0
  let c0_i32_261_r0 : BitVec 32 := 0#32
  let c0_i32_236_r0 : BitVec 32 := 0#32
  let v230_r0 : BitVec 32 := Scalar.addi arg42_r0 c0_i32_236_r0
  let v261_r0 : BitVec 32 := Scalar.addi c0_i32_261_r0 v230_r0
  let c0_i32_262_r0 : BitVec 32 := 0#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v262_r0 : BitVec 32 := Scalar.addi c0_i32_262_r0 v250_r0
  let v264_r0 : BitVec 1 := Scalar.cmpi .ne v261_r0 v262_r0
  let v265_r0 : BitVec 1 := Scalar.ori v263_r0 v264_r0
  let c0_i32_106_r0 : BitVec 32 := 0#32
  let c1_i32_107_r0 : BitVec 32 := 1#32
  let arg8_r0 : BitVec 32 := Scf.iv c0_i32_106_r0 c1_i32_107_r0 k0_t1
  let c7_i32_263_r0 : BitVec 32 := 7#32
  let v266_r0 : BitVec 1 := Scalar.cmpi .sge arg8_r0 c7_i32_263_r0
  let true_264_r0 : BitVec 1 := 1#1
  let v267_r0 : BitVec 1 := Scalar.xori v266_r0 true_264_r0
  let v268_r0 : BitVec 1 := Scalar.andi v265_r0 v267_r0
  let true_265_r0 : BitVec 1 := 1#1
  let v269_r0 : BitVec 1 := Scalar.andi v268_r0 true_265_r0
  let v270_r0 : BitVec 32 := Scalar.extui v269_r0
  let c0_i32_266_r0 : BitVec 32 := 0#32
  let v271_r0 : BitVec 1 := Scalar.cmpi .ne v270_r0 c0_i32_266_r0
  v271_r0

def k0_off8 (arg9_r0 : BitVec 32) : Fin 4 → Nat :=
  let c2_i32_658_r0 : BitVec 32 := 2#32
  let v1097_r0 : BitVec 32 := Scalar.remui arg9_r0 c2_i32_658_r0
  let c0_i32_662_r0 : BitVec 32 := 0#32
  let c0_i32_663_r0 : BitVec 32 := 0#32
  let c0_i32_664_r0 : BitVec 32 := 0#32
  ![v1097_r0.toNat, 0, 0, 0]
def k0_off9 (i : grid0.Coords) (arg41_r0 : BitVec 32) (arg42_r0 : BitVec 32) : Fin 3 → Nat :=
  let c1_i32_660_r0 : BitVec 32 := 1#32
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let arg0 : BitVec 32 := BitVec.ofNat 32 (i 0).val
  let c2_i32 : BitVec 32 := 2#32
  let v1 : BitVec 32 := Scalar.muli arg0 c2_i32
  let v249_r0 : BitVec 32 := Scalar.addi v248_r0 v1
  let v1099_r0 : BitVec 32 := Scalar.muli c1_i32_660_r0 v249_r0
  let c512_i32_661_r0 : BitVec 32 := 512#32
  let c0_i32_659_r0 : BitVec 32 := 0#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v1098_r0 : BitVec 32 := Scalar.addi c0_i32_659_r0 v250_r0
  let v1100_r0 : BitVec 32 := Scalar.muli c512_i32_661_r0 v1098_r0
  let c0_i32_665_r0 : BitVec 32 := 0#32
  ![v1099_r0.toNat, v1100_r0.toNat, 0]
def k0_off10 (arg11_r0 : BitVec 32) : Fin 1 → Nat :=
  let c2_i32_658_r0 : BitVec 32 := 2#32
  let v1097_r0 : BitVec 32 := Scalar.remui arg11_r0 c2_i32_658_r0
  ![v1097_r0.toNat]
def k0_cond2 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let v249_r0 : BitVec 32 := Scalar.addi v248_r0 v1
  let v277_r0 : BitVec 1 := Scalar.cmpi .ne v229_r0 v249_r0
  let c4_i32_269_r0 : BitVec 32 := 4#32
  let c0_i32_236_r0 : BitVec 32 := 0#32
  let v230_r0 : BitVec 32 := Scalar.addi arg42_r0 c0_i32_236_r0
  let v275_r0 : BitVec 32 := Scalar.addi c4_i32_269_r0 v230_r0
  let c4_i32_270_r0 : BitVec 32 := 4#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v276_r0 : BitVec 32 := Scalar.addi c4_i32_270_r0 v250_r0
  let v278_r0 : BitVec 1 := Scalar.cmpi .ne v275_r0 v276_r0
  let v279_r0 : BitVec 1 := Scalar.ori v277_r0 v278_r0
  let c0_i32_106_r0 : BitVec 32 := 0#32
  let c1_i32_107_r0 : BitVec 32 := 1#32
  let arg8_r0 : BitVec 32 := Scf.iv c0_i32_106_r0 c1_i32_107_r0 k0_t1
  let c7_i32_271_r0 : BitVec 32 := 7#32
  let v280_r0 : BitVec 1 := Scalar.cmpi .sge arg8_r0 c7_i32_271_r0
  let true_272_r0 : BitVec 1 := 1#1
  let v281_r0 : BitVec 1 := Scalar.xori v280_r0 true_272_r0
  let v282_r0 : BitVec 1 := Scalar.andi v279_r0 v281_r0
  let true_273_r0 : BitVec 1 := 1#1
  let v283_r0 : BitVec 1 := Scalar.andi v282_r0 true_273_r0
  let v284_r0 : BitVec 32 := Scalar.extui v283_r0
  let c0_i32_274_r0 : BitVec 32 := 0#32
  let v285_r0 : BitVec 1 := Scalar.cmpi .ne v284_r0 c0_i32_274_r0
  v285_r0

def k0_off11 (arg11_r0 : BitVec 32) : Fin 4 → Nat :=
  let c2_i32_658_r0 : BitVec 32 := 2#32
  let v1097_r0 : BitVec 32 := Scalar.remui arg11_r0 c2_i32_658_r0
  let c0_i32_662_r0 : BitVec 32 := 0#32
  let c0_i32_663_r0 : BitVec 32 := 0#32
  let c0_i32_664_r0 : BitVec 32 := 0#32
  ![v1097_r0.toNat, 0, 0, 0]
def k0_off12 (i : grid0.Coords) (arg41_r0 : BitVec 32) (arg42_r0 : BitVec 32) : Fin 3 → Nat :=
  let c1_i32_660_r0 : BitVec 32 := 1#32
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let arg0 : BitVec 32 := BitVec.ofNat 32 (i 0).val
  let c2_i32 : BitVec 32 := 2#32
  let v1 : BitVec 32 := Scalar.muli arg0 c2_i32
  let v249_r0 : BitVec 32 := Scalar.addi v248_r0 v1
  let v1099_r0 : BitVec 32 := Scalar.muli c1_i32_660_r0 v249_r0
  let c512_i32_661_r0 : BitVec 32 := 512#32
  let c4_i32_659_r0 : BitVec 32 := 4#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v1098_r0 : BitVec 32 := Scalar.addi c4_i32_659_r0 v250_r0
  let v1100_r0 : BitVec 32 := Scalar.muli c512_i32_661_r0 v1098_r0
  let c0_i32_665_r0 : BitVec 32 := 0#32
  ![v1099_r0.toNat, v1100_r0.toNat, 0]
def k0_off13 (arg13_r0 : BitVec 32) : Fin 1 → Nat :=
  let c2_i32_658_r0 : BitVec 32 := 2#32
  let v1097_r0 : BitVec 32 := Scalar.remui arg13_r0 c2_i32_658_r0
  ![v1097_r0.toNat]
def k0_cond3 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let v249_r0 : BitVec 32 := Scalar.addi v248_r0 v1
  let v291_r0 : BitVec 1 := Scalar.cmpi .ne v229_r0 v249_r0
  let c8_i32_277_r0 : BitVec 32 := 8#32
  let c0_i32_236_r0 : BitVec 32 := 0#32
  let v230_r0 : BitVec 32 := Scalar.addi arg42_r0 c0_i32_236_r0
  let v289_r0 : BitVec 32 := Scalar.addi c8_i32_277_r0 v230_r0
  let c8_i32_278_r0 : BitVec 32 := 8#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v290_r0 : BitVec 32 := Scalar.addi c8_i32_278_r0 v250_r0
  let v292_r0 : BitVec 1 := Scalar.cmpi .ne v289_r0 v290_r0
  let v293_r0 : BitVec 1 := Scalar.ori v291_r0 v292_r0
  let c0_i32_106_r0 : BitVec 32 := 0#32
  let c1_i32_107_r0 : BitVec 32 := 1#32
  let arg8_r0 : BitVec 32 := Scf.iv c0_i32_106_r0 c1_i32_107_r0 k0_t1
  let c7_i32_279_r0 : BitVec 32 := 7#32
  let v294_r0 : BitVec 1 := Scalar.cmpi .sge arg8_r0 c7_i32_279_r0
  let true_280_r0 : BitVec 1 := 1#1
  let v295_r0 : BitVec 1 := Scalar.xori v294_r0 true_280_r0
  let v296_r0 : BitVec 1 := Scalar.andi v293_r0 v295_r0
  let true_281_r0 : BitVec 1 := 1#1
  let v297_r0 : BitVec 1 := Scalar.andi v296_r0 true_281_r0
  let v298_r0 : BitVec 32 := Scalar.extui v297_r0
  let c0_i32_282_r0 : BitVec 32 := 0#32
  let v299_r0 : BitVec 1 := Scalar.cmpi .ne v298_r0 c0_i32_282_r0
  v299_r0

def k0_off14 (arg13_r0 : BitVec 32) : Fin 4 → Nat :=
  let c2_i32_658_r0 : BitVec 32 := 2#32
  let v1097_r0 : BitVec 32 := Scalar.remui arg13_r0 c2_i32_658_r0
  let c0_i32_662_r0 : BitVec 32 := 0#32
  let c0_i32_663_r0 : BitVec 32 := 0#32
  let c0_i32_664_r0 : BitVec 32 := 0#32
  ![v1097_r0.toNat, 0, 0, 0]
def k0_off15 (i : grid0.Coords) (arg41_r0 : BitVec 32) (arg42_r0 : BitVec 32) : Fin 3 → Nat :=
  let c1_i32_660_r0 : BitVec 32 := 1#32
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let arg0 : BitVec 32 := BitVec.ofNat 32 (i 0).val
  let c2_i32 : BitVec 32 := 2#32
  let v1 : BitVec 32 := Scalar.muli arg0 c2_i32
  let v249_r0 : BitVec 32 := Scalar.addi v248_r0 v1
  let v1099_r0 : BitVec 32 := Scalar.muli c1_i32_660_r0 v249_r0
  let c512_i32_661_r0 : BitVec 32 := 512#32
  let c8_i32_659_r0 : BitVec 32 := 8#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v1098_r0 : BitVec 32 := Scalar.addi c8_i32_659_r0 v250_r0
  let v1100_r0 : BitVec 32 := Scalar.muli c512_i32_661_r0 v1098_r0
  let c0_i32_665_r0 : BitVec 32 := 0#32
  ![v1099_r0.toNat, v1100_r0.toNat, 0]
def k0_off16 (arg15_r0 : BitVec 32) : Fin 1 → Nat :=
  let c2_i32_658_r0 : BitVec 32 := 2#32
  let v1097_r0 : BitVec 32 := Scalar.remui arg15_r0 c2_i32_658_r0
  ![v1097_r0.toNat]
def k0_cond4 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let v249_r0 : BitVec 32 := Scalar.addi v248_r0 v1
  let v305_r0 : BitVec 1 := Scalar.cmpi .ne v229_r0 v249_r0
  let c12_i32_285_r0 : BitVec 32 := 12#32
  let c0_i32_236_r0 : BitVec 32 := 0#32
  let v230_r0 : BitVec 32 := Scalar.addi arg42_r0 c0_i32_236_r0
  let v303_r0 : BitVec 32 := Scalar.addi c12_i32_285_r0 v230_r0
  let c12_i32_286_r0 : BitVec 32 := 12#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v304_r0 : BitVec 32 := Scalar.addi c12_i32_286_r0 v250_r0
  let v306_r0 : BitVec 1 := Scalar.cmpi .ne v303_r0 v304_r0
  let v307_r0 : BitVec 1 := Scalar.ori v305_r0 v306_r0
  let c0_i32_106_r0 : BitVec 32 := 0#32
  let c1_i32_107_r0 : BitVec 32 := 1#32
  let arg8_r0 : BitVec 32 := Scf.iv c0_i32_106_r0 c1_i32_107_r0 k0_t1
  let c7_i32_287_r0 : BitVec 32 := 7#32
  let v308_r0 : BitVec 1 := Scalar.cmpi .sge arg8_r0 c7_i32_287_r0
  let true_288_r0 : BitVec 1 := 1#1
  let v309_r0 : BitVec 1 := Scalar.xori v308_r0 true_288_r0
  let v310_r0 : BitVec 1 := Scalar.andi v307_r0 v309_r0
  let true_289_r0 : BitVec 1 := 1#1
  let v311_r0 : BitVec 1 := Scalar.andi v310_r0 true_289_r0
  let v312_r0 : BitVec 32 := Scalar.extui v311_r0
  let c0_i32_290_r0 : BitVec 32 := 0#32
  let v313_r0 : BitVec 1 := Scalar.cmpi .ne v312_r0 c0_i32_290_r0
  v313_r0

def k0_off17 (arg15_r0 : BitVec 32) : Fin 4 → Nat :=
  let c2_i32_658_r0 : BitVec 32 := 2#32
  let v1097_r0 : BitVec 32 := Scalar.remui arg15_r0 c2_i32_658_r0
  let c0_i32_662_r0 : BitVec 32 := 0#32
  let c0_i32_663_r0 : BitVec 32 := 0#32
  let c0_i32_664_r0 : BitVec 32 := 0#32
  ![v1097_r0.toNat, 0, 0, 0]
def k0_off18 (i : grid0.Coords) (arg41_r0 : BitVec 32) (arg42_r0 : BitVec 32) : Fin 3 → Nat :=
  let c1_i32_660_r0 : BitVec 32 := 1#32
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let arg0 : BitVec 32 := BitVec.ofNat 32 (i 0).val
  let c2_i32 : BitVec 32 := 2#32
  let v1 : BitVec 32 := Scalar.muli arg0 c2_i32
  let v249_r0 : BitVec 32 := Scalar.addi v248_r0 v1
  let v1099_r0 : BitVec 32 := Scalar.muli c1_i32_660_r0 v249_r0
  let c512_i32_661_r0 : BitVec 32 := 512#32
  let c12_i32_659_r0 : BitVec 32 := 12#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v1098_r0 : BitVec 32 := Scalar.addi c12_i32_659_r0 v250_r0
  let v1100_r0 : BitVec 32 := Scalar.muli c512_i32_661_r0 v1098_r0
  let c0_i32_665_r0 : BitVec 32 := 0#32
  ![v1099_r0.toNat, v1100_r0.toNat, 0]
def k0_off19 (arg10_r0 : BitVec 32) : Fin 1 → Nat :=
  let c2_i32_661_r0 : BitVec 32 := 2#32
  let v1100_r0 : BitVec 32 := Scalar.remui arg10_r0 c2_i32_661_r0
  ![v1100_r0.toNat]
def k0_cond5 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let v239_r0 : BitVec 32 := Scalar.addi v238_r0 v1
  let v414_r0 : BitVec 1 := Scalar.cmpi .ne v229_r0 v239_r0
  let c0_i32_261_r0 : BitVec 32 := 0#32
  let c0_i32_236_r0 : BitVec 32 := 0#32
  let v230_r0 : BitVec 32 := Scalar.addi arg42_r0 c0_i32_236_r0
  let v261_r0 : BitVec 32 := Scalar.addi c0_i32_261_r0 v230_r0
  let c0_i32_341_r0 : BitVec 32 := 0#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v413_r0 : BitVec 32 := Scalar.addi c0_i32_341_r0 v240_r0
  let v415_r0 : BitVec 1 := Scalar.cmpi .ne v261_r0 v413_r0
  let v416_r0 : BitVec 1 := Scalar.ori v414_r0 v415_r0
  let c0_i32_106_r0 : BitVec 32 := 0#32
  let c1_i32_107_r0 : BitVec 32 := 1#32
  let arg8_r0 : BitVec 32 := Scf.iv c0_i32_106_r0 c1_i32_107_r0 k0_t1
  let c0_i32_235_r0 : BitVec 32 := 0#32
  let v227_r0 : BitVec 1 := Scalar.cmpi .eq arg8_r0 c0_i32_235_r0
  let v417_r0 : BitVec 1 := Scalar.ori v416_r0 v227_r0
  let c0_i32_342_r0 : BitVec 32 := 0#32
  let v418_r0 : BitVec 1 := Scalar.cmpi .sge arg8_r0 c0_i32_342_r0
  let v419_r0 : BitVec 1 := Scalar.andi v417_r0 v418_r0
  let v420_r0 : BitVec 32 := Scalar.extui v419_r0
  let c0_i32_343_r0 : BitVec 32 := 0#32
  let v421_r0 : BitVec 1 := Scalar.cmpi .ne v420_r0 c0_i32_343_r0
  v421_r0

def k0_off20 (arg10_r0 : BitVec 32) : Fin 4 → Nat :=
  let c2_i32_661_r0 : BitVec 32 := 2#32
  let v1100_r0 : BitVec 32 := Scalar.remui arg10_r0 c2_i32_661_r0
  let c0_i32_662_r0 : BitVec 32 := 0#32
  let c0_i32_663_r0 : BitVec 32 := 0#32
  let c0_i32_664_r0 : BitVec 32 := 0#32
  ![v1100_r0.toNat, 0, 0, 0]
def k0_off21 (i : grid0.Coords) (arg41_r0 : BitVec 32) (arg42_r0 : BitVec 32) : Fin 3 → Nat :=
  let c1_i32_659_r0 : BitVec 32 := 1#32
  let arg0 : BitVec 32 := BitVec.ofNat 32 (i 0).val
  let c2_i32 : BitVec 32 := 2#32
  let v1 : BitVec 32 := Scalar.muli arg0 c2_i32
  let v229_r0 : BitVec 32 := Scalar.addi arg41_r0 v1
  let v1098_r0 : BitVec 32 := Scalar.muli c1_i32_659_r0 v229_r0
  let c512_i32_660_r0 : BitVec 32 := 512#32
  let c0_i32_658_r0 : BitVec 32 := 0#32
  let c0_i32_236_r0 : BitVec 32 := 0#32
  let v230_r0 : BitVec 32 := Scalar.addi arg42_r0 c0_i32_236_r0
  let v1097_r0 : BitVec 32 := Scalar.addi c0_i32_658_r0 v230_r0
  let v1099_r0 : BitVec 32 := Scalar.muli c512_i32_660_r0 v1097_r0
  let c0_i32_665_r0 : BitVec 32 := 0#32
  ![v1098_r0.toNat, v1099_r0.toNat, 0]
def k0_off22 (arg12_r0 : BitVec 32) : Fin 1 → Nat :=
  let c2_i32_661_r0 : BitVec 32 := 2#32
  let v1100_r0 : BitVec 32 := Scalar.remui arg12_r0 c2_i32_661_r0
  ![v1100_r0.toNat]
def k0_cond6 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let v239_r0 : BitVec 32 := Scalar.addi v238_r0 v1
  let v423_r0 : BitVec 1 := Scalar.cmpi .ne v229_r0 v239_r0
  let c4_i32_269_r0 : BitVec 32 := 4#32
  let c0_i32_236_r0 : BitVec 32 := 0#32
  let v230_r0 : BitVec 32 := Scalar.addi arg42_r0 c0_i32_236_r0
  let v275_r0 : BitVec 32 := Scalar.addi c4_i32_269_r0 v230_r0
  let c4_i32_344_r0 : BitVec 32 := 4#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v422_r0 : BitVec 32 := Scalar.addi c4_i32_344_r0 v240_r0
  let v424_r0 : BitVec 1 := Scalar.cmpi .ne v275_r0 v422_r0
  let v425_r0 : BitVec 1 := Scalar.ori v423_r0 v424_r0
  let c0_i32_106_r0 : BitVec 32 := 0#32
  let c1_i32_107_r0 : BitVec 32 := 1#32
  let arg8_r0 : BitVec 32 := Scf.iv c0_i32_106_r0 c1_i32_107_r0 k0_t1
  let c0_i32_235_r0 : BitVec 32 := 0#32
  let v227_r0 : BitVec 1 := Scalar.cmpi .eq arg8_r0 c0_i32_235_r0
  let v426_r0 : BitVec 1 := Scalar.ori v425_r0 v227_r0
  let c0_i32_345_r0 : BitVec 32 := 0#32
  let v427_r0 : BitVec 1 := Scalar.cmpi .sge arg8_r0 c0_i32_345_r0
  let v428_r0 : BitVec 1 := Scalar.andi v426_r0 v427_r0
  let v429_r0 : BitVec 32 := Scalar.extui v428_r0
  let c0_i32_346_r0 : BitVec 32 := 0#32
  let v430_r0 : BitVec 1 := Scalar.cmpi .ne v429_r0 c0_i32_346_r0
  v430_r0

def k0_off23 (arg12_r0 : BitVec 32) : Fin 4 → Nat :=
  let c2_i32_661_r0 : BitVec 32 := 2#32
  let v1100_r0 : BitVec 32 := Scalar.remui arg12_r0 c2_i32_661_r0
  let c0_i32_662_r0 : BitVec 32 := 0#32
  let c0_i32_663_r0 : BitVec 32 := 0#32
  let c0_i32_664_r0 : BitVec 32 := 0#32
  ![v1100_r0.toNat, 0, 0, 0]
def k0_off24 (i : grid0.Coords) (arg41_r0 : BitVec 32) (arg42_r0 : BitVec 32) : Fin 3 → Nat :=
  let c1_i32_659_r0 : BitVec 32 := 1#32
  let arg0 : BitVec 32 := BitVec.ofNat 32 (i 0).val
  let c2_i32 : BitVec 32 := 2#32
  let v1 : BitVec 32 := Scalar.muli arg0 c2_i32
  let v229_r0 : BitVec 32 := Scalar.addi arg41_r0 v1
  let v1098_r0 : BitVec 32 := Scalar.muli c1_i32_659_r0 v229_r0
  let c512_i32_660_r0 : BitVec 32 := 512#32
  let c4_i32_658_r0 : BitVec 32 := 4#32
  let c0_i32_236_r0 : BitVec 32 := 0#32
  let v230_r0 : BitVec 32 := Scalar.addi arg42_r0 c0_i32_236_r0
  let v1097_r0 : BitVec 32 := Scalar.addi c4_i32_658_r0 v230_r0
  let v1099_r0 : BitVec 32 := Scalar.muli c512_i32_660_r0 v1097_r0
  let c0_i32_665_r0 : BitVec 32 := 0#32
  ![v1098_r0.toNat, v1099_r0.toNat, 0]
def k0_off25 (arg14_r0 : BitVec 32) : Fin 1 → Nat :=
  let c2_i32_661_r0 : BitVec 32 := 2#32
  let v1100_r0 : BitVec 32 := Scalar.remui arg14_r0 c2_i32_661_r0
  ![v1100_r0.toNat]
def k0_cond7 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let v239_r0 : BitVec 32 := Scalar.addi v238_r0 v1
  let v432_r0 : BitVec 1 := Scalar.cmpi .ne v229_r0 v239_r0
  let c8_i32_277_r0 : BitVec 32 := 8#32
  let c0_i32_236_r0 : BitVec 32 := 0#32
  let v230_r0 : BitVec 32 := Scalar.addi arg42_r0 c0_i32_236_r0
  let v289_r0 : BitVec 32 := Scalar.addi c8_i32_277_r0 v230_r0
  let c8_i32_347_r0 : BitVec 32 := 8#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v431_r0 : BitVec 32 := Scalar.addi c8_i32_347_r0 v240_r0
  let v433_r0 : BitVec 1 := Scalar.cmpi .ne v289_r0 v431_r0
  let v434_r0 : BitVec 1 := Scalar.ori v432_r0 v433_r0
  let c0_i32_106_r0 : BitVec 32 := 0#32
  let c1_i32_107_r0 : BitVec 32 := 1#32
  let arg8_r0 : BitVec 32 := Scf.iv c0_i32_106_r0 c1_i32_107_r0 k0_t1
  let c0_i32_235_r0 : BitVec 32 := 0#32
  let v227_r0 : BitVec 1 := Scalar.cmpi .eq arg8_r0 c0_i32_235_r0
  let v435_r0 : BitVec 1 := Scalar.ori v434_r0 v227_r0
  let c0_i32_348_r0 : BitVec 32 := 0#32
  let v436_r0 : BitVec 1 := Scalar.cmpi .sge arg8_r0 c0_i32_348_r0
  let v437_r0 : BitVec 1 := Scalar.andi v435_r0 v436_r0
  let v438_r0 : BitVec 32 := Scalar.extui v437_r0
  let c0_i32_349_r0 : BitVec 32 := 0#32
  let v439_r0 : BitVec 1 := Scalar.cmpi .ne v438_r0 c0_i32_349_r0
  v439_r0

def k0_off26 (arg14_r0 : BitVec 32) : Fin 4 → Nat :=
  let c2_i32_661_r0 : BitVec 32 := 2#32
  let v1100_r0 : BitVec 32 := Scalar.remui arg14_r0 c2_i32_661_r0
  let c0_i32_662_r0 : BitVec 32 := 0#32
  let c0_i32_663_r0 : BitVec 32 := 0#32
  let c0_i32_664_r0 : BitVec 32 := 0#32
  ![v1100_r0.toNat, 0, 0, 0]
def k0_off27 (i : grid0.Coords) (arg41_r0 : BitVec 32) (arg42_r0 : BitVec 32) : Fin 3 → Nat :=
  let c1_i32_659_r0 : BitVec 32 := 1#32
  let arg0 : BitVec 32 := BitVec.ofNat 32 (i 0).val
  let c2_i32 : BitVec 32 := 2#32
  let v1 : BitVec 32 := Scalar.muli arg0 c2_i32
  let v229_r0 : BitVec 32 := Scalar.addi arg41_r0 v1
  let v1098_r0 : BitVec 32 := Scalar.muli c1_i32_659_r0 v229_r0
  let c512_i32_660_r0 : BitVec 32 := 512#32
  let c8_i32_658_r0 : BitVec 32 := 8#32
  let c0_i32_236_r0 : BitVec 32 := 0#32
  let v230_r0 : BitVec 32 := Scalar.addi arg42_r0 c0_i32_236_r0
  let v1097_r0 : BitVec 32 := Scalar.addi c8_i32_658_r0 v230_r0
  let v1099_r0 : BitVec 32 := Scalar.muli c512_i32_660_r0 v1097_r0
  let c0_i32_665_r0 : BitVec 32 := 0#32
  ![v1098_r0.toNat, v1099_r0.toNat, 0]
def k0_off28 (arg16_r0 : BitVec 32) : Fin 1 → Nat :=
  let c2_i32_661_r0 : BitVec 32 := 2#32
  let v1100_r0 : BitVec 32 := Scalar.remui arg16_r0 c2_i32_661_r0
  ![v1100_r0.toNat]
def k0_cond8 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let v239_r0 : BitVec 32 := Scalar.addi v238_r0 v1
  let v441_r0 : BitVec 1 := Scalar.cmpi .ne v229_r0 v239_r0
  let c12_i32_285_r0 : BitVec 32 := 12#32
  let c0_i32_236_r0 : BitVec 32 := 0#32
  let v230_r0 : BitVec 32 := Scalar.addi arg42_r0 c0_i32_236_r0
  let v303_r0 : BitVec 32 := Scalar.addi c12_i32_285_r0 v230_r0
  let c12_i32_350_r0 : BitVec 32 := 12#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v440_r0 : BitVec 32 := Scalar.addi c12_i32_350_r0 v240_r0
  let v442_r0 : BitVec 1 := Scalar.cmpi .ne v303_r0 v440_r0
  let v443_r0 : BitVec 1 := Scalar.ori v441_r0 v442_r0
  let c0_i32_106_r0 : BitVec 32 := 0#32
  let c1_i32_107_r0 : BitVec 32 := 1#32
  let arg8_r0 : BitVec 32 := Scf.iv c0_i32_106_r0 c1_i32_107_r0 k0_t1
  let c0_i32_235_r0 : BitVec 32 := 0#32
  let v227_r0 : BitVec 1 := Scalar.cmpi .eq arg8_r0 c0_i32_235_r0
  let v444_r0 : BitVec 1 := Scalar.ori v443_r0 v227_r0
  let c0_i32_351_r0 : BitVec 32 := 0#32
  let v445_r0 : BitVec 1 := Scalar.cmpi .sge arg8_r0 c0_i32_351_r0
  let v446_r0 : BitVec 1 := Scalar.andi v444_r0 v445_r0
  let v447_r0 : BitVec 32 := Scalar.extui v446_r0
  let c0_i32_352_r0 : BitVec 32 := 0#32
  let v448_r0 : BitVec 1 := Scalar.cmpi .ne v447_r0 c0_i32_352_r0
  v448_r0

def k0_off29 (arg16_r0 : BitVec 32) : Fin 4 → Nat :=
  let c2_i32_661_r0 : BitVec 32 := 2#32
  let v1100_r0 : BitVec 32 := Scalar.remui arg16_r0 c2_i32_661_r0
  let c0_i32_662_r0 : BitVec 32 := 0#32
  let c0_i32_663_r0 : BitVec 32 := 0#32
  let c0_i32_664_r0 : BitVec 32 := 0#32
  ![v1100_r0.toNat, 0, 0, 0]
def k0_off30 (i : grid0.Coords) (arg41_r0 : BitVec 32) (arg42_r0 : BitVec 32) : Fin 3 → Nat :=
  let c1_i32_659_r0 : BitVec 32 := 1#32
  let arg0 : BitVec 32 := BitVec.ofNat 32 (i 0).val
  let c2_i32 : BitVec 32 := 2#32
  let v1 : BitVec 32 := Scalar.muli arg0 c2_i32
  let v229_r0 : BitVec 32 := Scalar.addi arg41_r0 v1
  let v1098_r0 : BitVec 32 := Scalar.muli c1_i32_659_r0 v229_r0
  let c512_i32_660_r0 : BitVec 32 := 512#32
  let c12_i32_658_r0 : BitVec 32 := 12#32
  let c0_i32_236_r0 : BitVec 32 := 0#32
  let v230_r0 : BitVec 32 := Scalar.addi arg42_r0 c0_i32_236_r0
  let v1097_r0 : BitVec 32 := Scalar.addi c12_i32_658_r0 v230_r0
  let v1099_r0 : BitVec 32 := Scalar.muli c512_i32_660_r0 v1097_r0
  let c0_i32_665_r0 : BitVec 32 := 0#32
  ![v1098_r0.toNat, v1099_r0.toNat, 0]
def k0_off31 (arg10_r0 : BitVec 32) : Fin 4 → Nat :=
  let c2_i32_389_r0 : BitVec 32 := 2#32
  let v557_r0 : BitVec 32 := Scalar.remui arg10_r0 c2_i32_389_r0
  let c0_i32_405_r0 : BitVec 32 := 0#32
  let c0_i32_406_r0 : BitVec 32 := 0#32
  let c0_i32_407_r0 : BitVec 32 := 0#32
  ![v557_r0.toNat, 0, 0, 0]

def k0_chk2 (arg10_r0 : BitVec 32) : Prop :=
  (∀ a, (k0_off31 arg10_r0) a + S1x1x512x1024.size a ≤ S2x1x512x1024.size a)
theorem k0_off31_inb : ∀ (arg10_r0 : BitVec 32) (k0_hw2 : k0_chk2 arg10_r0), ∀ a, (k0_off31 arg10_r0) a + S1x1x512x1024.size a ≤ S2x1x512x1024.size a := fun arg10_r0 k0_hw2 => k0_hw2

def k0_off32 (arg17_r0 : BitVec 32) : Fin 4 → Nat :=
  let c2_i32_393_r0 : BitVec 32 := 2#32
  let v561_r0 : BitVec 32 := Scalar.remui arg17_r0 c2_i32_393_r0
  let c0_i32_411_r0 : BitVec 32 := 0#32
  let c0_i32_412_r0 : BitVec 32 := 0#32
  let c0_i32_413_r0 : BitVec 32 := 0#32
  ![v561_r0.toNat, 0, 0, 0]

def k0_chk3 (arg17_r0 : BitVec 32) : Prop :=
  (∀ a, (k0_off32 arg17_r0) a + S1x1x8x512.size a ≤ S2x1x8x512.size a)
theorem k0_off32_inb : ∀ (arg17_r0 : BitVec 32) (k0_hw3 : k0_chk3 arg17_r0), ∀ a, (k0_off32 arg17_r0) a + S1x1x8x512.size a ≤ S2x1x8x512.size a := fun arg17_r0 k0_hw3 => k0_hw3

def k0_off33 (arg25_r0 : BitVec 32) : Fin 4 → Nat :=
  let c2_i32_397_r0 : BitVec 32 := 2#32
  let v565_r0 : BitVec 32 := Scalar.remui arg25_r0 c2_i32_397_r0
  let c0_i32_427_r0 : BitVec 32 := 0#32
  let c0_i32_428_r0 : BitVec 32 := 0#32
  let c0_i32_429_r0 : BitVec 32 := 0#32
  ![v565_r0.toNat, 0, 0, 0]

def k0_chk4 (arg25_r0 : BitVec 32) : Prop :=
  (∀ a, (k0_off33 arg25_r0) a + S1x1x2x512.size a ≤ S2x1x2x512.size a)
theorem k0_off33_inb : ∀ (arg25_r0 : BitVec 32) (k0_hw4 : k0_chk4 arg25_r0), ∀ a, (k0_off33 arg25_r0) a + S1x1x2x512.size a ≤ S2x1x2x512.size a := fun arg25_r0 k0_hw4 => k0_hw4

def k0_off34 (arg33_r0 : BitVec 32) : Fin 4 → Nat :=
  let c2_i32_401_r0 : BitVec 32 := 2#32
  let v569_r0 : BitVec 32 := Scalar.remui arg33_r0 c2_i32_401_r0
  let c0_i32_433_r0 : BitVec 32 := 0#32
  let c0_i32_434_r0 : BitVec 32 := 0#32
  let c0_i32_435_r0 : BitVec 32 := 0#32
  ![v569_r0.toNat, 0, 0, 0]

def k0_chk5 (arg33_r0 : BitVec 32) : Prop :=
  (∀ a, (k0_off34 arg33_r0) a + S1x1x2x512.size a ≤ S2x1x2x512.size a)
theorem k0_off34_inb : ∀ (arg33_r0 : BitVec 32) (k0_hw5 : k0_chk5 arg33_r0), ∀ a, (k0_off34 arg33_r0) a + S1x1x2x512.size a ≤ S2x1x2x512.size a := fun arg33_r0 k0_hw5 => k0_hw5

def k0_off35 (arg12_r0 : BitVec 32) : Fin 4 → Nat :=
  let c2_i32_390_r0 : BitVec 32 := 2#32
  let v558_r0 : BitVec 32 := Scalar.remui arg12_r0 c2_i32_390_r0
  let c0_i32_439_r0 : BitVec 32 := 0#32
  let c0_i32_440_r0 : BitVec 32 := 0#32
  let c0_i32_441_r0 : BitVec 32 := 0#32
  ![v558_r0.toNat, 0, 0, 0]

def k0_chk6 (arg12_r0 : BitVec 32) : Prop :=
  (∀ a, (k0_off35 arg12_r0) a + S1x1x512x1024.size a ≤ S2x1x512x1024.size a)
theorem k0_off35_inb : ∀ (arg12_r0 : BitVec 32) (k0_hw6 : k0_chk6 arg12_r0), ∀ a, (k0_off35 arg12_r0) a + S1x1x512x1024.size a ≤ S2x1x512x1024.size a := fun arg12_r0 k0_hw6 => k0_hw6

def k0_off36 (arg19_r0 : BitVec 32) : Fin 4 → Nat :=
  let c2_i32_394_r0 : BitVec 32 := 2#32
  let v562_r0 : BitVec 32 := Scalar.remui arg19_r0 c2_i32_394_r0
  let c0_i32_446_r0 : BitVec 32 := 0#32
  let c0_i32_447_r0 : BitVec 32 := 0#32
  let c0_i32_448_r0 : BitVec 32 := 0#32
  ![v562_r0.toNat, 0, 0, 0]

def k0_chk7 (arg19_r0 : BitVec 32) : Prop :=
  (∀ a, (k0_off36 arg19_r0) a + S1x1x8x512.size a ≤ S2x1x8x512.size a)
theorem k0_off36_inb : ∀ (arg19_r0 : BitVec 32) (k0_hw7 : k0_chk7 arg19_r0), ∀ a, (k0_off36 arg19_r0) a + S1x1x8x512.size a ≤ S2x1x8x512.size a := fun arg19_r0 k0_hw7 => k0_hw7

def k0_off37 (arg27_r0 : BitVec 32) : Fin 4 → Nat :=
  let c2_i32_398_r0 : BitVec 32 := 2#32
  let v566_r0 : BitVec 32 := Scalar.remui arg27_r0 c2_i32_398_r0
  let c0_i32_462_r0 : BitVec 32 := 0#32
  let c0_i32_463_r0 : BitVec 32 := 0#32
  let c0_i32_464_r0 : BitVec 32 := 0#32
  ![v566_r0.toNat, 0, 0, 0]

def k0_chk8 (arg27_r0 : BitVec 32) : Prop :=
  (∀ a, (k0_off37 arg27_r0) a + S1x1x2x512.size a ≤ S2x1x2x512.size a)
theorem k0_off37_inb : ∀ (arg27_r0 : BitVec 32) (k0_hw8 : k0_chk8 arg27_r0), ∀ a, (k0_off37 arg27_r0) a + S1x1x2x512.size a ≤ S2x1x2x512.size a := fun arg27_r0 k0_hw8 => k0_hw8

def k0_off38 (arg35_r0 : BitVec 32) : Fin 4 → Nat :=
  let c2_i32_402_r0 : BitVec 32 := 2#32
  let v570_r0 : BitVec 32 := Scalar.remui arg35_r0 c2_i32_402_r0
  let c0_i32_468_r0 : BitVec 32 := 0#32
  let c0_i32_469_r0 : BitVec 32 := 0#32
  let c0_i32_470_r0 : BitVec 32 := 0#32
  ![v570_r0.toNat, 0, 0, 0]

def k0_chk9 (arg35_r0 : BitVec 32) : Prop :=
  (∀ a, (k0_off38 arg35_r0) a + S1x1x2x512.size a ≤ S2x1x2x512.size a)
theorem k0_off38_inb : ∀ (arg35_r0 : BitVec 32) (k0_hw9 : k0_chk9 arg35_r0), ∀ a, (k0_off38 arg35_r0) a + S1x1x2x512.size a ≤ S2x1x2x512.size a := fun arg35_r0 k0_hw9 => k0_hw9

def k0_off39 (arg14_r0 : BitVec 32) : Fin 4 → Nat :=
  let c2_i32_391_r0 : BitVec 32 := 2#32
  let v559_r0 : BitVec 32 := Scalar.remui arg14_r0 c2_i32_391_r0
  let c0_i32_474_r0 : BitVec 32 := 0#32
  let c0_i32_475_r0 : BitVec 32 := 0#32
  let c0_i32_476_r0 : BitVec 32 := 0#32
  ![v559_r0.toNat, 0, 0, 0]

def k0_chk10 (arg14_r0 : BitVec 32) : Prop :=
  (∀ a, (k0_off39 arg14_r0) a + S1x1x512x1024.size a ≤ S2x1x512x1024.size a)
theorem k0_off39_inb : ∀ (arg14_r0 : BitVec 32) (k0_hw10 : k0_chk10 arg14_r0), ∀ a, (k0_off39 arg14_r0) a + S1x1x512x1024.size a ≤ S2x1x512x1024.size a := fun arg14_r0 k0_hw10 => k0_hw10

def k0_off40 (arg21_r0 : BitVec 32) : Fin 4 → Nat :=
  let c2_i32_395_r0 : BitVec 32 := 2#32
  let v563_r0 : BitVec 32 := Scalar.remui arg21_r0 c2_i32_395_r0
  let c0_i32_481_r0 : BitVec 32 := 0#32
  let c0_i32_482_r0 : BitVec 32 := 0#32
  let c0_i32_483_r0 : BitVec 32 := 0#32
  ![v563_r0.toNat, 0, 0, 0]

def k0_chk11 (arg21_r0 : BitVec 32) : Prop :=
  (∀ a, (k0_off40 arg21_r0) a + S1x1x8x512.size a ≤ S2x1x8x512.size a)
theorem k0_off40_inb : ∀ (arg21_r0 : BitVec 32) (k0_hw11 : k0_chk11 arg21_r0), ∀ a, (k0_off40 arg21_r0) a + S1x1x8x512.size a ≤ S2x1x8x512.size a := fun arg21_r0 k0_hw11 => k0_hw11

def k0_off41 (arg29_r0 : BitVec 32) : Fin 4 → Nat :=
  let c2_i32_399_r0 : BitVec 32 := 2#32
  let v567_r0 : BitVec 32 := Scalar.remui arg29_r0 c2_i32_399_r0
  let c0_i32_497_r0 : BitVec 32 := 0#32
  let c0_i32_498_r0 : BitVec 32 := 0#32
  let c0_i32_499_r0 : BitVec 32 := 0#32
  ![v567_r0.toNat, 0, 0, 0]

def k0_chk12 (arg29_r0 : BitVec 32) : Prop :=
  (∀ a, (k0_off41 arg29_r0) a + S1x1x2x512.size a ≤ S2x1x2x512.size a)
theorem k0_off41_inb : ∀ (arg29_r0 : BitVec 32) (k0_hw12 : k0_chk12 arg29_r0), ∀ a, (k0_off41 arg29_r0) a + S1x1x2x512.size a ≤ S2x1x2x512.size a := fun arg29_r0 k0_hw12 => k0_hw12

def k0_off42 (arg37_r0 : BitVec 32) : Fin 4 → Nat :=
  let c2_i32_403_r0 : BitVec 32 := 2#32
  let v571_r0 : BitVec 32 := Scalar.remui arg37_r0 c2_i32_403_r0
  let c0_i32_503_r0 : BitVec 32 := 0#32
  let c0_i32_504_r0 : BitVec 32 := 0#32
  let c0_i32_505_r0 : BitVec 32 := 0#32
  ![v571_r0.toNat, 0, 0, 0]

def k0_chk13 (arg37_r0 : BitVec 32) : Prop :=
  (∀ a, (k0_off42 arg37_r0) a + S1x1x2x512.size a ≤ S2x1x2x512.size a)
theorem k0_off42_inb : ∀ (arg37_r0 : BitVec 32) (k0_hw13 : k0_chk13 arg37_r0), ∀ a, (k0_off42 arg37_r0) a + S1x1x2x512.size a ≤ S2x1x2x512.size a := fun arg37_r0 k0_hw13 => k0_hw13

def k0_off43 (arg16_r0 : BitVec 32) : Fin 4 → Nat :=
  let c2_i32_392_r0 : BitVec 32 := 2#32
  let v560_r0 : BitVec 32 := Scalar.remui arg16_r0 c2_i32_392_r0
  let c0_i32_509_r0 : BitVec 32 := 0#32
  let c0_i32_510_r0 : BitVec 32 := 0#32
  let c0_i32_511_r0 : BitVec 32 := 0#32
  ![v560_r0.toNat, 0, 0, 0]

def k0_chk14 (arg16_r0 : BitVec 32) : Prop :=
  (∀ a, (k0_off43 arg16_r0) a + S1x1x512x1024.size a ≤ S2x1x512x1024.size a)
theorem k0_off43_inb : ∀ (arg16_r0 : BitVec 32) (k0_hw14 : k0_chk14 arg16_r0), ∀ a, (k0_off43 arg16_r0) a + S1x1x512x1024.size a ≤ S2x1x512x1024.size a := fun arg16_r0 k0_hw14 => k0_hw14

def k0_off44 (arg23_r0 : BitVec 32) : Fin 4 → Nat :=
  let c2_i32_396_r0 : BitVec 32 := 2#32
  let v564_r0 : BitVec 32 := Scalar.remui arg23_r0 c2_i32_396_r0
  let c0_i32_516_r0 : BitVec 32 := 0#32
  let c0_i32_517_r0 : BitVec 32 := 0#32
  let c0_i32_518_r0 : BitVec 32 := 0#32
  ![v564_r0.toNat, 0, 0, 0]

def k0_chk15 (arg23_r0 : BitVec 32) : Prop :=
  (∀ a, (k0_off44 arg23_r0) a + S1x1x8x512.size a ≤ S2x1x8x512.size a)
theorem k0_off44_inb : ∀ (arg23_r0 : BitVec 32) (k0_hw15 : k0_chk15 arg23_r0), ∀ a, (k0_off44 arg23_r0) a + S1x1x8x512.size a ≤ S2x1x8x512.size a := fun arg23_r0 k0_hw15 => k0_hw15

def k0_off45 (arg31_r0 : BitVec 32) : Fin 4 → Nat :=
  let c2_i32_400_r0 : BitVec 32 := 2#32
  let v568_r0 : BitVec 32 := Scalar.remui arg31_r0 c2_i32_400_r0
  let c0_i32_532_r0 : BitVec 32 := 0#32
  let c0_i32_533_r0 : BitVec 32 := 0#32
  let c0_i32_534_r0 : BitVec 32 := 0#32
  ![v568_r0.toNat, 0, 0, 0]

def k0_chk16 (arg31_r0 : BitVec 32) : Prop :=
  (∀ a, (k0_off45 arg31_r0) a + S1x1x2x512.size a ≤ S2x1x2x512.size a)
theorem k0_off45_inb : ∀ (arg31_r0 : BitVec 32) (k0_hw16 : k0_chk16 arg31_r0), ∀ a, (k0_off45 arg31_r0) a + S1x1x2x512.size a ≤ S2x1x2x512.size a := fun arg31_r0 k0_hw16 => k0_hw16

def k0_off46 (arg39_r0 : BitVec 32) : Fin 4 → Nat :=
  let c2_i32_404_r0 : BitVec 32 := 2#32
  let v572_r0 : BitVec 32 := Scalar.remui arg39_r0 c2_i32_404_r0
  let c0_i32_538_r0 : BitVec 32 := 0#32
  let c0_i32_539_r0 : BitVec 32 := 0#32
  let c0_i32_540_r0 : BitVec 32 := 0#32
  ![v572_r0.toNat, 0, 0, 0]

def k0_chk17 (arg39_r0 : BitVec 32) : Prop :=
  (∀ a, (k0_off46 arg39_r0) a + S1x1x2x512.size a ≤ S2x1x2x512.size a)
theorem k0_off46_inb : ∀ (arg39_r0 : BitVec 32) (k0_hw17 : k0_chk17 arg39_r0), ∀ a, (k0_off46 arg39_r0) a + S1x1x2x512.size a ≤ S2x1x2x512.size a := fun arg39_r0 k0_hw17 => k0_hw17

def k0_off47 (arg17_r0 : BitVec 32) : Fin 1 → Nat :=
  let c2_i32_658_r0 : BitVec 32 := 2#32
  let v1097_r0 : BitVec 32 := Scalar.remui arg17_r0 c2_i32_658_r0
  ![v1097_r0.toNat]
def k0_cond25 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let v249_r0 : BitVec 32 := Scalar.addi v248_r0 v1
  let v805_r0 : BitVec 1 := Scalar.cmpi .ne v229_r0 v249_r0
  let c0_i32_293_r0 : BitVec 32 := 0#32
  let c0_i32_236_r0 : BitVec 32 := 0#32
  let v230_r0 : BitVec 32 := Scalar.addi arg42_r0 c0_i32_236_r0
  let v317_r0 : BitVec 32 := Scalar.addi c0_i32_293_r0 v230_r0
  let c0_i32_294_r0 : BitVec 32 := 0#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v318_r0 : BitVec 32 := Scalar.addi c0_i32_294_r0 v250_r0
  let v806_r0 : BitVec 1 := Scalar.cmpi .ne v317_r0 v318_r0
  let v807_r0 : BitVec 1 := Scalar.ori v805_r0 v806_r0
  let c0_i32_106_r0 : BitVec 32 := 0#32
  let c1_i32_107_r0 : BitVec 32 := 1#32
  let arg8_r0 : BitVec 32 := Scf.iv c0_i32_106_r0 c1_i32_107_r0 k0_t1
  let c7_i32_r0 : BitVec 32 := 7#32
  let v228_r0 : BitVec 1 := Scalar.cmpi .eq arg8_r0 c7_i32_r0
  let v808_r0 : BitVec 1 := Scalar.ori v807_r0 v228_r0
  let v809_r0 : BitVec 32 := Scalar.extui v808_r0
  let c0_i32_551_r0 : BitVec 32 := 0#32
  let v810_r0 : BitVec 1 := Scalar.cmpi .ne v809_r0 c0_i32_551_r0
  v810_r0

def k0_off48 (i : grid0.Coords) (arg41_r0 : BitVec 32) (arg42_r0 : BitVec 32) : Fin 3 → Nat :=
  let c1_i32_660_r0 : BitVec 32 := 1#32
  let arg0 : BitVec 32 := BitVec.ofNat 32 (i 0).val
  let c2_i32 : BitVec 32 := 2#32
  let v1 : BitVec 32 := Scalar.muli arg0 c2_i32
  let v229_r0 : BitVec 32 := Scalar.addi arg41_r0 v1
  let v1099_r0 : BitVec 32 := Scalar.muli c1_i32_660_r0 v229_r0
  let c0_i32_662_r0 : BitVec 32 := 0#32
  let c512_i32_661_r0 : BitVec 32 := 512#32
  let c0_i32_659_r0 : BitVec 32 := 0#32
  let c0_i32_236_r0 : BitVec 32 := 0#32
  let v230_r0 : BitVec 32 := Scalar.addi arg42_r0 c0_i32_236_r0
  let v1098_r0 : BitVec 32 := Scalar.addi c0_i32_659_r0 v230_r0
  let v1100_r0 : BitVec 32 := Scalar.muli c512_i32_661_r0 v1098_r0
  ![v1099_r0.toNat, 0, v1100_r0.toNat]
def k0_off49 (arg17_r0 : BitVec 32) : Fin 4 → Nat :=
  let c2_i32_658_r0 : BitVec 32 := 2#32
  let v1097_r0 : BitVec 32 := Scalar.remui arg17_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off50 (arg19_r0 : BitVec 32) : Fin 1 → Nat :=
  let c2_i32_658_r0 : BitVec 32 := 2#32
  let v1097_r0 : BitVec 32 := Scalar.remui arg19_r0 c2_i32_658_r0
  ![v1097_r0.toNat]
def k0_cond26 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let v249_r0 : BitVec 32 := Scalar.addi v248_r0 v1
  let v814_r0 : BitVec 1 := Scalar.cmpi .ne v229_r0 v249_r0
  let c4_i32_297_r0 : BitVec 32 := 4#32
  let c0_i32_236_r0 : BitVec 32 := 0#32
  let v230_r0 : BitVec 32 := Scalar.addi arg42_r0 c0_i32_236_r0
  let v325_r0 : BitVec 32 := Scalar.addi c4_i32_297_r0 v230_r0
  let c4_i32_298_r0 : BitVec 32 := 4#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v326_r0 : BitVec 32 := Scalar.addi c4_i32_298_r0 v250_r0
  let v815_r0 : BitVec 1 := Scalar.cmpi .ne v325_r0 v326_r0
  let v816_r0 : BitVec 1 := Scalar.ori v814_r0 v815_r0
  let c0_i32_106_r0 : BitVec 32 := 0#32
  let c1_i32_107_r0 : BitVec 32 := 1#32
  let arg8_r0 : BitVec 32 := Scf.iv c0_i32_106_r0 c1_i32_107_r0 k0_t1
  let c7_i32_r0 : BitVec 32 := 7#32
  let v228_r0 : BitVec 1 := Scalar.cmpi .eq arg8_r0 c7_i32_r0
  let v817_r0 : BitVec 1 := Scalar.ori v816_r0 v228_r0
  let v818_r0 : BitVec 32 := Scalar.extui v817_r0
  let c0_i32_554_r0 : BitVec 32 := 0#32
  let v819_r0 : BitVec 1 := Scalar.cmpi .ne v818_r0 c0_i32_554_r0
  v819_r0

def k0_off51 (i : grid0.Coords) (arg41_r0 : BitVec 32) (arg42_r0 : BitVec 32) : Fin 3 → Nat :=
  let c1_i32_660_r0 : BitVec 32 := 1#32
  let arg0 : BitVec 32 := BitVec.ofNat 32 (i 0).val
  let c2_i32 : BitVec 32 := 2#32
  let v1 : BitVec 32 := Scalar.muli arg0 c2_i32
  let v229_r0 : BitVec 32 := Scalar.addi arg41_r0 v1
  let v1099_r0 : BitVec 32 := Scalar.muli c1_i32_660_r0 v229_r0
  let c0_i32_662_r0 : BitVec 32 := 0#32
  let c512_i32_661_r0 : BitVec 32 := 512#32
  let c4_i32_659_r0 : BitVec 32 := 4#32
  let c0_i32_236_r0 : BitVec 32 := 0#32
  let v230_r0 : BitVec 32 := Scalar.addi arg42_r0 c0_i32_236_r0
  let v1098_r0 : BitVec 32 := Scalar.addi c4_i32_659_r0 v230_r0
  let v1100_r0 : BitVec 32 := Scalar.muli c512_i32_661_r0 v1098_r0
  ![v1099_r0.toNat, 0, v1100_r0.toNat]
def k0_off52 (arg19_r0 : BitVec 32) : Fin 4 → Nat :=
  let c2_i32_658_r0 : BitVec 32 := 2#32
  let v1097_r0 : BitVec 32 := Scalar.remui arg19_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off53 (arg21_r0 : BitVec 32) : Fin 1 → Nat :=
  let c2_i32_658_r0 : BitVec 32 := 2#32
  let v1097_r0 : BitVec 32 := Scalar.remui arg21_r0 c2_i32_658_r0
  ![v1097_r0.toNat]
def k0_cond27 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let v249_r0 : BitVec 32 := Scalar.addi v248_r0 v1
  let v823_r0 : BitVec 1 := Scalar.cmpi .ne v229_r0 v249_r0
  let c8_i32_301_r0 : BitVec 32 := 8#32
  let c0_i32_236_r0 : BitVec 32 := 0#32
  let v230_r0 : BitVec 32 := Scalar.addi arg42_r0 c0_i32_236_r0
  let v333_r0 : BitVec 32 := Scalar.addi c8_i32_301_r0 v230_r0
  let c8_i32_302_r0 : BitVec 32 := 8#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v334_r0 : BitVec 32 := Scalar.addi c8_i32_302_r0 v250_r0
  let v824_r0 : BitVec 1 := Scalar.cmpi .ne v333_r0 v334_r0
  let v825_r0 : BitVec 1 := Scalar.ori v823_r0 v824_r0
  let c0_i32_106_r0 : BitVec 32 := 0#32
  let c1_i32_107_r0 : BitVec 32 := 1#32
  let arg8_r0 : BitVec 32 := Scf.iv c0_i32_106_r0 c1_i32_107_r0 k0_t1
  let c7_i32_r0 : BitVec 32 := 7#32
  let v228_r0 : BitVec 1 := Scalar.cmpi .eq arg8_r0 c7_i32_r0
  let v826_r0 : BitVec 1 := Scalar.ori v825_r0 v228_r0
  let v827_r0 : BitVec 32 := Scalar.extui v826_r0
  let c0_i32_557_r0 : BitVec 32 := 0#32
  let v828_r0 : BitVec 1 := Scalar.cmpi .ne v827_r0 c0_i32_557_r0
  v828_r0

def k0_off54 (i : grid0.Coords) (arg41_r0 : BitVec 32) (arg42_r0 : BitVec 32) : Fin 3 → Nat :=
  let c1_i32_660_r0 : BitVec 32 := 1#32
  let arg0 : BitVec 32 := BitVec.ofNat 32 (i 0).val
  let c2_i32 : BitVec 32 := 2#32
  let v1 : BitVec 32 := Scalar.muli arg0 c2_i32
  let v229_r0 : BitVec 32 := Scalar.addi arg41_r0 v1
  let v1099_r0 : BitVec 32 := Scalar.muli c1_i32_660_r0 v229_r0
  let c0_i32_662_r0 : BitVec 32 := 0#32
  let c512_i32_661_r0 : BitVec 32 := 512#32
  let c8_i32_659_r0 : BitVec 32 := 8#32
  let c0_i32_236_r0 : BitVec 32 := 0#32
  let v230_r0 : BitVec 32 := Scalar.addi arg42_r0 c0_i32_236_r0
  let v1098_r0 : BitVec 32 := Scalar.addi c8_i32_659_r0 v230_r0
  let v1100_r0 : BitVec 32 := Scalar.muli c512_i32_661_r0 v1098_r0
  ![v1099_r0.toNat, 0, v1100_r0.toNat]
def k0_off55 (arg21_r0 : BitVec 32) : Fin 4 → Nat :=
  let c2_i32_658_r0 : BitVec 32 := 2#32
  let v1097_r0 : BitVec 32 := Scalar.remui arg21_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off56 (arg23_r0 : BitVec 32) : Fin 1 → Nat :=
  let c2_i32_658_r0 : BitVec 32 := 2#32
  let v1097_r0 : BitVec 32 := Scalar.remui arg23_r0 c2_i32_658_r0
  ![v1097_r0.toNat]
def k0_cond28 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let v249_r0 : BitVec 32 := Scalar.addi v248_r0 v1
  let v832_r0 : BitVec 1 := Scalar.cmpi .ne v229_r0 v249_r0
  let c12_i32_305_r0 : BitVec 32 := 12#32
  let c0_i32_236_r0 : BitVec 32 := 0#32
  let v230_r0 : BitVec 32 := Scalar.addi arg42_r0 c0_i32_236_r0
  let v341_r0 : BitVec 32 := Scalar.addi c12_i32_305_r0 v230_r0
  let c12_i32_306_r0 : BitVec 32 := 12#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v342_r0 : BitVec 32 := Scalar.addi c12_i32_306_r0 v250_r0
  let v833_r0 : BitVec 1 := Scalar.cmpi .ne v341_r0 v342_r0
  let v834_r0 : BitVec 1 := Scalar.ori v832_r0 v833_r0
  let c0_i32_106_r0 : BitVec 32 := 0#32
  let c1_i32_107_r0 : BitVec 32 := 1#32
  let arg8_r0 : BitVec 32 := Scf.iv c0_i32_106_r0 c1_i32_107_r0 k0_t1
  let c7_i32_r0 : BitVec 32 := 7#32
  let v228_r0 : BitVec 1 := Scalar.cmpi .eq arg8_r0 c7_i32_r0
  let v835_r0 : BitVec 1 := Scalar.ori v834_r0 v228_r0
  let v836_r0 : BitVec 32 := Scalar.extui v835_r0
  let c0_i32_560_r0 : BitVec 32 := 0#32
  let v837_r0 : BitVec 1 := Scalar.cmpi .ne v836_r0 c0_i32_560_r0
  v837_r0

def k0_off57 (i : grid0.Coords) (arg41_r0 : BitVec 32) (arg42_r0 : BitVec 32) : Fin 3 → Nat :=
  let c1_i32_660_r0 : BitVec 32 := 1#32
  let arg0 : BitVec 32 := BitVec.ofNat 32 (i 0).val
  let c2_i32 : BitVec 32 := 2#32
  let v1 : BitVec 32 := Scalar.muli arg0 c2_i32
  let v229_r0 : BitVec 32 := Scalar.addi arg41_r0 v1
  let v1099_r0 : BitVec 32 := Scalar.muli c1_i32_660_r0 v229_r0
  let c0_i32_662_r0 : BitVec 32 := 0#32
  let c512_i32_661_r0 : BitVec 32 := 512#32
  let c12_i32_659_r0 : BitVec 32 := 12#32
  let c0_i32_236_r0 : BitVec 32 := 0#32
  let v230_r0 : BitVec 32 := Scalar.addi arg42_r0 c0_i32_236_r0
  let v1098_r0 : BitVec 32 := Scalar.addi c12_i32_659_r0 v230_r0
  let v1100_r0 : BitVec 32 := Scalar.muli c512_i32_661_r0 v1098_r0
  ![v1099_r0.toNat, 0, v1100_r0.toNat]
def k0_off58 (arg23_r0 : BitVec 32) : Fin 4 → Nat :=
  let c2_i32_658_r0 : BitVec 32 := 2#32
  let v1097_r0 : BitVec 32 := Scalar.remui arg23_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off59 (arg25_r0 : BitVec 32) : Fin 1 → Nat :=
  let c2_i32_658_r0 : BitVec 32 := 2#32
  let v1097_r0 : BitVec 32 := Scalar.remui arg25_r0 c2_i32_658_r0
  ![v1097_r0.toNat]
def k0_cond29 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let v249_r0 : BitVec 32 := Scalar.addi v248_r0 v1
  let v841_r0 : BitVec 1 := Scalar.cmpi .ne v229_r0 v249_r0
  let c0_i32_309_r0 : BitVec 32 := 0#32
  let c0_i32_236_r0 : BitVec 32 := 0#32
  let v230_r0 : BitVec 32 := Scalar.addi arg42_r0 c0_i32_236_r0
  let v349_r0 : BitVec 32 := Scalar.addi c0_i32_309_r0 v230_r0
  let c0_i32_310_r0 : BitVec 32 := 0#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v350_r0 : BitVec 32 := Scalar.addi c0_i32_310_r0 v250_r0
  let v842_r0 : BitVec 1 := Scalar.cmpi .ne v349_r0 v350_r0
  let v843_r0 : BitVec 1 := Scalar.ori v841_r0 v842_r0
  let c0_i32_106_r0 : BitVec 32 := 0#32
  let c1_i32_107_r0 : BitVec 32 := 1#32
  let arg8_r0 : BitVec 32 := Scf.iv c0_i32_106_r0 c1_i32_107_r0 k0_t1
  let c7_i32_r0 : BitVec 32 := 7#32
  let v228_r0 : BitVec 1 := Scalar.cmpi .eq arg8_r0 c7_i32_r0
  let v844_r0 : BitVec 1 := Scalar.ori v843_r0 v228_r0
  let v845_r0 : BitVec 32 := Scalar.extui v844_r0
  let c0_i32_563_r0 : BitVec 32 := 0#32
  let v846_r0 : BitVec 1 := Scalar.cmpi .ne v845_r0 c0_i32_563_r0
  v846_r0

def k0_off60 (i : grid0.Coords) (arg41_r0 : BitVec 32) (arg42_r0 : BitVec 32) : Fin 3 → Nat :=
  let c1_i32_660_r0 : BitVec 32 := 1#32
  let arg0 : BitVec 32 := BitVec.ofNat 32 (i 0).val
  let c2_i32 : BitVec 32 := 2#32
  let v1 : BitVec 32 := Scalar.muli arg0 c2_i32
  let v229_r0 : BitVec 32 := Scalar.addi arg41_r0 v1
  let v1099_r0 : BitVec 32 := Scalar.muli c1_i32_660_r0 v229_r0
  let c0_i32_662_r0 : BitVec 32 := 0#32
  let c512_i32_661_r0 : BitVec 32 := 512#32
  let c0_i32_659_r0 : BitVec 32 := 0#32
  let c0_i32_236_r0 : BitVec 32 := 0#32
  let v230_r0 : BitVec 32 := Scalar.addi arg42_r0 c0_i32_236_r0
  let v1098_r0 : BitVec 32 := Scalar.addi c0_i32_659_r0 v230_r0
  let v1100_r0 : BitVec 32 := Scalar.muli c512_i32_661_r0 v1098_r0
  ![v1099_r0.toNat, 0, v1100_r0.toNat]
def k0_off61 (arg25_r0 : BitVec 32) : Fin 4 → Nat :=
  let c2_i32_658_r0 : BitVec 32 := 2#32
  let v1097_r0 : BitVec 32 := Scalar.remui arg25_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off62 (arg27_r0 : BitVec 32) : Fin 1 → Nat :=
  let c2_i32_658_r0 : BitVec 32 := 2#32
  let v1097_r0 : BitVec 32 := Scalar.remui arg27_r0 c2_i32_658_r0
  ![v1097_r0.toNat]
def k0_cond30 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let v249_r0 : BitVec 32 := Scalar.addi v248_r0 v1
  let v850_r0 : BitVec 1 := Scalar.cmpi .ne v229_r0 v249_r0
  let c4_i32_313_r0 : BitVec 32 := 4#32
  let c0_i32_236_r0 : BitVec 32 := 0#32
  let v230_r0 : BitVec 32 := Scalar.addi arg42_r0 c0_i32_236_r0
  let v357_r0 : BitVec 32 := Scalar.addi c4_i32_313_r0 v230_r0
  let c4_i32_314_r0 : BitVec 32 := 4#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v358_r0 : BitVec 32 := Scalar.addi c4_i32_314_r0 v250_r0
  let v851_r0 : BitVec 1 := Scalar.cmpi .ne v357_r0 v358_r0
  let v852_r0 : BitVec 1 := Scalar.ori v850_r0 v851_r0
  let c0_i32_106_r0 : BitVec 32 := 0#32
  let c1_i32_107_r0 : BitVec 32 := 1#32
  let arg8_r0 : BitVec 32 := Scf.iv c0_i32_106_r0 c1_i32_107_r0 k0_t1
  let c7_i32_r0 : BitVec 32 := 7#32
  let v228_r0 : BitVec 1 := Scalar.cmpi .eq arg8_r0 c7_i32_r0
  let v853_r0 : BitVec 1 := Scalar.ori v852_r0 v228_r0
  let v854_r0 : BitVec 32 := Scalar.extui v853_r0
  let c0_i32_566_r0 : BitVec 32 := 0#32
  let v855_r0 : BitVec 1 := Scalar.cmpi .ne v854_r0 c0_i32_566_r0
  v855_r0

def k0_off63 (i : grid0.Coords) (arg41_r0 : BitVec 32) (arg42_r0 : BitVec 32) : Fin 3 → Nat :=
  let c1_i32_660_r0 : BitVec 32 := 1#32
  let arg0 : BitVec 32 := BitVec.ofNat 32 (i 0).val
  let c2_i32 : BitVec 32 := 2#32
  let v1 : BitVec 32 := Scalar.muli arg0 c2_i32
  let v229_r0 : BitVec 32 := Scalar.addi arg41_r0 v1
  let v1099_r0 : BitVec 32 := Scalar.muli c1_i32_660_r0 v229_r0
  let c0_i32_662_r0 : BitVec 32 := 0#32
  let c512_i32_661_r0 : BitVec 32 := 512#32
  let c4_i32_659_r0 : BitVec 32 := 4#32
  let c0_i32_236_r0 : BitVec 32 := 0#32
  let v230_r0 : BitVec 32 := Scalar.addi arg42_r0 c0_i32_236_r0
  let v1098_r0 : BitVec 32 := Scalar.addi c4_i32_659_r0 v230_r0
  let v1100_r0 : BitVec 32 := Scalar.muli c512_i32_661_r0 v1098_r0
  ![v1099_r0.toNat, 0, v1100_r0.toNat]
def k0_off64 (arg27_r0 : BitVec 32) : Fin 4 → Nat :=
  let c2_i32_658_r0 : BitVec 32 := 2#32
  let v1097_r0 : BitVec 32 := Scalar.remui arg27_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off65 (arg29_r0 : BitVec 32) : Fin 1 → Nat :=
  let c2_i32_658_r0 : BitVec 32 := 2#32
  let v1097_r0 : BitVec 32 := Scalar.remui arg29_r0 c2_i32_658_r0
  ![v1097_r0.toNat]
def k0_cond31 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let v249_r0 : BitVec 32 := Scalar.addi v248_r0 v1
  let v859_r0 : BitVec 1 := Scalar.cmpi .ne v229_r0 v249_r0
  let c8_i32_317_r0 : BitVec 32 := 8#32
  let c0_i32_236_r0 : BitVec 32 := 0#32
  let v230_r0 : BitVec 32 := Scalar.addi arg42_r0 c0_i32_236_r0
  let v365_r0 : BitVec 32 := Scalar.addi c8_i32_317_r0 v230_r0
  let c8_i32_318_r0 : BitVec 32 := 8#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v366_r0 : BitVec 32 := Scalar.addi c8_i32_318_r0 v250_r0
  let v860_r0 : BitVec 1 := Scalar.cmpi .ne v365_r0 v366_r0
  let v861_r0 : BitVec 1 := Scalar.ori v859_r0 v860_r0
  let c0_i32_106_r0 : BitVec 32 := 0#32
  let c1_i32_107_r0 : BitVec 32 := 1#32
  let arg8_r0 : BitVec 32 := Scf.iv c0_i32_106_r0 c1_i32_107_r0 k0_t1
  let c7_i32_r0 : BitVec 32 := 7#32
  let v228_r0 : BitVec 1 := Scalar.cmpi .eq arg8_r0 c7_i32_r0
  let v862_r0 : BitVec 1 := Scalar.ori v861_r0 v228_r0
  let v863_r0 : BitVec 32 := Scalar.extui v862_r0
  let c0_i32_569_r0 : BitVec 32 := 0#32
  let v864_r0 : BitVec 1 := Scalar.cmpi .ne v863_r0 c0_i32_569_r0
  v864_r0

def k0_off66 (i : grid0.Coords) (arg41_r0 : BitVec 32) (arg42_r0 : BitVec 32) : Fin 3 → Nat :=
  let c1_i32_660_r0 : BitVec 32 := 1#32
  let arg0 : BitVec 32 := BitVec.ofNat 32 (i 0).val
  let c2_i32 : BitVec 32 := 2#32
  let v1 : BitVec 32 := Scalar.muli arg0 c2_i32
  let v229_r0 : BitVec 32 := Scalar.addi arg41_r0 v1
  let v1099_r0 : BitVec 32 := Scalar.muli c1_i32_660_r0 v229_r0
  let c0_i32_662_r0 : BitVec 32 := 0#32
  let c512_i32_661_r0 : BitVec 32 := 512#32
  let c8_i32_659_r0 : BitVec 32 := 8#32
  let c0_i32_236_r0 : BitVec 32 := 0#32
  let v230_r0 : BitVec 32 := Scalar.addi arg42_r0 c0_i32_236_r0
  let v1098_r0 : BitVec 32 := Scalar.addi c8_i32_659_r0 v230_r0
  let v1100_r0 : BitVec 32 := Scalar.muli c512_i32_661_r0 v1098_r0
  ![v1099_r0.toNat, 0, v1100_r0.toNat]
def k0_off67 (arg29_r0 : BitVec 32) : Fin 4 → Nat :=
  let c2_i32_658_r0 : BitVec 32 := 2#32
  let v1097_r0 : BitVec 32 := Scalar.remui arg29_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off68 (arg31_r0 : BitVec 32) : Fin 1 → Nat :=
  let c2_i32_658_r0 : BitVec 32 := 2#32
  let v1097_r0 : BitVec 32 := Scalar.remui arg31_r0 c2_i32_658_r0
  ![v1097_r0.toNat]
def k0_cond32 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let v249_r0 : BitVec 32 := Scalar.addi v248_r0 v1
  let v868_r0 : BitVec 1 := Scalar.cmpi .ne v229_r0 v249_r0
  let c12_i32_321_r0 : BitVec 32 := 12#32
  let c0_i32_236_r0 : BitVec 32 := 0#32
  let v230_r0 : BitVec 32 := Scalar.addi arg42_r0 c0_i32_236_r0
  let v373_r0 : BitVec 32 := Scalar.addi c12_i32_321_r0 v230_r0
  let c12_i32_322_r0 : BitVec 32 := 12#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v374_r0 : BitVec 32 := Scalar.addi c12_i32_322_r0 v250_r0
  let v869_r0 : BitVec 1 := Scalar.cmpi .ne v373_r0 v374_r0
  let v870_r0 : BitVec 1 := Scalar.ori v868_r0 v869_r0
  let c0_i32_106_r0 : BitVec 32 := 0#32
  let c1_i32_107_r0 : BitVec 32 := 1#32
  let arg8_r0 : BitVec 32 := Scf.iv c0_i32_106_r0 c1_i32_107_r0 k0_t1
  let c7_i32_r0 : BitVec 32 := 7#32
  let v228_r0 : BitVec 1 := Scalar.cmpi .eq arg8_r0 c7_i32_r0
  let v871_r0 : BitVec 1 := Scalar.ori v870_r0 v228_r0
  let v872_r0 : BitVec 32 := Scalar.extui v871_r0
  let c0_i32_572_r0 : BitVec 32 := 0#32
  let v873_r0 : BitVec 1 := Scalar.cmpi .ne v872_r0 c0_i32_572_r0
  v873_r0

def k0_off69 (i : grid0.Coords) (arg41_r0 : BitVec 32) (arg42_r0 : BitVec 32) : Fin 3 → Nat :=
  let c1_i32_660_r0 : BitVec 32 := 1#32
  let arg0 : BitVec 32 := BitVec.ofNat 32 (i 0).val
  let c2_i32 : BitVec 32 := 2#32
  let v1 : BitVec 32 := Scalar.muli arg0 c2_i32
  let v229_r0 : BitVec 32 := Scalar.addi arg41_r0 v1
  let v1099_r0 : BitVec 32 := Scalar.muli c1_i32_660_r0 v229_r0
  let c0_i32_662_r0 : BitVec 32 := 0#32
  let c512_i32_661_r0 : BitVec 32 := 512#32
  let c12_i32_659_r0 : BitVec 32 := 12#32
  let c0_i32_236_r0 : BitVec 32 := 0#32
  let v230_r0 : BitVec 32 := Scalar.addi arg42_r0 c0_i32_236_r0
  let v1098_r0 : BitVec 32 := Scalar.addi c12_i32_659_r0 v230_r0
  let v1100_r0 : BitVec 32 := Scalar.muli c512_i32_661_r0 v1098_r0
  ![v1099_r0.toNat, 0, v1100_r0.toNat]
def k0_off70 (arg31_r0 : BitVec 32) : Fin 4 → Nat :=
  let c2_i32_658_r0 : BitVec 32 := 2#32
  let v1097_r0 : BitVec 32 := Scalar.remui arg31_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off71 (arg33_r0 : BitVec 32) : Fin 1 → Nat :=
  let c2_i32_658_r0 : BitVec 32 := 2#32
  let v1097_r0 : BitVec 32 := Scalar.remui arg33_r0 c2_i32_658_r0
  ![v1097_r0.toNat]
def k0_cond33 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let v249_r0 : BitVec 32 := Scalar.addi v248_r0 v1
  let v877_r0 : BitVec 1 := Scalar.cmpi .ne v229_r0 v249_r0
  let c0_i32_325_r0 : BitVec 32 := 0#32
  let c0_i32_236_r0 : BitVec 32 := 0#32
  let v230_r0 : BitVec 32 := Scalar.addi arg42_r0 c0_i32_236_r0
  let v381_r0 : BitVec 32 := Scalar.addi c0_i32_325_r0 v230_r0
  let c0_i32_326_r0 : BitVec 32 := 0#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v382_r0 : BitVec 32 := Scalar.addi c0_i32_326_r0 v250_r0
  let v878_r0 : BitVec 1 := Scalar.cmpi .ne v381_r0 v382_r0
  let v879_r0 : BitVec 1 := Scalar.ori v877_r0 v878_r0
  let c0_i32_106_r0 : BitVec 32 := 0#32
  let c1_i32_107_r0 : BitVec 32 := 1#32
  let arg8_r0 : BitVec 32 := Scf.iv c0_i32_106_r0 c1_i32_107_r0 k0_t1
  let c7_i32_r0 : BitVec 32 := 7#32
  let v228_r0 : BitVec 1 := Scalar.cmpi .eq arg8_r0 c7_i32_r0
  let v880_r0 : BitVec 1 := Scalar.ori v879_r0 v228_r0
  let v881_r0 : BitVec 32 := Scalar.extui v880_r0
  let c0_i32_575_r0 : BitVec 32 := 0#32
  let v882_r0 : BitVec 1 := Scalar.cmpi .ne v881_r0 c0_i32_575_r0
  v882_r0

def k0_off72 (i : grid0.Coords) (arg41_r0 : BitVec 32) (arg42_r0 : BitVec 32) : Fin 3 → Nat :=
  let c1_i32_660_r0 : BitVec 32 := 1#32
  let arg0 : BitVec 32 := BitVec.ofNat 32 (i 0).val
  let c2_i32 : BitVec 32 := 2#32
  let v1 : BitVec 32 := Scalar.muli arg0 c2_i32
  let v229_r0 : BitVec 32 := Scalar.addi arg41_r0 v1
  let v1099_r0 : BitVec 32 := Scalar.muli c1_i32_660_r0 v229_r0
  let c0_i32_662_r0 : BitVec 32 := 0#32
  let c512_i32_661_r0 : BitVec 32 := 512#32
  let c0_i32_659_r0 : BitVec 32 := 0#32
  let c0_i32_236_r0 : BitVec 32 := 0#32
  let v230_r0 : BitVec 32 := Scalar.addi arg42_r0 c0_i32_236_r0
  let v1098_r0 : BitVec 32 := Scalar.addi c0_i32_659_r0 v230_r0
  let v1100_r0 : BitVec 32 := Scalar.muli c512_i32_661_r0 v1098_r0
  ![v1099_r0.toNat, 0, v1100_r0.toNat]
def k0_off73 (arg33_r0 : BitVec 32) : Fin 4 → Nat :=
  let c2_i32_658_r0 : BitVec 32 := 2#32
  let v1097_r0 : BitVec 32 := Scalar.remui arg33_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off74 (arg35_r0 : BitVec 32) : Fin 1 → Nat :=
  let c2_i32_658_r0 : BitVec 32 := 2#32
  let v1097_r0 : BitVec 32 := Scalar.remui arg35_r0 c2_i32_658_r0
  ![v1097_r0.toNat]
def k0_cond34 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let v249_r0 : BitVec 32 := Scalar.addi v248_r0 v1
  let v886_r0 : BitVec 1 := Scalar.cmpi .ne v229_r0 v249_r0
  let c4_i32_329_r0 : BitVec 32 := 4#32
  let c0_i32_236_r0 : BitVec 32 := 0#32
  let v230_r0 : BitVec 32 := Scalar.addi arg42_r0 c0_i32_236_r0
  let v389_r0 : BitVec 32 := Scalar.addi c4_i32_329_r0 v230_r0
  let c4_i32_330_r0 : BitVec 32 := 4#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v390_r0 : BitVec 32 := Scalar.addi c4_i32_330_r0 v250_r0
  let v887_r0 : BitVec 1 := Scalar.cmpi .ne v389_r0 v390_r0
  let v888_r0 : BitVec 1 := Scalar.ori v886_r0 v887_r0
  let c0_i32_106_r0 : BitVec 32 := 0#32
  let c1_i32_107_r0 : BitVec 32 := 1#32
  let arg8_r0 : BitVec 32 := Scf.iv c0_i32_106_r0 c1_i32_107_r0 k0_t1
  let c7_i32_r0 : BitVec 32 := 7#32
  let v228_r0 : BitVec 1 := Scalar.cmpi .eq arg8_r0 c7_i32_r0
  let v889_r0 : BitVec 1 := Scalar.ori v888_r0 v228_r0
  let v890_r0 : BitVec 32 := Scalar.extui v889_r0
  let c0_i32_578_r0 : BitVec 32 := 0#32
  let v891_r0 : BitVec 1 := Scalar.cmpi .ne v890_r0 c0_i32_578_r0
  v891_r0

def k0_off75 (i : grid0.Coords) (arg41_r0 : BitVec 32) (arg42_r0 : BitVec 32) : Fin 3 → Nat :=
  let c1_i32_660_r0 : BitVec 32 := 1#32
  let arg0 : BitVec 32 := BitVec.ofNat 32 (i 0).val
  let c2_i32 : BitVec 32 := 2#32
  let v1 : BitVec 32 := Scalar.muli arg0 c2_i32
  let v229_r0 : BitVec 32 := Scalar.addi arg41_r0 v1
  let v1099_r0 : BitVec 32 := Scalar.muli c1_i32_660_r0 v229_r0
  let c0_i32_662_r0 : BitVec 32 := 0#32
  let c512_i32_661_r0 : BitVec 32 := 512#32
  let c4_i32_659_r0 : BitVec 32 := 4#32
  let c0_i32_236_r0 : BitVec 32 := 0#32
  let v230_r0 : BitVec 32 := Scalar.addi arg42_r0 c0_i32_236_r0
  let v1098_r0 : BitVec 32 := Scalar.addi c4_i32_659_r0 v230_r0
  let v1100_r0 : BitVec 32 := Scalar.muli c512_i32_661_r0 v1098_r0
  ![v1099_r0.toNat, 0, v1100_r0.toNat]
def k0_off76 (arg35_r0 : BitVec 32) : Fin 4 → Nat :=
  let c2_i32_658_r0 : BitVec 32 := 2#32
  let v1097_r0 : BitVec 32 := Scalar.remui arg35_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off77 (arg37_r0 : BitVec 32) : Fin 1 → Nat :=
  let c2_i32_658_r0 : BitVec 32 := 2#32
  let v1097_r0 : BitVec 32 := Scalar.remui arg37_r0 c2_i32_658_r0
  ![v1097_r0.toNat]
def k0_cond35 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let v249_r0 : BitVec 32 := Scalar.addi v248_r0 v1
  let v895_r0 : BitVec 1 := Scalar.cmpi .ne v229_r0 v249_r0
  let c8_i32_333_r0 : BitVec 32 := 8#32
  let c0_i32_236_r0 : BitVec 32 := 0#32
  let v230_r0 : BitVec 32 := Scalar.addi arg42_r0 c0_i32_236_r0
  let v397_r0 : BitVec 32 := Scalar.addi c8_i32_333_r0 v230_r0
  let c8_i32_334_r0 : BitVec 32 := 8#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v398_r0 : BitVec 32 := Scalar.addi c8_i32_334_r0 v250_r0
  let v896_r0 : BitVec 1 := Scalar.cmpi .ne v397_r0 v398_r0
  let v897_r0 : BitVec 1 := Scalar.ori v895_r0 v896_r0
  let c0_i32_106_r0 : BitVec 32 := 0#32
  let c1_i32_107_r0 : BitVec 32 := 1#32
  let arg8_r0 : BitVec 32 := Scf.iv c0_i32_106_r0 c1_i32_107_r0 k0_t1
  let c7_i32_r0 : BitVec 32 := 7#32
  let v228_r0 : BitVec 1 := Scalar.cmpi .eq arg8_r0 c7_i32_r0
  let v898_r0 : BitVec 1 := Scalar.ori v897_r0 v228_r0
  let v899_r0 : BitVec 32 := Scalar.extui v898_r0
  let c0_i32_581_r0 : BitVec 32 := 0#32
  let v900_r0 : BitVec 1 := Scalar.cmpi .ne v899_r0 c0_i32_581_r0
  v900_r0

def k0_off78 (i : grid0.Coords) (arg41_r0 : BitVec 32) (arg42_r0 : BitVec 32) : Fin 3 → Nat :=
  let c1_i32_660_r0 : BitVec 32 := 1#32
  let arg0 : BitVec 32 := BitVec.ofNat 32 (i 0).val
  let c2_i32 : BitVec 32 := 2#32
  let v1 : BitVec 32 := Scalar.muli arg0 c2_i32
  let v229_r0 : BitVec 32 := Scalar.addi arg41_r0 v1
  let v1099_r0 : BitVec 32 := Scalar.muli c1_i32_660_r0 v229_r0
  let c0_i32_662_r0 : BitVec 32 := 0#32
  let c512_i32_661_r0 : BitVec 32 := 512#32
  let c8_i32_659_r0 : BitVec 32 := 8#32
  let c0_i32_236_r0 : BitVec 32 := 0#32
  let v230_r0 : BitVec 32 := Scalar.addi arg42_r0 c0_i32_236_r0
  let v1098_r0 : BitVec 32 := Scalar.addi c8_i32_659_r0 v230_r0
  let v1100_r0 : BitVec 32 := Scalar.muli c512_i32_661_r0 v1098_r0
  ![v1099_r0.toNat, 0, v1100_r0.toNat]
def k0_off79 (arg37_r0 : BitVec 32) : Fin 4 → Nat :=
  let c2_i32_658_r0 : BitVec 32 := 2#32
  let v1097_r0 : BitVec 32 := Scalar.remui arg37_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off80 (arg39_r0 : BitVec 32) : Fin 1 → Nat :=
  let c2_i32_658_r0 : BitVec 32 := 2#32
  let v1097_r0 : BitVec 32 := Scalar.remui arg39_r0 c2_i32_658_r0
  ![v1097_r0.toNat]
def k0_cond36 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_246_r0 : BitVec 1 := 1#1
  let c1_i32_245_r0 : BitVec 32 := 1#32
  let v241_r0 : BitVec 32 := Scalar.addi arg42_r0 c1_i32_245_r0
  let v242_r0 : BitVec 32 := Scalar.select true_246_r0 v241_r0 arg42_r0
  let c4_i32_247_r0 : BitVec 32 := 4#32
  let v243_r0 : BitVec 1 := Scalar.cmpi .eq v242_r0 c4_i32_247_r0
  let c1_i32_249_r0 : BitVec 32 := 1#32
  let v245_r0 : BitVec 32 := Scalar.addi arg41_r0 c1_i32_249_r0
  let v246_r0 : BitVec 32 := Scalar.select v243_r0 v245_r0 arg41_r0
  let c2_i32_250_r0 : BitVec 32 := 2#32
  let v247_r0 : BitVec 1 := Scalar.cmpi .eq v246_r0 c2_i32_250_r0
  let c0_i32_251_r0 : BitVec 32 := 0#32
  let v248_r0 : BitVec 32 := Scalar.select v247_r0 c0_i32_251_r0 v246_r0
  let v249_r0 : BitVec 32 := Scalar.addi v248_r0 v1
  let v904_r0 : BitVec 1 := Scalar.cmpi .ne v229_r0 v249_r0
  let c12_i32_337_r0 : BitVec 32 := 12#32
  let c0_i32_236_r0 : BitVec 32 := 0#32
  let v230_r0 : BitVec 32 := Scalar.addi arg42_r0 c0_i32_236_r0
  let v405_r0 : BitVec 32 := Scalar.addi c12_i32_337_r0 v230_r0
  let c12_i32_338_r0 : BitVec 32 := 12#32
  let c0_i32_248_r0 : BitVec 32 := 0#32
  let v244_r0 : BitVec 32 := Scalar.select v243_r0 c0_i32_248_r0 v242_r0
  let c0_i32_252_r0 : BitVec 32 := 0#32
  let v250_r0 : BitVec 32 := Scalar.addi v244_r0 c0_i32_252_r0
  let v406_r0 : BitVec 32 := Scalar.addi c12_i32_338_r0 v250_r0
  let v905_r0 : BitVec 1 := Scalar.cmpi .ne v405_r0 v406_r0
  let v906_r0 : BitVec 1 := Scalar.ori v904_r0 v905_r0
  let c0_i32_106_r0 : BitVec 32 := 0#32
  let c1_i32_107_r0 : BitVec 32 := 1#32
  let arg8_r0 : BitVec 32 := Scf.iv c0_i32_106_r0 c1_i32_107_r0 k0_t1
  let c7_i32_r0 : BitVec 32 := 7#32
  let v228_r0 : BitVec 1 := Scalar.cmpi .eq arg8_r0 c7_i32_r0
  let v907_r0 : BitVec 1 := Scalar.ori v906_r0 v228_r0
  let v908_r0 : BitVec 32 := Scalar.extui v907_r0
  let c0_i32_584_r0 : BitVec 32 := 0#32
  let v909_r0 : BitVec 1 := Scalar.cmpi .ne v908_r0 c0_i32_584_r0
  v909_r0

def k0_off81 (i : grid0.Coords) (arg41_r0 : BitVec 32) (arg42_r0 : BitVec 32) : Fin 3 → Nat :=
  let c1_i32_660_r0 : BitVec 32 := 1#32
  let arg0 : BitVec 32 := BitVec.ofNat 32 (i 0).val
  let c2_i32 : BitVec 32 := 2#32
  let v1 : BitVec 32 := Scalar.muli arg0 c2_i32
  let v229_r0 : BitVec 32 := Scalar.addi arg41_r0 v1
  let v1099_r0 : BitVec 32 := Scalar.muli c1_i32_660_r0 v229_r0
  let c0_i32_662_r0 : BitVec 32 := 0#32
  let c512_i32_661_r0 : BitVec 32 := 512#32
  let c12_i32_659_r0 : BitVec 32 := 12#32
  let c0_i32_236_r0 : BitVec 32 := 0#32
  let v230_r0 : BitVec 32 := Scalar.addi arg42_r0 c0_i32_236_r0
  let v1098_r0 : BitVec 32 := Scalar.addi c12_i32_659_r0 v230_r0
  let v1100_r0 : BitVec 32 := Scalar.muli c512_i32_661_r0 v1098_r0
  ![v1099_r0.toNat, 0, v1100_r0.toNat]
def k0_off82 (arg39_r0 : BitVec 32) : Fin 4 → Nat :=
  let c2_i32_658_r0 : BitVec 32 := 2#32
  let v1097_r0 : BitVec 32 := Scalar.remui arg39_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off83 (arg18_r0 : BitVec 32) : Fin 1 → Nat :=
  let c2_i32_658_r0 : BitVec 32 := 2#32
  let v1097_r0 : BitVec 32 := Scalar.remui arg18_r0 c2_i32_658_r0
  ![v1097_r0.toNat]
def k0_cond41 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let v239_r0 : BitVec 32 := Scalar.addi v238_r0 v1
  let v945_r0 : BitVec 1 := Scalar.cmpi .ne v229_r0 v239_r0
  let c0_i32_293_r0 : BitVec 32 := 0#32
  let c0_i32_236_r0 : BitVec 32 := 0#32
  let v230_r0 : BitVec 32 := Scalar.addi arg42_r0 c0_i32_236_r0
  let v317_r0 : BitVec 32 := Scalar.addi c0_i32_293_r0 v230_r0
  let c0_i32_353_r0 : BitVec 32 := 0#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v449_r0 : BitVec 32 := Scalar.addi c0_i32_353_r0 v240_r0
  let v946_r0 : BitVec 1 := Scalar.cmpi .ne v317_r0 v449_r0
  let v947_r0 : BitVec 1 := Scalar.ori v945_r0 v946_r0
  let c0_i32_106_r0 : BitVec 32 := 0#32
  let c1_i32_107_r0 : BitVec 32 := 1#32
  let arg8_r0 : BitVec 32 := Scf.iv c0_i32_106_r0 c1_i32_107_r0 k0_t1
  let c0_i32_235_r0 : BitVec 32 := 0#32
  let v227_r0 : BitVec 1 := Scalar.cmpi .eq arg8_r0 c0_i32_235_r0
  let true_599_r0 : BitVec 1 := 1#1
  let v948_r0 : BitVec 1 := Scalar.xori v227_r0 true_599_r0
  let v949_r0 : BitVec 1 := Scalar.andi v947_r0 v948_r0
  let v950_r0 : BitVec 32 := Scalar.extui v949_r0
  let c0_i32_600_r0 : BitVec 32 := 0#32
  let v951_r0 : BitVec 1 := Scalar.cmpi .ne v950_r0 c0_i32_600_r0
  v951_r0

def k0_off84 (i : grid0.Coords) (arg41_r0 : BitVec 32) (arg42_r0 : BitVec 32) : Fin 3 → Nat :=
  let c1_i32_660_r0 : BitVec 32 := 1#32
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let arg0 : BitVec 32 := BitVec.ofNat 32 (i 0).val
  let c2_i32 : BitVec 32 := 2#32
  let v1 : BitVec 32 := Scalar.muli arg0 c2_i32
  let v239_r0 : BitVec 32 := Scalar.addi v238_r0 v1
  let v1099_r0 : BitVec 32 := Scalar.muli c1_i32_660_r0 v239_r0
  let c0_i32_662_r0 : BitVec 32 := 0#32
  let c512_i32_661_r0 : BitVec 32 := 512#32
  let c0_i32_659_r0 : BitVec 32 := 0#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v1098_r0 : BitVec 32 := Scalar.addi c0_i32_659_r0 v240_r0
  let v1100_r0 : BitVec 32 := Scalar.muli c512_i32_661_r0 v1098_r0
  ![v1099_r0.toNat, 0, v1100_r0.toNat]
def k0_off85 (arg18_r0 : BitVec 32) : Fin 4 → Nat :=
  let c2_i32_658_r0 : BitVec 32 := 2#32
  let v1097_r0 : BitVec 32 := Scalar.remui arg18_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off86 (arg20_r0 : BitVec 32) : Fin 1 → Nat :=
  let c2_i32_658_r0 : BitVec 32 := 2#32
  let v1097_r0 : BitVec 32 := Scalar.remui arg20_r0 c2_i32_658_r0
  ![v1097_r0.toNat]
def k0_cond42 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let v239_r0 : BitVec 32 := Scalar.addi v238_r0 v1
  let v955_r0 : BitVec 1 := Scalar.cmpi .ne v229_r0 v239_r0
  let c4_i32_297_r0 : BitVec 32 := 4#32
  let c0_i32_236_r0 : BitVec 32 := 0#32
  let v230_r0 : BitVec 32 := Scalar.addi arg42_r0 c0_i32_236_r0
  let v325_r0 : BitVec 32 := Scalar.addi c4_i32_297_r0 v230_r0
  let c4_i32_356_r0 : BitVec 32 := 4#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v458_r0 : BitVec 32 := Scalar.addi c4_i32_356_r0 v240_r0
  let v956_r0 : BitVec 1 := Scalar.cmpi .ne v325_r0 v458_r0
  let v957_r0 : BitVec 1 := Scalar.ori v955_r0 v956_r0
  let c0_i32_106_r0 : BitVec 32 := 0#32
  let c1_i32_107_r0 : BitVec 32 := 1#32
  let arg8_r0 : BitVec 32 := Scf.iv c0_i32_106_r0 c1_i32_107_r0 k0_t1
  let c0_i32_235_r0 : BitVec 32 := 0#32
  let v227_r0 : BitVec 1 := Scalar.cmpi .eq arg8_r0 c0_i32_235_r0
  let true_603_r0 : BitVec 1 := 1#1
  let v958_r0 : BitVec 1 := Scalar.xori v227_r0 true_603_r0
  let v959_r0 : BitVec 1 := Scalar.andi v957_r0 v958_r0
  let v960_r0 : BitVec 32 := Scalar.extui v959_r0
  let c0_i32_604_r0 : BitVec 32 := 0#32
  let v961_r0 : BitVec 1 := Scalar.cmpi .ne v960_r0 c0_i32_604_r0
  v961_r0

def k0_off87 (i : grid0.Coords) (arg41_r0 : BitVec 32) (arg42_r0 : BitVec 32) : Fin 3 → Nat :=
  let c1_i32_660_r0 : BitVec 32 := 1#32
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let arg0 : BitVec 32 := BitVec.ofNat 32 (i 0).val
  let c2_i32 : BitVec 32 := 2#32
  let v1 : BitVec 32 := Scalar.muli arg0 c2_i32
  let v239_r0 : BitVec 32 := Scalar.addi v238_r0 v1
  let v1099_r0 : BitVec 32 := Scalar.muli c1_i32_660_r0 v239_r0
  let c0_i32_662_r0 : BitVec 32 := 0#32
  let c512_i32_661_r0 : BitVec 32 := 512#32
  let c4_i32_659_r0 : BitVec 32 := 4#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v1098_r0 : BitVec 32 := Scalar.addi c4_i32_659_r0 v240_r0
  let v1100_r0 : BitVec 32 := Scalar.muli c512_i32_661_r0 v1098_r0
  ![v1099_r0.toNat, 0, v1100_r0.toNat]
def k0_off88 (arg20_r0 : BitVec 32) : Fin 4 → Nat :=
  let c2_i32_658_r0 : BitVec 32 := 2#32
  let v1097_r0 : BitVec 32 := Scalar.remui arg20_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off89 (arg22_r0 : BitVec 32) : Fin 1 → Nat :=
  let c2_i32_658_r0 : BitVec 32 := 2#32
  let v1097_r0 : BitVec 32 := Scalar.remui arg22_r0 c2_i32_658_r0
  ![v1097_r0.toNat]
def k0_cond43 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let v239_r0 : BitVec 32 := Scalar.addi v238_r0 v1
  let v965_r0 : BitVec 1 := Scalar.cmpi .ne v229_r0 v239_r0
  let c8_i32_301_r0 : BitVec 32 := 8#32
  let c0_i32_236_r0 : BitVec 32 := 0#32
  let v230_r0 : BitVec 32 := Scalar.addi arg42_r0 c0_i32_236_r0
  let v333_r0 : BitVec 32 := Scalar.addi c8_i32_301_r0 v230_r0
  let c8_i32_359_r0 : BitVec 32 := 8#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v467_r0 : BitVec 32 := Scalar.addi c8_i32_359_r0 v240_r0
  let v966_r0 : BitVec 1 := Scalar.cmpi .ne v333_r0 v467_r0
  let v967_r0 : BitVec 1 := Scalar.ori v965_r0 v966_r0
  let c0_i32_106_r0 : BitVec 32 := 0#32
  let c1_i32_107_r0 : BitVec 32 := 1#32
  let arg8_r0 : BitVec 32 := Scf.iv c0_i32_106_r0 c1_i32_107_r0 k0_t1
  let c0_i32_235_r0 : BitVec 32 := 0#32
  let v227_r0 : BitVec 1 := Scalar.cmpi .eq arg8_r0 c0_i32_235_r0
  let true_607_r0 : BitVec 1 := 1#1
  let v968_r0 : BitVec 1 := Scalar.xori v227_r0 true_607_r0
  let v969_r0 : BitVec 1 := Scalar.andi v967_r0 v968_r0
  let v970_r0 : BitVec 32 := Scalar.extui v969_r0
  let c0_i32_608_r0 : BitVec 32 := 0#32
  let v971_r0 : BitVec 1 := Scalar.cmpi .ne v970_r0 c0_i32_608_r0
  v971_r0

def k0_off90 (i : grid0.Coords) (arg41_r0 : BitVec 32) (arg42_r0 : BitVec 32) : Fin 3 → Nat :=
  let c1_i32_660_r0 : BitVec 32 := 1#32
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let arg0 : BitVec 32 := BitVec.ofNat 32 (i 0).val
  let c2_i32 : BitVec 32 := 2#32
  let v1 : BitVec 32 := Scalar.muli arg0 c2_i32
  let v239_r0 : BitVec 32 := Scalar.addi v238_r0 v1
  let v1099_r0 : BitVec 32 := Scalar.muli c1_i32_660_r0 v239_r0
  let c0_i32_662_r0 : BitVec 32 := 0#32
  let c512_i32_661_r0 : BitVec 32 := 512#32
  let c8_i32_659_r0 : BitVec 32 := 8#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v1098_r0 : BitVec 32 := Scalar.addi c8_i32_659_r0 v240_r0
  let v1100_r0 : BitVec 32 := Scalar.muli c512_i32_661_r0 v1098_r0
  ![v1099_r0.toNat, 0, v1100_r0.toNat]
def k0_off91 (arg22_r0 : BitVec 32) : Fin 4 → Nat :=
  let c2_i32_658_r0 : BitVec 32 := 2#32
  let v1097_r0 : BitVec 32 := Scalar.remui arg22_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off92 (arg24_r0 : BitVec 32) : Fin 1 → Nat :=
  let c2_i32_658_r0 : BitVec 32 := 2#32
  let v1097_r0 : BitVec 32 := Scalar.remui arg24_r0 c2_i32_658_r0
  ![v1097_r0.toNat]
def k0_cond44 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let v239_r0 : BitVec 32 := Scalar.addi v238_r0 v1
  let v975_r0 : BitVec 1 := Scalar.cmpi .ne v229_r0 v239_r0
  let c12_i32_305_r0 : BitVec 32 := 12#32
  let c0_i32_236_r0 : BitVec 32 := 0#32
  let v230_r0 : BitVec 32 := Scalar.addi arg42_r0 c0_i32_236_r0
  let v341_r0 : BitVec 32 := Scalar.addi c12_i32_305_r0 v230_r0
  let c12_i32_362_r0 : BitVec 32 := 12#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v476_r0 : BitVec 32 := Scalar.addi c12_i32_362_r0 v240_r0
  let v976_r0 : BitVec 1 := Scalar.cmpi .ne v341_r0 v476_r0
  let v977_r0 : BitVec 1 := Scalar.ori v975_r0 v976_r0
  let c0_i32_106_r0 : BitVec 32 := 0#32
  let c1_i32_107_r0 : BitVec 32 := 1#32
  let arg8_r0 : BitVec 32 := Scf.iv c0_i32_106_r0 c1_i32_107_r0 k0_t1
  let c0_i32_235_r0 : BitVec 32 := 0#32
  let v227_r0 : BitVec 1 := Scalar.cmpi .eq arg8_r0 c0_i32_235_r0
  let true_611_r0 : BitVec 1 := 1#1
  let v978_r0 : BitVec 1 := Scalar.xori v227_r0 true_611_r0
  let v979_r0 : BitVec 1 := Scalar.andi v977_r0 v978_r0
  let v980_r0 : BitVec 32 := Scalar.extui v979_r0
  let c0_i32_612_r0 : BitVec 32 := 0#32
  let v981_r0 : BitVec 1 := Scalar.cmpi .ne v980_r0 c0_i32_612_r0
  v981_r0

def k0_off93 (i : grid0.Coords) (arg41_r0 : BitVec 32) (arg42_r0 : BitVec 32) : Fin 3 → Nat :=
  let c1_i32_660_r0 : BitVec 32 := 1#32
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let arg0 : BitVec 32 := BitVec.ofNat 32 (i 0).val
  let c2_i32 : BitVec 32 := 2#32
  let v1 : BitVec 32 := Scalar.muli arg0 c2_i32
  let v239_r0 : BitVec 32 := Scalar.addi v238_r0 v1
  let v1099_r0 : BitVec 32 := Scalar.muli c1_i32_660_r0 v239_r0
  let c0_i32_662_r0 : BitVec 32 := 0#32
  let c512_i32_661_r0 : BitVec 32 := 512#32
  let c12_i32_659_r0 : BitVec 32 := 12#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v1098_r0 : BitVec 32 := Scalar.addi c12_i32_659_r0 v240_r0
  let v1100_r0 : BitVec 32 := Scalar.muli c512_i32_661_r0 v1098_r0
  ![v1099_r0.toNat, 0, v1100_r0.toNat]
def k0_off94 (arg24_r0 : BitVec 32) : Fin 4 → Nat :=
  let c2_i32_658_r0 : BitVec 32 := 2#32
  let v1097_r0 : BitVec 32 := Scalar.remui arg24_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off95 (arg26_r0 : BitVec 32) : Fin 1 → Nat :=
  let c2_i32_658_r0 : BitVec 32 := 2#32
  let v1097_r0 : BitVec 32 := Scalar.remui arg26_r0 c2_i32_658_r0
  ![v1097_r0.toNat]
def k0_cond45 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let v239_r0 : BitVec 32 := Scalar.addi v238_r0 v1
  let v985_r0 : BitVec 1 := Scalar.cmpi .ne v229_r0 v239_r0
  let c0_i32_309_r0 : BitVec 32 := 0#32
  let c0_i32_236_r0 : BitVec 32 := 0#32
  let v230_r0 : BitVec 32 := Scalar.addi arg42_r0 c0_i32_236_r0
  let v349_r0 : BitVec 32 := Scalar.addi c0_i32_309_r0 v230_r0
  let c0_i32_365_r0 : BitVec 32 := 0#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v485_r0 : BitVec 32 := Scalar.addi c0_i32_365_r0 v240_r0
  let v986_r0 : BitVec 1 := Scalar.cmpi .ne v349_r0 v485_r0
  let v987_r0 : BitVec 1 := Scalar.ori v985_r0 v986_r0
  let c0_i32_106_r0 : BitVec 32 := 0#32
  let c1_i32_107_r0 : BitVec 32 := 1#32
  let arg8_r0 : BitVec 32 := Scf.iv c0_i32_106_r0 c1_i32_107_r0 k0_t1
  let c0_i32_235_r0 : BitVec 32 := 0#32
  let v227_r0 : BitVec 1 := Scalar.cmpi .eq arg8_r0 c0_i32_235_r0
  let true_615_r0 : BitVec 1 := 1#1
  let v988_r0 : BitVec 1 := Scalar.xori v227_r0 true_615_r0
  let v989_r0 : BitVec 1 := Scalar.andi v987_r0 v988_r0
  let v990_r0 : BitVec 32 := Scalar.extui v989_r0
  let c0_i32_616_r0 : BitVec 32 := 0#32
  let v991_r0 : BitVec 1 := Scalar.cmpi .ne v990_r0 c0_i32_616_r0
  v991_r0

def k0_off96 (i : grid0.Coords) (arg41_r0 : BitVec 32) (arg42_r0 : BitVec 32) : Fin 3 → Nat :=
  let c1_i32_660_r0 : BitVec 32 := 1#32
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let arg0 : BitVec 32 := BitVec.ofNat 32 (i 0).val
  let c2_i32 : BitVec 32 := 2#32
  let v1 : BitVec 32 := Scalar.muli arg0 c2_i32
  let v239_r0 : BitVec 32 := Scalar.addi v238_r0 v1
  let v1099_r0 : BitVec 32 := Scalar.muli c1_i32_660_r0 v239_r0
  let c0_i32_662_r0 : BitVec 32 := 0#32
  let c512_i32_661_r0 : BitVec 32 := 512#32
  let c0_i32_659_r0 : BitVec 32 := 0#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v1098_r0 : BitVec 32 := Scalar.addi c0_i32_659_r0 v240_r0
  let v1100_r0 : BitVec 32 := Scalar.muli c512_i32_661_r0 v1098_r0
  ![v1099_r0.toNat, 0, v1100_r0.toNat]
def k0_off97 (arg26_r0 : BitVec 32) : Fin 4 → Nat :=
  let c2_i32_658_r0 : BitVec 32 := 2#32
  let v1097_r0 : BitVec 32 := Scalar.remui arg26_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off98 (arg28_r0 : BitVec 32) : Fin 1 → Nat :=
  let c2_i32_658_r0 : BitVec 32 := 2#32
  let v1097_r0 : BitVec 32 := Scalar.remui arg28_r0 c2_i32_658_r0
  ![v1097_r0.toNat]
def k0_cond46 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let v239_r0 : BitVec 32 := Scalar.addi v238_r0 v1
  let v995_r0 : BitVec 1 := Scalar.cmpi .ne v229_r0 v239_r0
  let c4_i32_313_r0 : BitVec 32 := 4#32
  let c0_i32_236_r0 : BitVec 32 := 0#32
  let v230_r0 : BitVec 32 := Scalar.addi arg42_r0 c0_i32_236_r0
  let v357_r0 : BitVec 32 := Scalar.addi c4_i32_313_r0 v230_r0
  let c4_i32_368_r0 : BitVec 32 := 4#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v494_r0 : BitVec 32 := Scalar.addi c4_i32_368_r0 v240_r0
  let v996_r0 : BitVec 1 := Scalar.cmpi .ne v357_r0 v494_r0
  let v997_r0 : BitVec 1 := Scalar.ori v995_r0 v996_r0
  let c0_i32_106_r0 : BitVec 32 := 0#32
  let c1_i32_107_r0 : BitVec 32 := 1#32
  let arg8_r0 : BitVec 32 := Scf.iv c0_i32_106_r0 c1_i32_107_r0 k0_t1
  let c0_i32_235_r0 : BitVec 32 := 0#32
  let v227_r0 : BitVec 1 := Scalar.cmpi .eq arg8_r0 c0_i32_235_r0
  let true_619_r0 : BitVec 1 := 1#1
  let v998_r0 : BitVec 1 := Scalar.xori v227_r0 true_619_r0
  let v999_r0 : BitVec 1 := Scalar.andi v997_r0 v998_r0
  let v1000_r0 : BitVec 32 := Scalar.extui v999_r0
  let c0_i32_620_r0 : BitVec 32 := 0#32
  let v1001_r0 : BitVec 1 := Scalar.cmpi .ne v1000_r0 c0_i32_620_r0
  v1001_r0

def k0_off99 (i : grid0.Coords) (arg41_r0 : BitVec 32) (arg42_r0 : BitVec 32) : Fin 3 → Nat :=
  let c1_i32_660_r0 : BitVec 32 := 1#32
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let arg0 : BitVec 32 := BitVec.ofNat 32 (i 0).val
  let c2_i32 : BitVec 32 := 2#32
  let v1 : BitVec 32 := Scalar.muli arg0 c2_i32
  let v239_r0 : BitVec 32 := Scalar.addi v238_r0 v1
  let v1099_r0 : BitVec 32 := Scalar.muli c1_i32_660_r0 v239_r0
  let c0_i32_662_r0 : BitVec 32 := 0#32
  let c512_i32_661_r0 : BitVec 32 := 512#32
  let c4_i32_659_r0 : BitVec 32 := 4#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v1098_r0 : BitVec 32 := Scalar.addi c4_i32_659_r0 v240_r0
  let v1100_r0 : BitVec 32 := Scalar.muli c512_i32_661_r0 v1098_r0
  ![v1099_r0.toNat, 0, v1100_r0.toNat]
def k0_off100 (arg28_r0 : BitVec 32) : Fin 4 → Nat :=
  let c2_i32_658_r0 : BitVec 32 := 2#32
  let v1097_r0 : BitVec 32 := Scalar.remui arg28_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off101 (arg30_r0 : BitVec 32) : Fin 1 → Nat :=
  let c2_i32_658_r0 : BitVec 32 := 2#32
  let v1097_r0 : BitVec 32 := Scalar.remui arg30_r0 c2_i32_658_r0
  ![v1097_r0.toNat]
def k0_cond47 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let v239_r0 : BitVec 32 := Scalar.addi v238_r0 v1
  let v1005_r0 : BitVec 1 := Scalar.cmpi .ne v229_r0 v239_r0
  let c8_i32_317_r0 : BitVec 32 := 8#32
  let c0_i32_236_r0 : BitVec 32 := 0#32
  let v230_r0 : BitVec 32 := Scalar.addi arg42_r0 c0_i32_236_r0
  let v365_r0 : BitVec 32 := Scalar.addi c8_i32_317_r0 v230_r0
  let c8_i32_371_r0 : BitVec 32 := 8#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v503_r0 : BitVec 32 := Scalar.addi c8_i32_371_r0 v240_r0
  let v1006_r0 : BitVec 1 := Scalar.cmpi .ne v365_r0 v503_r0
  let v1007_r0 : BitVec 1 := Scalar.ori v1005_r0 v1006_r0
  let c0_i32_106_r0 : BitVec 32 := 0#32
  let c1_i32_107_r0 : BitVec 32 := 1#32
  let arg8_r0 : BitVec 32 := Scf.iv c0_i32_106_r0 c1_i32_107_r0 k0_t1
  let c0_i32_235_r0 : BitVec 32 := 0#32
  let v227_r0 : BitVec 1 := Scalar.cmpi .eq arg8_r0 c0_i32_235_r0
  let true_623_r0 : BitVec 1 := 1#1
  let v1008_r0 : BitVec 1 := Scalar.xori v227_r0 true_623_r0
  let v1009_r0 : BitVec 1 := Scalar.andi v1007_r0 v1008_r0
  let v1010_r0 : BitVec 32 := Scalar.extui v1009_r0
  let c0_i32_624_r0 : BitVec 32 := 0#32
  let v1011_r0 : BitVec 1 := Scalar.cmpi .ne v1010_r0 c0_i32_624_r0
  v1011_r0

def k0_off102 (i : grid0.Coords) (arg41_r0 : BitVec 32) (arg42_r0 : BitVec 32) : Fin 3 → Nat :=
  let c1_i32_660_r0 : BitVec 32 := 1#32
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let arg0 : BitVec 32 := BitVec.ofNat 32 (i 0).val
  let c2_i32 : BitVec 32 := 2#32
  let v1 : BitVec 32 := Scalar.muli arg0 c2_i32
  let v239_r0 : BitVec 32 := Scalar.addi v238_r0 v1
  let v1099_r0 : BitVec 32 := Scalar.muli c1_i32_660_r0 v239_r0
  let c0_i32_662_r0 : BitVec 32 := 0#32
  let c512_i32_661_r0 : BitVec 32 := 512#32
  let c8_i32_659_r0 : BitVec 32 := 8#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v1098_r0 : BitVec 32 := Scalar.addi c8_i32_659_r0 v240_r0
  let v1100_r0 : BitVec 32 := Scalar.muli c512_i32_661_r0 v1098_r0
  ![v1099_r0.toNat, 0, v1100_r0.toNat]
def k0_off103 (arg30_r0 : BitVec 32) : Fin 4 → Nat :=
  let c2_i32_658_r0 : BitVec 32 := 2#32
  let v1097_r0 : BitVec 32 := Scalar.remui arg30_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off104 (arg32_r0 : BitVec 32) : Fin 1 → Nat :=
  let c2_i32_658_r0 : BitVec 32 := 2#32
  let v1097_r0 : BitVec 32 := Scalar.remui arg32_r0 c2_i32_658_r0
  ![v1097_r0.toNat]
def k0_cond48 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let v239_r0 : BitVec 32 := Scalar.addi v238_r0 v1
  let v1015_r0 : BitVec 1 := Scalar.cmpi .ne v229_r0 v239_r0
  let c12_i32_321_r0 : BitVec 32 := 12#32
  let c0_i32_236_r0 : BitVec 32 := 0#32
  let v230_r0 : BitVec 32 := Scalar.addi arg42_r0 c0_i32_236_r0
  let v373_r0 : BitVec 32 := Scalar.addi c12_i32_321_r0 v230_r0
  let c12_i32_374_r0 : BitVec 32 := 12#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v512_r0 : BitVec 32 := Scalar.addi c12_i32_374_r0 v240_r0
  let v1016_r0 : BitVec 1 := Scalar.cmpi .ne v373_r0 v512_r0
  let v1017_r0 : BitVec 1 := Scalar.ori v1015_r0 v1016_r0
  let c0_i32_106_r0 : BitVec 32 := 0#32
  let c1_i32_107_r0 : BitVec 32 := 1#32
  let arg8_r0 : BitVec 32 := Scf.iv c0_i32_106_r0 c1_i32_107_r0 k0_t1
  let c0_i32_235_r0 : BitVec 32 := 0#32
  let v227_r0 : BitVec 1 := Scalar.cmpi .eq arg8_r0 c0_i32_235_r0
  let true_627_r0 : BitVec 1 := 1#1
  let v1018_r0 : BitVec 1 := Scalar.xori v227_r0 true_627_r0
  let v1019_r0 : BitVec 1 := Scalar.andi v1017_r0 v1018_r0
  let v1020_r0 : BitVec 32 := Scalar.extui v1019_r0
  let c0_i32_628_r0 : BitVec 32 := 0#32
  let v1021_r0 : BitVec 1 := Scalar.cmpi .ne v1020_r0 c0_i32_628_r0
  v1021_r0

def k0_off105 (i : grid0.Coords) (arg41_r0 : BitVec 32) (arg42_r0 : BitVec 32) : Fin 3 → Nat :=
  let c1_i32_660_r0 : BitVec 32 := 1#32
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let arg0 : BitVec 32 := BitVec.ofNat 32 (i 0).val
  let c2_i32 : BitVec 32 := 2#32
  let v1 : BitVec 32 := Scalar.muli arg0 c2_i32
  let v239_r0 : BitVec 32 := Scalar.addi v238_r0 v1
  let v1099_r0 : BitVec 32 := Scalar.muli c1_i32_660_r0 v239_r0
  let c0_i32_662_r0 : BitVec 32 := 0#32
  let c512_i32_661_r0 : BitVec 32 := 512#32
  let c12_i32_659_r0 : BitVec 32 := 12#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v1098_r0 : BitVec 32 := Scalar.addi c12_i32_659_r0 v240_r0
  let v1100_r0 : BitVec 32 := Scalar.muli c512_i32_661_r0 v1098_r0
  ![v1099_r0.toNat, 0, v1100_r0.toNat]
def k0_off106 (arg32_r0 : BitVec 32) : Fin 4 → Nat :=
  let c2_i32_658_r0 : BitVec 32 := 2#32
  let v1097_r0 : BitVec 32 := Scalar.remui arg32_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off107 (arg34_r0 : BitVec 32) : Fin 1 → Nat :=
  let c2_i32_658_r0 : BitVec 32 := 2#32
  let v1097_r0 : BitVec 32 := Scalar.remui arg34_r0 c2_i32_658_r0
  ![v1097_r0.toNat]
def k0_cond49 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let v239_r0 : BitVec 32 := Scalar.addi v238_r0 v1
  let v1025_r0 : BitVec 1 := Scalar.cmpi .ne v229_r0 v239_r0
  let c0_i32_325_r0 : BitVec 32 := 0#32
  let c0_i32_236_r0 : BitVec 32 := 0#32
  let v230_r0 : BitVec 32 := Scalar.addi arg42_r0 c0_i32_236_r0
  let v381_r0 : BitVec 32 := Scalar.addi c0_i32_325_r0 v230_r0
  let c0_i32_377_r0 : BitVec 32 := 0#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v521_r0 : BitVec 32 := Scalar.addi c0_i32_377_r0 v240_r0
  let v1026_r0 : BitVec 1 := Scalar.cmpi .ne v381_r0 v521_r0
  let v1027_r0 : BitVec 1 := Scalar.ori v1025_r0 v1026_r0
  let c0_i32_106_r0 : BitVec 32 := 0#32
  let c1_i32_107_r0 : BitVec 32 := 1#32
  let arg8_r0 : BitVec 32 := Scf.iv c0_i32_106_r0 c1_i32_107_r0 k0_t1
  let c0_i32_235_r0 : BitVec 32 := 0#32
  let v227_r0 : BitVec 1 := Scalar.cmpi .eq arg8_r0 c0_i32_235_r0
  let true_631_r0 : BitVec 1 := 1#1
  let v1028_r0 : BitVec 1 := Scalar.xori v227_r0 true_631_r0
  let v1029_r0 : BitVec 1 := Scalar.andi v1027_r0 v1028_r0
  let v1030_r0 : BitVec 32 := Scalar.extui v1029_r0
  let c0_i32_632_r0 : BitVec 32 := 0#32
  let v1031_r0 : BitVec 1 := Scalar.cmpi .ne v1030_r0 c0_i32_632_r0
  v1031_r0

def k0_off108 (i : grid0.Coords) (arg41_r0 : BitVec 32) (arg42_r0 : BitVec 32) : Fin 3 → Nat :=
  let c1_i32_660_r0 : BitVec 32 := 1#32
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let arg0 : BitVec 32 := BitVec.ofNat 32 (i 0).val
  let c2_i32 : BitVec 32 := 2#32
  let v1 : BitVec 32 := Scalar.muli arg0 c2_i32
  let v239_r0 : BitVec 32 := Scalar.addi v238_r0 v1
  let v1099_r0 : BitVec 32 := Scalar.muli c1_i32_660_r0 v239_r0
  let c0_i32_662_r0 : BitVec 32 := 0#32
  let c512_i32_661_r0 : BitVec 32 := 512#32
  let c0_i32_659_r0 : BitVec 32 := 0#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v1098_r0 : BitVec 32 := Scalar.addi c0_i32_659_r0 v240_r0
  let v1100_r0 : BitVec 32 := Scalar.muli c512_i32_661_r0 v1098_r0
  ![v1099_r0.toNat, 0, v1100_r0.toNat]
def k0_off109 (arg34_r0 : BitVec 32) : Fin 4 → Nat :=
  let c2_i32_658_r0 : BitVec 32 := 2#32
  let v1097_r0 : BitVec 32 := Scalar.remui arg34_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off110 (arg36_r0 : BitVec 32) : Fin 1 → Nat :=
  let c2_i32_658_r0 : BitVec 32 := 2#32
  let v1097_r0 : BitVec 32 := Scalar.remui arg36_r0 c2_i32_658_r0
  ![v1097_r0.toNat]
def k0_cond50 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let v239_r0 : BitVec 32 := Scalar.addi v238_r0 v1
  let v1035_r0 : BitVec 1 := Scalar.cmpi .ne v229_r0 v239_r0
  let c4_i32_329_r0 : BitVec 32 := 4#32
  let c0_i32_236_r0 : BitVec 32 := 0#32
  let v230_r0 : BitVec 32 := Scalar.addi arg42_r0 c0_i32_236_r0
  let v389_r0 : BitVec 32 := Scalar.addi c4_i32_329_r0 v230_r0
  let c4_i32_380_r0 : BitVec 32 := 4#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v530_r0 : BitVec 32 := Scalar.addi c4_i32_380_r0 v240_r0
  let v1036_r0 : BitVec 1 := Scalar.cmpi .ne v389_r0 v530_r0
  let v1037_r0 : BitVec 1 := Scalar.ori v1035_r0 v1036_r0
  let c0_i32_106_r0 : BitVec 32 := 0#32
  let c1_i32_107_r0 : BitVec 32 := 1#32
  let arg8_r0 : BitVec 32 := Scf.iv c0_i32_106_r0 c1_i32_107_r0 k0_t1
  let c0_i32_235_r0 : BitVec 32 := 0#32
  let v227_r0 : BitVec 1 := Scalar.cmpi .eq arg8_r0 c0_i32_235_r0
  let true_635_r0 : BitVec 1 := 1#1
  let v1038_r0 : BitVec 1 := Scalar.xori v227_r0 true_635_r0
  let v1039_r0 : BitVec 1 := Scalar.andi v1037_r0 v1038_r0
  let v1040_r0 : BitVec 32 := Scalar.extui v1039_r0
  let c0_i32_636_r0 : BitVec 32 := 0#32
  let v1041_r0 : BitVec 1 := Scalar.cmpi .ne v1040_r0 c0_i32_636_r0
  v1041_r0

def k0_off111 (i : grid0.Coords) (arg41_r0 : BitVec 32) (arg42_r0 : BitVec 32) : Fin 3 → Nat :=
  let c1_i32_660_r0 : BitVec 32 := 1#32
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let arg0 : BitVec 32 := BitVec.ofNat 32 (i 0).val
  let c2_i32 : BitVec 32 := 2#32
  let v1 : BitVec 32 := Scalar.muli arg0 c2_i32
  let v239_r0 : BitVec 32 := Scalar.addi v238_r0 v1
  let v1099_r0 : BitVec 32 := Scalar.muli c1_i32_660_r0 v239_r0
  let c0_i32_662_r0 : BitVec 32 := 0#32
  let c512_i32_661_r0 : BitVec 32 := 512#32
  let c4_i32_659_r0 : BitVec 32 := 4#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v1098_r0 : BitVec 32 := Scalar.addi c4_i32_659_r0 v240_r0
  let v1100_r0 : BitVec 32 := Scalar.muli c512_i32_661_r0 v1098_r0
  ![v1099_r0.toNat, 0, v1100_r0.toNat]
def k0_off112 (arg36_r0 : BitVec 32) : Fin 4 → Nat :=
  let c2_i32_658_r0 : BitVec 32 := 2#32
  let v1097_r0 : BitVec 32 := Scalar.remui arg36_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off113 (arg38_r0 : BitVec 32) : Fin 1 → Nat :=
  let c2_i32_658_r0 : BitVec 32 := 2#32
  let v1097_r0 : BitVec 32 := Scalar.remui arg38_r0 c2_i32_658_r0
  ![v1097_r0.toNat]
def k0_cond51 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let v239_r0 : BitVec 32 := Scalar.addi v238_r0 v1
  let v1045_r0 : BitVec 1 := Scalar.cmpi .ne v229_r0 v239_r0
  let c8_i32_333_r0 : BitVec 32 := 8#32
  let c0_i32_236_r0 : BitVec 32 := 0#32
  let v230_r0 : BitVec 32 := Scalar.addi arg42_r0 c0_i32_236_r0
  let v397_r0 : BitVec 32 := Scalar.addi c8_i32_333_r0 v230_r0
  let c8_i32_383_r0 : BitVec 32 := 8#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v539_r0 : BitVec 32 := Scalar.addi c8_i32_383_r0 v240_r0
  let v1046_r0 : BitVec 1 := Scalar.cmpi .ne v397_r0 v539_r0
  let v1047_r0 : BitVec 1 := Scalar.ori v1045_r0 v1046_r0
  let c0_i32_106_r0 : BitVec 32 := 0#32
  let c1_i32_107_r0 : BitVec 32 := 1#32
  let arg8_r0 : BitVec 32 := Scf.iv c0_i32_106_r0 c1_i32_107_r0 k0_t1
  let c0_i32_235_r0 : BitVec 32 := 0#32
  let v227_r0 : BitVec 1 := Scalar.cmpi .eq arg8_r0 c0_i32_235_r0
  let true_639_r0 : BitVec 1 := 1#1
  let v1048_r0 : BitVec 1 := Scalar.xori v227_r0 true_639_r0
  let v1049_r0 : BitVec 1 := Scalar.andi v1047_r0 v1048_r0
  let v1050_r0 : BitVec 32 := Scalar.extui v1049_r0
  let c0_i32_640_r0 : BitVec 32 := 0#32
  let v1051_r0 : BitVec 1 := Scalar.cmpi .ne v1050_r0 c0_i32_640_r0
  v1051_r0

def k0_off114 (i : grid0.Coords) (arg41_r0 : BitVec 32) (arg42_r0 : BitVec 32) : Fin 3 → Nat :=
  let c1_i32_660_r0 : BitVec 32 := 1#32
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let arg0 : BitVec 32 := BitVec.ofNat 32 (i 0).val
  let c2_i32 : BitVec 32 := 2#32
  let v1 : BitVec 32 := Scalar.muli arg0 c2_i32
  let v239_r0 : BitVec 32 := Scalar.addi v238_r0 v1
  let v1099_r0 : BitVec 32 := Scalar.muli c1_i32_660_r0 v239_r0
  let c0_i32_662_r0 : BitVec 32 := 0#32
  let c512_i32_661_r0 : BitVec 32 := 512#32
  let c8_i32_659_r0 : BitVec 32 := 8#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v1098_r0 : BitVec 32 := Scalar.addi c8_i32_659_r0 v240_r0
  let v1100_r0 : BitVec 32 := Scalar.muli c512_i32_661_r0 v1098_r0
  ![v1099_r0.toNat, 0, v1100_r0.toNat]
def k0_off115 (arg38_r0 : BitVec 32) : Fin 4 → Nat :=
  let c2_i32_658_r0 : BitVec 32 := 2#32
  let v1097_r0 : BitVec 32 := Scalar.remui arg38_r0 c2_i32_658_r0
  let c0_i32_663_r0 : BitVec 32 := 0#32
  let c0_i32_664_r0 : BitVec 32 := 0#32
  let c0_i32_665_r0 : BitVec 32 := 0#32
  ![v1097_r0.toNat, 0, 0, 0]
def k0_off116 (arg40_r0 : BitVec 32) : Fin 1 → Nat :=
  let c2_i32_658_r0 : BitVec 32 := 2#32
  let v1097_r0 : BitVec 32 := Scalar.remui arg40_r0 c2_i32_658_r0
  ![v1097_r0.toNat]
def k0_cond52 (i : grid0.Coords) (k0_t1 : Fin k0_t1_loop.trips) (arg41_r0 : BitVec 32) (arg42_r0 : BitVec 32) : BitVec 1 :=
  let arg0 : BitVec 32 := BitVec.ofNat 32 (i 0).val
  let c2_i32 : BitVec 32 := 2#32
  let v1 : BitVec 32 := Scalar.muli arg0 c2_i32
  let v229_r0 : BitVec 32 := Scalar.addi arg41_r0 v1
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let v239_r0 : BitVec 32 := Scalar.addi v238_r0 v1
  let v1055_r0 : BitVec 1 := Scalar.cmpi .ne v229_r0 v239_r0
  let c12_i32_337_r0 : BitVec 32 := 12#32
  let c0_i32_236_r0 : BitVec 32 := 0#32
  let v230_r0 : BitVec 32 := Scalar.addi arg42_r0 c0_i32_236_r0
  let v405_r0 : BitVec 32 := Scalar.addi c12_i32_337_r0 v230_r0
  let c12_i32_386_r0 : BitVec 32 := 12#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v548_r0 : BitVec 32 := Scalar.addi c12_i32_386_r0 v240_r0
  let v1056_r0 : BitVec 1 := Scalar.cmpi .ne v405_r0 v548_r0
  let v1057_r0 : BitVec 1 := Scalar.ori v1055_r0 v1056_r0
  let c0_i32_106_r0 : BitVec 32 := 0#32
  let c1_i32_107_r0 : BitVec 32 := 1#32
  let arg8_r0 : BitVec 32 := Scf.iv c0_i32_106_r0 c1_i32_107_r0 k0_t1
  let c0_i32_235_r0 : BitVec 32 := 0#32
  let v227_r0 : BitVec 1 := Scalar.cmpi .eq arg8_r0 c0_i32_235_r0
  let true_643_r0 : BitVec 1 := 1#1
  let v1058_r0 : BitVec 1 := Scalar.xori v227_r0 true_643_r0
  let v1059_r0 : BitVec 1 := Scalar.andi v1057_r0 v1058_r0
  let v1060_r0 : BitVec 32 := Scalar.extui v1059_r0
  let c0_i32_644_r0 : BitVec 32 := 0#32
  let v1061_r0 : BitVec 1 := Scalar.cmpi .ne v1060_r0 c0_i32_644_r0
  v1061_r0

def k0_off117 (i : grid0.Coords) (arg41_r0 : BitVec 32) (arg42_r0 : BitVec 32) : Fin 3 → Nat :=
  let c1_i32_660_r0 : BitVec 32 := 1#32
  let true_238_r0 : BitVec 1 := 1#1
  let c1_i32_237_r0 : BitVec 32 := 1#32
  let v231_r0 : BitVec 32 := Scalar.subi arg42_r0 c1_i32_237_r0
  let v232_r0 : BitVec 32 := Scalar.select true_238_r0 v231_r0 arg42_r0
  let c_m1_i32_239_r0 : BitVec 32 := 4294967295#32
  let v233_r0 : BitVec 1 := Scalar.cmpi .eq v232_r0 c_m1_i32_239_r0
  let c1_i32_241_r0 : BitVec 32 := 1#32
  let v235_r0 : BitVec 32 := Scalar.subi arg41_r0 c1_i32_241_r0
  let v236_r0 : BitVec 32 := Scalar.select v233_r0 v235_r0 arg41_r0
  let c_m1_i32_242_r0 : BitVec 32 := 4294967295#32
  let v237_r0 : BitVec 1 := Scalar.cmpi .eq v236_r0 c_m1_i32_242_r0
  let c1_i32_243_r0 : BitVec 32 := 1#32
  let v238_r0 : BitVec 32 := Scalar.select v237_r0 c1_i32_243_r0 v236_r0
  let arg0 : BitVec 32 := BitVec.ofNat 32 (i 0).val
  let c2_i32 : BitVec 32 := 2#32
  let v1 : BitVec 32 := Scalar.muli arg0 c2_i32
  let v239_r0 : BitVec 32 := Scalar.addi v238_r0 v1
  let v1099_r0 : BitVec 32 := Scalar.muli c1_i32_660_r0 v239_r0
  let c0_i32_662_r0 : BitVec 32 := 0#32
  let c512_i32_661_r0 : BitVec 32 := 512#32
  let c12_i32_659_r0 : BitVec 32 := 12#32
  let c3_i32_240_r0 : BitVec 32 := 3#32
  let v234_r0 : BitVec 32 := Scalar.select v233_r0 c3_i32_240_r0 v232_r0
  let c0_i32_244_r0 : BitVec 32 := 0#32
  let v240_r0 : BitVec 32 := Scalar.addi v234_r0 c0_i32_244_r0
  let v1098_r0 : BitVec 32 := Scalar.addi c12_i32_659_r0 v240_r0
  let v1100_r0 : BitVec 32 := Scalar.muli c512_i32_661_r0 v1098_r0
  ![v1099_r0.toNat, 0, v1100_r0.toNat]
def k0_off118 (arg40_r0 : BitVec 32) : Fin 4 → Nat :=
  let c2_i32_658_r0 : BitVec 32 := 2#32
  let v1097_r0 : BitVec 32 := Scalar.remui arg40_r0 c2_i32_658_r0
  let c0_i32_663_r0 : BitVec 32 := 0#32
  let c0_i32_664_r0 : BitVec 32 := 0#32
  let c0_i32_665_r0 : BitVec 32 := 0#32
  ![v1097_r0.toNat, 0, 0, 0]

def k0_chk1_0 (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) : Prop :=
  (∀ (k0_h1 : k0_cond1 i k0_t1 arg41_r0 arg42_r0 = 1#1), ∀ a, (k0_off7 arg9_r0) a + S1.size a ≤ S2.size a) ∧
  (∀ (k0_h1 : k0_cond1 i k0_t1 arg41_r0 arg42_r0 = 1#1), ∀ a, (k0_off8 arg9_r0) a + S1x1x512x1024.size a ≤ S2x1x512x1024.size a) ∧
  (∀ (k0_h1 : k0_cond1 i k0_t1 arg41_r0 arg42_r0 = 1#1), ∀ a, (k0_off9 i arg41_r0 arg42_r0) a + S1x512x1024.size a ≤ S4x8192x1024.size a) ∧
  (∀ (k0_h2 : k0_cond2 i k0_t1 arg41_r0 arg42_r0 = 1#1), ∀ a, (k0_off10 arg11_r0) a + S1.size a ≤ S2.size a) ∧
  (∀ (k0_h2 : k0_cond2 i k0_t1 arg41_r0 arg42_r0 = 1#1), ∀ a, (k0_off11 arg11_r0) a + S1x1x512x1024.size a ≤ S2x1x512x1024.size a) ∧
  (∀ (k0_h2 : k0_cond2 i k0_t1 arg41_r0 arg42_r0 = 1#1), ∀ a, (k0_off12 i arg41_r0 arg42_r0) a + S1x512x1024.size a ≤ S4x8192x1024.size a) ∧
  (∀ (k0_h3 : k0_cond3 i k0_t1 arg41_r0 arg42_r0 = 1#1), ∀ a, (k0_off13 arg13_r0) a + S1.size a ≤ S2.size a) ∧
  (∀ (k0_h3 : k0_cond3 i k0_t1 arg41_r0 arg42_r0 = 1#1), ∀ a, (k0_off14 arg13_r0) a + S1x1x512x1024.size a ≤ S2x1x512x1024.size a) ∧
  (∀ (k0_h3 : k0_cond3 i k0_t1 arg41_r0 arg42_r0 = 1#1), ∀ a, (k0_off15 i arg41_r0 arg42_r0) a + S1x512x1024.size a ≤ S4x8192x1024.size a) ∧
  (∀ (k0_h4 : k0_cond4 i k0_t1 arg41_r0 arg42_r0 = 1#1), ∀ a, (k0_off16 arg15_r0) a + S1.size a ≤ S2.size a) ∧
  (∀ (k0_h4 : k0_cond4 i k0_t1 arg41_r0 arg42_r0 = 1#1), ∀ a, (k0_off17 arg15_r0) a + S1x1x512x1024.size a ≤ S2x1x512x1024.size a) ∧
  (∀ (k0_h4 : k0_cond4 i k0_t1 arg41_r0 arg42_r0 = 1#1), ∀ a, (k0_off18 i arg41_r0 arg42_r0) a + S1x512x1024.size a ≤ S4x8192x1024.size a) ∧
  (∀ (k0_h5 : k0_cond5 i k0_t1 arg41_r0 arg42_r0 = 1#1), ∀ a, (k0_off19 arg10_r0) a + S1.size a ≤ S2.size a) ∧
  (∀ (k0_h5 : k0_cond5 i k0_t1 arg41_r0 arg42_r0 = 1#1), ∀ a, (k0_off20 arg10_r0) a + S1x1x512x1024.size a ≤ S2x1x512x1024.size a) ∧
  (∀ (k0_h5 : k0_cond5 i k0_t1 arg41_r0 arg42_r0 = 1#1), ∀ a, (k0_off21 i arg41_r0 arg42_r0) a + S1x512x1024.size a ≤ S4x8192x1024.size a) ∧
  (∀ (k0_h6 : k0_cond6 i k0_t1 arg41_r0 arg42_r0 = 1#1), ∀ a, (k0_off22 arg12_r0) a + S1.size a ≤ S2.size a) ∧
  (∀ (k0_h6 : k0_cond6 i k0_t1 arg41_r0 arg42_r0 = 1#1), ∀ a, (k0_off23 arg12_r0) a + S1x1x512x1024.size a ≤ S2x1x512x1024.size a) ∧
  (∀ (k0_h6 : k0_cond6 i k0_t1 arg41_r0 arg42_r0 = 1#1), ∀ a, (k0_off24 i arg41_r0 arg42_r0) a + S1x512x1024.size a ≤ S4x8192x1024.size a) ∧
  (∀ (k0_h7 : k0_cond7 i k0_t1 arg41_r0 arg42_r0 = 1#1), ∀ a, (k0_off25 arg14_r0) a + S1.size a ≤ S2.size a) ∧
  (∀ (k0_h7 : k0_cond7 i k0_t1 arg41_r0 arg42_r0 = 1#1), ∀ a, (k0_off26 arg14_r0) a + S1x1x512x1024.size a ≤ S2x1x512x1024.size a) ∧
  (∀ (k0_h7 : k0_cond7 i k0_t1 arg41_r0 arg42_r0 = 1#1), ∀ a, (k0_off27 i arg41_r0 arg42_r0) a + S1x512x1024.size a ≤ S4x8192x1024.size a) ∧
  (∀ (k0_h8 : k0_cond8 i k0_t1 arg41_r0 arg42_r0 = 1#1), ∀ a, (k0_off28 arg16_r0) a + S1.size a ≤ S2.size a) ∧
  (∀ (k0_h8 : k0_cond8 i k0_t1 arg41_r0 arg42_r0 = 1#1), ∀ a, (k0_off29 arg16_r0) a + S1x1x512x1024.size a ≤ S2x1x512x1024.size a) ∧
  (∀ (k0_h8 : k0_cond8 i k0_t1 arg41_r0 arg42_r0 = 1#1), ∀ a, (k0_off30 i arg41_r0 arg42_r0) a + S1x512x1024.size a ≤ S4x8192x1024.size a) ∧
  (∀ (k0_h25 : k0_cond25 i k0_t1 arg41_r0 arg42_r0 = 1#1), ∀ a, (k0_off47 arg17_r0) a + S1.size a ≤ S2.size a) ∧
  (∀ (k0_h25 : k0_cond25 i k0_t1 arg41_r0 arg42_r0 = 1#1), ∀ a, (k0_off48 i arg41_r0 arg42_r0) a + S1x8x512.size a ≤ S4x8x8192.size a) ∧
  (∀ (k0_h25 : k0_cond25 i k0_t1 arg41_r0 arg42_r0 = 1#1), ∀ a, (k0_off49 arg17_r0) a + S1x1x8x512.size a ≤ S2x1x8x512.size a) ∧
  (∀ (k0_h26 : k0_cond26 i k0_t1 arg41_r0 arg42_r0 = 1#1), ∀ a, (k0_off50 arg19_r0) a + S1.size a ≤ S2.size a) ∧
  (∀ (k0_h26 : k0_cond26 i k0_t1 arg41_r0 arg42_r0 = 1#1), ∀ a, (k0_off51 i arg41_r0 arg42_r0) a + S1x8x512.size a ≤ S4x8x8192.size a) ∧
  (∀ (k0_h26 : k0_cond26 i k0_t1 arg41_r0 arg42_r0 = 1#1), ∀ a, (k0_off52 arg19_r0) a + S1x1x8x512.size a ≤ S2x1x8x512.size a) ∧
  (∀ (k0_h27 : k0_cond27 i k0_t1 arg41_r0 arg42_r0 = 1#1), ∀ a, (k0_off53 arg21_r0) a + S1.size a ≤ S2.size a) ∧
  (∀ (k0_h27 : k0_cond27 i k0_t1 arg41_r0 arg42_r0 = 1#1), ∀ a, (k0_off54 i arg41_r0 arg42_r0) a + S1x8x512.size a ≤ S4x8x8192.size a)
def k0_chk1_1 (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) : Prop :=
  (∀ (k0_h27 : k0_cond27 i k0_t1 arg41_r0 arg42_r0 = 1#1), ∀ a, (k0_off55 arg21_r0) a + S1x1x8x512.size a ≤ S2x1x8x512.size a) ∧
  (∀ (k0_h28 : k0_cond28 i k0_t1 arg41_r0 arg42_r0 = 1#1), ∀ a, (k0_off56 arg23_r0) a + S1.size a ≤ S2.size a) ∧
  (∀ (k0_h28 : k0_cond28 i k0_t1 arg41_r0 arg42_r0 = 1#1), ∀ a, (k0_off57 i arg41_r0 arg42_r0) a + S1x8x512.size a ≤ S4x8x8192.size a) ∧
  (∀ (k0_h28 : k0_cond28 i k0_t1 arg41_r0 arg42_r0 = 1#1), ∀ a, (k0_off58 arg23_r0) a + S1x1x8x512.size a ≤ S2x1x8x512.size a) ∧
  (∀ (k0_h29 : k0_cond29 i k0_t1 arg41_r0 arg42_r0 = 1#1), ∀ a, (k0_off59 arg25_r0) a + S1.size a ≤ S2.size a) ∧
  (∀ (k0_h29 : k0_cond29 i k0_t1 arg41_r0 arg42_r0 = 1#1), ∀ a, (k0_off60 i arg41_r0 arg42_r0) a + S1x2x512.size a ≤ S4x2x8192.size a) ∧
  (∀ (k0_h29 : k0_cond29 i k0_t1 arg41_r0 arg42_r0 = 1#1), ∀ a, (k0_off61 arg25_r0) a + S1x1x2x512.size a ≤ S2x1x2x512.size a) ∧
  (∀ (k0_h30 : k0_cond30 i k0_t1 arg41_r0 arg42_r0 = 1#1), ∀ a, (k0_off62 arg27_r0) a + S1.size a ≤ S2.size a) ∧
  (∀ (k0_h30 : k0_cond30 i k0_t1 arg41_r0 arg42_r0 = 1#1), ∀ a, (k0_off63 i arg41_r0 arg42_r0) a + S1x2x512.size a ≤ S4x2x8192.size a) ∧
  (∀ (k0_h30 : k0_cond30 i k0_t1 arg41_r0 arg42_r0 = 1#1), ∀ a, (k0_off64 arg27_r0) a + S1x1x2x512.size a ≤ S2x1x2x512.size a) ∧
  (∀ (k0_h31 : k0_cond31 i k0_t1 arg41_r0 arg42_r0 = 1#1), ∀ a, (k0_off65 arg29_r0) a + S1.size a ≤ S2.size a) ∧
  (∀ (k0_h31 : k0_cond31 i k0_t1 arg41_r0 arg42_r0 = 1#1), ∀ a, (k0_off66 i arg41_r0 arg42_r0) a + S1x2x512.size a ≤ S4x2x8192.size a) ∧
  (∀ (k0_h31 : k0_cond31 i k0_t1 arg41_r0 arg42_r0 = 1#1), ∀ a, (k0_off67 arg29_r0) a + S1x1x2x512.size a ≤ S2x1x2x512.size a) ∧
  (∀ (k0_h32 : k0_cond32 i k0_t1 arg41_r0 arg42_r0 = 1#1), ∀ a, (k0_off68 arg31_r0) a + S1.size a ≤ S2.size a) ∧
  (∀ (k0_h32 : k0_cond32 i k0_t1 arg41_r0 arg42_r0 = 1#1), ∀ a, (k0_off69 i arg41_r0 arg42_r0) a + S1x2x512.size a ≤ S4x2x8192.size a) ∧
  (∀ (k0_h32 : k0_cond32 i k0_t1 arg41_r0 arg42_r0 = 1#1), ∀ a, (k0_off70 arg31_r0) a + S1x1x2x512.size a ≤ S2x1x2x512.size a) ∧
  (∀ (k0_h33 : k0_cond33 i k0_t1 arg41_r0 arg42_r0 = 1#1), ∀ a, (k0_off71 arg33_r0) a + S1.size a ≤ S2.size a) ∧
  (∀ (k0_h33 : k0_cond33 i k0_t1 arg41_r0 arg42_r0 = 1#1), ∀ a, (k0_off72 i arg41_r0 arg42_r0) a + S1x2x512.size a ≤ S4x2x8192.size a) ∧
  (∀ (k0_h33 : k0_cond33 i k0_t1 arg41_r0 arg42_r0 = 1#1), ∀ a, (k0_off73 arg33_r0) a + S1x1x2x512.size a ≤ S2x1x2x512.size a) ∧
  (∀ (k0_h34 : k0_cond34 i k0_t1 arg41_r0 arg42_r0 = 1#1), ∀ a, (k0_off74 arg35_r0) a + S1.size a ≤ S2.size a) ∧
  (∀ (k0_h34 : k0_cond34 i k0_t1 arg41_r0 arg42_r0 = 1#1), ∀ a, (k0_off75 i arg41_r0 arg42_r0) a + S1x2x512.size a ≤ S4x2x8192.size a) ∧
  (∀ (k0_h34 : k0_cond34 i k0_t1 arg41_r0 arg42_r0 = 1#1), ∀ a, (k0_off76 arg35_r0) a + S1x1x2x512.size a ≤ S2x1x2x512.size a) ∧
  (∀ (k0_h35 : k0_cond35 i k0_t1 arg41_r0 arg42_r0 = 1#1), ∀ a, (k0_off77 arg37_r0) a + S1.size a ≤ S2.size a) ∧
  (∀ (k0_h35 : k0_cond35 i k0_t1 arg41_r0 arg42_r0 = 1#1), ∀ a, (k0_off78 i arg41_r0 arg42_r0) a + S1x2x512.size a ≤ S4x2x8192.size a) ∧
  (∀ (k0_h35 : k0_cond35 i k0_t1 arg41_r0 arg42_r0 = 1#1), ∀ a, (k0_off79 arg37_r0) a + S1x1x2x512.size a ≤ S2x1x2x512.size a) ∧
  (∀ (k0_h36 : k0_cond36 i k0_t1 arg41_r0 arg42_r0 = 1#1), ∀ a, (k0_off80 arg39_r0) a + S1.size a ≤ S2.size a) ∧
  (∀ (k0_h36 : k0_cond36 i k0_t1 arg41_r0 arg42_r0 = 1#1), ∀ a, (k0_off81 i arg41_r0 arg42_r0) a + S1x2x512.size a ≤ S4x2x8192.size a) ∧
  (∀ (k0_h36 : k0_cond36 i k0_t1 arg41_r0 arg42_r0 = 1#1), ∀ a, (k0_off82 arg39_r0) a + S1x1x2x512.size a ≤ S2x1x2x512.size a) ∧
  (∀ (k0_h41 : k0_cond41 i k0_t1 arg41_r0 arg42_r0 = 1#1), ∀ a, (k0_off83 arg18_r0) a + S1.size a ≤ S2.size a) ∧
  (∀ (k0_h41 : k0_cond41 i k0_t1 arg41_r0 arg42_r0 = 1#1), ∀ a, (k0_off84 i arg41_r0 arg42_r0) a + S1x8x512.size a ≤ S4x8x8192.size a) ∧
  (∀ (k0_h41 : k0_cond41 i k0_t1 arg41_r0 arg42_r0 = 1#1), ∀ a, (k0_off85 arg18_r0) a + S1x1x8x512.size a ≤ S2x1x8x512.size a) ∧
  (∀ (k0_h42 : k0_cond42 i k0_t1 arg41_r0 arg42_r0 = 1#1), ∀ a, (k0_off86 arg20_r0) a + S1.size a ≤ S2.size a)
def k0_chk1_2 (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) : Prop :=
  (∀ (k0_h42 : k0_cond42 i k0_t1 arg41_r0 arg42_r0 = 1#1), ∀ a, (k0_off87 i arg41_r0 arg42_r0) a + S1x8x512.size a ≤ S4x8x8192.size a) ∧
  (∀ (k0_h42 : k0_cond42 i k0_t1 arg41_r0 arg42_r0 = 1#1), ∀ a, (k0_off88 arg20_r0) a + S1x1x8x512.size a ≤ S2x1x8x512.size a) ∧
  (∀ (k0_h43 : k0_cond43 i k0_t1 arg41_r0 arg42_r0 = 1#1), ∀ a, (k0_off89 arg22_r0) a + S1.size a ≤ S2.size a) ∧
  (∀ (k0_h43 : k0_cond43 i k0_t1 arg41_r0 arg42_r0 = 1#1), ∀ a, (k0_off90 i arg41_r0 arg42_r0) a + S1x8x512.size a ≤ S4x8x8192.size a) ∧
  (∀ (k0_h43 : k0_cond43 i k0_t1 arg41_r0 arg42_r0 = 1#1), ∀ a, (k0_off91 arg22_r0) a + S1x1x8x512.size a ≤ S2x1x8x512.size a) ∧
  (∀ (k0_h44 : k0_cond44 i k0_t1 arg41_r0 arg42_r0 = 1#1), ∀ a, (k0_off92 arg24_r0) a + S1.size a ≤ S2.size a) ∧
  (∀ (k0_h44 : k0_cond44 i k0_t1 arg41_r0 arg42_r0 = 1#1), ∀ a, (k0_off93 i arg41_r0 arg42_r0) a + S1x8x512.size a ≤ S4x8x8192.size a) ∧
  (∀ (k0_h44 : k0_cond44 i k0_t1 arg41_r0 arg42_r0 = 1#1), ∀ a, (k0_off94 arg24_r0) a + S1x1x8x512.size a ≤ S2x1x8x512.size a) ∧
  (∀ (k0_h45 : k0_cond45 i k0_t1 arg41_r0 arg42_r0 = 1#1), ∀ a, (k0_off95 arg26_r0) a + S1.size a ≤ S2.size a) ∧
  (∀ (k0_h45 : k0_cond45 i k0_t1 arg41_r0 arg42_r0 = 1#1), ∀ a, (k0_off96 i arg41_r0 arg42_r0) a + S1x2x512.size a ≤ S4x2x8192.size a) ∧
  (∀ (k0_h45 : k0_cond45 i k0_t1 arg41_r0 arg42_r0 = 1#1), ∀ a, (k0_off97 arg26_r0) a + S1x1x2x512.size a ≤ S2x1x2x512.size a) ∧
  (∀ (k0_h46 : k0_cond46 i k0_t1 arg41_r0 arg42_r0 = 1#1), ∀ a, (k0_off98 arg28_r0) a + S1.size a ≤ S2.size a) ∧
  (∀ (k0_h46 : k0_cond46 i k0_t1 arg41_r0 arg42_r0 = 1#1), ∀ a, (k0_off99 i arg41_r0 arg42_r0) a + S1x2x512.size a ≤ S4x2x8192.size a) ∧
  (∀ (k0_h46 : k0_cond46 i k0_t1 arg41_r0 arg42_r0 = 1#1), ∀ a, (k0_off100 arg28_r0) a + S1x1x2x512.size a ≤ S2x1x2x512.size a) ∧
  (∀ (k0_h47 : k0_cond47 i k0_t1 arg41_r0 arg42_r0 = 1#1), ∀ a, (k0_off101 arg30_r0) a + S1.size a ≤ S2.size a) ∧
  (∀ (k0_h47 : k0_cond47 i k0_t1 arg41_r0 arg42_r0 = 1#1), ∀ a, (k0_off102 i arg41_r0 arg42_r0) a + S1x2x512.size a ≤ S4x2x8192.size a) ∧
  (∀ (k0_h47 : k0_cond47 i k0_t1 arg41_r0 arg42_r0 = 1#1), ∀ a, (k0_off103 arg30_r0) a + S1x1x2x512.size a ≤ S2x1x2x512.size a) ∧
  (∀ (k0_h48 : k0_cond48 i k0_t1 arg41_r0 arg42_r0 = 1#1), ∀ a, (k0_off104 arg32_r0) a + S1.size a ≤ S2.size a) ∧
  (∀ (k0_h48 : k0_cond48 i k0_t1 arg41_r0 arg42_r0 = 1#1), ∀ a, (k0_off105 i arg41_r0 arg42_r0) a + S1x2x512.size a ≤ S4x2x8192.size a) ∧
  (∀ (k0_h48 : k0_cond48 i k0_t1 arg41_r0 arg42_r0 = 1#1), ∀ a, (k0_off106 arg32_r0) a + S1x1x2x512.size a ≤ S2x1x2x512.size a) ∧
  (∀ (k0_h49 : k0_cond49 i k0_t1 arg41_r0 arg42_r0 = 1#1), ∀ a, (k0_off107 arg34_r0) a + S1.size a ≤ S2.size a) ∧
  (∀ (k0_h49 : k0_cond49 i k0_t1 arg41_r0 arg42_r0 = 1#1), ∀ a, (k0_off108 i arg41_r0 arg42_r0) a + S1x2x512.size a ≤ S4x2x8192.size a) ∧
  (∀ (k0_h49 : k0_cond49 i k0_t1 arg41_r0 arg42_r0 = 1#1), ∀ a, (k0_off109 arg34_r0) a + S1x1x2x512.size a ≤ S2x1x2x512.size a) ∧
  (∀ (k0_h50 : k0_cond50 i k0_t1 arg41_r0 arg42_r0 = 1#1), ∀ a, (k0_off110 arg36_r0) a + S1.size a ≤ S2.size a) ∧
  (∀ (k0_h50 : k0_cond50 i k0_t1 arg41_r0 arg42_r0 = 1#1), ∀ a, (k0_off111 i arg41_r0 arg42_r0) a + S1x2x512.size a ≤ S4x2x8192.size a) ∧
  (∀ (k0_h50 : k0_cond50 i k0_t1 arg41_r0 arg42_r0 = 1#1), ∀ a, (k0_off112 arg36_r0) a + S1x1x2x512.size a ≤ S2x1x2x512.size a) ∧
  (∀ (k0_h51 : k0_cond51 i k0_t1 arg41_r0 arg42_r0 = 1#1), ∀ a, (k0_off113 arg38_r0) a + S1.size a ≤ S2.size a) ∧
  (∀ (k0_h51 : k0_cond51 i k0_t1 arg41_r0 arg42_r0 = 1#1), ∀ a, (k0_off114 i arg41_r0 arg42_r0) a + S1x2x512.size a ≤ S4x2x8192.size a) ∧
  (∀ (k0_h51 : k0_cond51 i k0_t1 arg41_r0 arg42_r0 = 1#1), ∀ a, (k0_off115 arg38_r0) a + S1x1x2x512.size a ≤ S2x1x2x512.size a) ∧
  (∀ (k0_h52 : k0_cond52 i k0_t1 arg41_r0 arg42_r0 = 1#1), ∀ a, (k0_off116 arg40_r0) a + S1.size a ≤ S2.size a) ∧
  (∀ (k0_h52 : k0_cond52 i k0_t1 arg41_r0 arg42_r0 = 1#1), ∀ a, (k0_off117 i arg41_r0 arg42_r0) a + S1x2x512.size a ≤ S4x2x8192.size a) ∧
  (∀ (k0_h52 : k0_cond52 i k0_t1 arg41_r0 arg42_r0 = 1#1), ∀ a, (k0_off118 arg40_r0) a + S1x1x2x512.size a ≤ S2x1x2x512.size a)
def k0_chk1 (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) : Prop :=
  k0_chk1_0 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 ∧
  k0_chk1_1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 ∧
  k0_chk1_2 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0
theorem k0_off7_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h1 : k0_cond1 i k0_t1 arg41_r0 arg42_r0 = 1#1), ∀ a, (k0_off7 arg9_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h1 => k0_hw1.1.1 k0_h1
theorem k0_off8_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h1 : k0_cond1 i k0_t1 arg41_r0 arg42_r0 = 1#1), ∀ a, (k0_off8 arg9_r0) a + S1x1x512x1024.size a ≤ S2x1x512x1024.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h1 => k0_hw1.1.2.1 k0_h1
theorem k0_off9_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h1 : k0_cond1 i k0_t1 arg41_r0 arg42_r0 = 1#1), ∀ a, (k0_off9 i arg41_r0 arg42_r0) a + S1x512x1024.size a ≤ S4x8192x1024.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h1 => k0_hw1.1.2.2.1 k0_h1
theorem k0_off10_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h2 : k0_cond2 i k0_t1 arg41_r0 arg42_r0 = 1#1), ∀ a, (k0_off10 arg11_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h2 => k0_hw1.1.2.2.2.1 k0_h2
theorem k0_off11_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h2 : k0_cond2 i k0_t1 arg41_r0 arg42_r0 = 1#1), ∀ a, (k0_off11 arg11_r0) a + S1x1x512x1024.size a ≤ S2x1x512x1024.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h2 => k0_hw1.1.2.2.2.2.1 k0_h2
theorem k0_off12_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h2 : k0_cond2 i k0_t1 arg41_r0 arg42_r0 = 1#1), ∀ a, (k0_off12 i arg41_r0 arg42_r0) a + S1x512x1024.size a ≤ S4x8192x1024.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h2 => k0_hw1.1.2.2.2.2.2.1 k0_h2
theorem k0_off13_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h3 : k0_cond3 i k0_t1 arg41_r0 arg42_r0 = 1#1), ∀ a, (k0_off13 arg13_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h3 => k0_hw1.1.2.2.2.2.2.2.1 k0_h3
theorem k0_off14_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h3 : k0_cond3 i k0_t1 arg41_r0 arg42_r0 = 1#1), ∀ a, (k0_off14 arg13_r0) a + S1x1x512x1024.size a ≤ S2x1x512x1024.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h3 => k0_hw1.1.2.2.2.2.2.2.2.1 k0_h3
theorem k0_off15_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h3 : k0_cond3 i k0_t1 arg41_r0 arg42_r0 = 1#1), ∀ a, (k0_off15 i arg41_r0 arg42_r0) a + S1x512x1024.size a ≤ S4x8192x1024.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h3 => k0_hw1.1.2.2.2.2.2.2.2.2.1 k0_h3
theorem k0_off16_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h4 : k0_cond4 i k0_t1 arg41_r0 arg42_r0 = 1#1), ∀ a, (k0_off16 arg15_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h4 => k0_hw1.1.2.2.2.2.2.2.2.2.2.1 k0_h4
theorem k0_off17_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h4 : k0_cond4 i k0_t1 arg41_r0 arg42_r0 = 1#1), ∀ a, (k0_off17 arg15_r0) a + S1x1x512x1024.size a ≤ S2x1x512x1024.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h4 => k0_hw1.1.2.2.2.2.2.2.2.2.2.2.1 k0_h4
theorem k0_off18_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h4 : k0_cond4 i k0_t1 arg41_r0 arg42_r0 = 1#1), ∀ a, (k0_off18 i arg41_r0 arg42_r0) a + S1x512x1024.size a ≤ S4x8192x1024.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h4 => k0_hw1.1.2.2.2.2.2.2.2.2.2.2.2.1 k0_h4
theorem k0_off19_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h5 : k0_cond5 i k0_t1 arg41_r0 arg42_r0 = 1#1), ∀ a, (k0_off19 arg10_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h5 => k0_hw1.1.2.2.2.2.2.2.2.2.2.2.2.2.1 k0_h5
theorem k0_off20_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h5 : k0_cond5 i k0_t1 arg41_r0 arg42_r0 = 1#1), ∀ a, (k0_off20 arg10_r0) a + S1x1x512x1024.size a ≤ S2x1x512x1024.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h5 => k0_hw1.1.2.2.2.2.2.2.2.2.2.2.2.2.2.1 k0_h5
theorem k0_off21_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h5 : k0_cond5 i k0_t1 arg41_r0 arg42_r0 = 1#1), ∀ a, (k0_off21 i arg41_r0 arg42_r0) a + S1x512x1024.size a ≤ S4x8192x1024.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h5 => k0_hw1.1.2.2.2.2.2.2.2.2.2.2.2.2.2.2.1 k0_h5
theorem k0_off22_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h6 : k0_cond6 i k0_t1 arg41_r0 arg42_r0 = 1#1), ∀ a, (k0_off22 arg12_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h6 => k0_hw1.1.2.2.2.2.2.2.2.2.2.2.2.2.2.2.2.1 k0_h6
theorem k0_off23_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h6 : k0_cond6 i k0_t1 arg41_r0 arg42_r0 = 1#1), ∀ a, (k0_off23 arg12_r0) a + S1x1x512x1024.size a ≤ S2x1x512x1024.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h6 => k0_hw1.1.2.2.2.2.2.2.2.2.2.2.2.2.2.2.2.2.1 k0_h6
theorem k0_off24_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h6 : k0_cond6 i k0_t1 arg41_r0 arg42_r0 = 1#1), ∀ a, (k0_off24 i arg41_r0 arg42_r0) a + S1x512x1024.size a ≤ S4x8192x1024.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h6 => k0_hw1.1.2.2.2.2.2.2.2.2.2.2.2.2.2.2.2.2.2.1 k0_h6
theorem k0_off25_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h7 : k0_cond7 i k0_t1 arg41_r0 arg42_r0 = 1#1), ∀ a, (k0_off25 arg14_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h7 => k0_hw1.1.2.2.2.2.2.2.2.2.2.2.2.2.2.2.2.2.2.2.1 k0_h7
theorem k0_off26_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h7 : k0_cond7 i k0_t1 arg41_r0 arg42_r0 = 1#1), ∀ a, (k0_off26 arg14_r0) a + S1x1x512x1024.size a ≤ S2x1x512x1024.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h7 => k0_hw1.1.2.2.2.2.2.2.2.2.2.2.2.2.2.2.2.2.2.2.2.1 k0_h7
theorem k0_off27_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h7 : k0_cond7 i k0_t1 arg41_r0 arg42_r0 = 1#1), ∀ a, (k0_off27 i arg41_r0 arg42_r0) a + S1x512x1024.size a ≤ S4x8192x1024.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h7 => k0_hw1.1.2.2.2.2.2.2.2.2.2.2.2.2.2.2.2.2.2.2.2.2.1 k0_h7
theorem k0_off28_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h8 : k0_cond8 i k0_t1 arg41_r0 arg42_r0 = 1#1), ∀ a, (k0_off28 arg16_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h8 => k0_hw1.1.2.2.2.2.2.2.2.2.2.2.2.2.2.2.2.2.2.2.2.2.2.1 k0_h8
theorem k0_off29_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h8 : k0_cond8 i k0_t1 arg41_r0 arg42_r0 = 1#1), ∀ a, (k0_off29 arg16_r0) a + S1x1x512x1024.size a ≤ S2x1x512x1024.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h8 => k0_hw1.1.2.2.2.2.2.2.2.2.2.2.2.2.2.2.2.2.2.2.2.2.2.2.1 k0_h8
theorem k0_off30_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h8 : k0_cond8 i k0_t1 arg41_r0 arg42_r0 = 1#1), ∀ a, (k0_off30 i arg41_r0 arg42_r0) a + S1x512x1024.size a ≤ S4x8192x1024.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h8 => k0_hw1.1.2.2.2.2.2.2.2.2.2.2.2.2.2.2.2.2.2.2.2.2.2.2.2.1 k0_h8
theorem k0_off47_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h25 : k0_cond25 i k0_t1 arg41_r0 arg42_r0 = 1#1), ∀ a, (k0_off47 arg17_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h25 => k0_hw1.1.2.2.2.2.2.2.2.2.2.2.2.2.2.2.2.2.2.2.2.2.2.2.2.2.1 k0_h25
theorem k0_off48_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h25 : k0_cond25 i k0_t1 arg41_r0 arg42_r0 = 1#1), ∀ a, (k0_off48 i arg41_r0 arg42_r0) a + S1x8x512.size a ≤ S4x8x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h25 => k0_hw1.1.2.2.2.2.2.2.2.2.2.2.2.2.2.2.2.2.2.2.2.2.2.2.2.2.2.1 k0_h25
theorem k0_off49_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h25 : k0_cond25 i k0_t1 arg41_r0 arg42_r0 = 1#1), ∀ a, (k0_off49 arg17_r0) a + S1x1x8x512.size a ≤ S2x1x8x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h25 => k0_hw1.1.2.2.2.2.2.2.2.2.2.2.2.2.2.2.2.2.2.2.2.2.2.2.2.2.2.2.1 k0_h25
theorem k0_off50_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h26 : k0_cond26 i k0_t1 arg41_r0 arg42_r0 = 1#1), ∀ a, (k0_off50 arg19_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h26 => k0_hw1.1.2.2.2.2.2.2.2.2.2.2.2.2.2.2.2.2.2.2.2.2.2.2.2.2.2.2.2.1 k0_h26
theorem k0_off51_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h26 : k0_cond26 i k0_t1 arg41_r0 arg42_r0 = 1#1), ∀ a, (k0_off51 i arg41_r0 arg42_r0) a + S1x8x512.size a ≤ S4x8x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h26 => k0_hw1.1.2.2.2.2.2.2.2.2.2.2.2.2.2.2.2.2.2.2.2.2.2.2.2.2.2.2.2.2.1 k0_h26
theorem k0_off52_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h26 : k0_cond26 i k0_t1 arg41_r0 arg42_r0 = 1#1), ∀ a, (k0_off52 arg19_r0) a + S1x1x8x512.size a ≤ S2x1x8x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h26 => k0_hw1.1.2.2.2.2.2.2.2.2.2.2.2.2.2.2.2.2.2.2.2.2.2.2.2.2.2.2.2.2.2.1 k0_h26
theorem k0_off53_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h27 : k0_cond27 i k0_t1 arg41_r0 arg42_r0 = 1#1), ∀ a, (k0_off53 arg21_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h27 => k0_hw1.1.2.2.2.2.2.2.2.2.2.2.2.2.2.2.2.2.2.2.2.2.2.2.2.2.2.2.2.2.2.2.1 k0_h27
theorem k0_off54_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h27 : k0_cond27 i k0_t1 arg41_r0 arg42_r0 = 1#1), ∀ a, (k0_off54 i arg41_r0 arg42_r0) a + S1x8x512.size a ≤ S4x8x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h27 => k0_hw1.1.2.2.2.2.2.2.2.2.2.2.2.2.2.2.2.2.2.2.2.2.2.2.2.2.2.2.2.2.2.2.2 k0_h27
theorem k0_off55_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h27 : k0_cond27 i k0_t1 arg41_r0 arg42_r0 = 1#1), ∀ a, (k0_off55 arg21_r0) a + S1x1x8x512.size a ≤ S2x1x8x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h27 => k0_hw1.2.1.1 k0_h27
theorem k0_off56_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h28 : k0_cond28 i k0_t1 arg41_r0 arg42_r0 = 1#1), ∀ a, (k0_off56 arg23_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h28 => k0_hw1.2.1.2.1 k0_h28
theorem k0_off57_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h28 : k0_cond28 i k0_t1 arg41_r0 arg42_r0 = 1#1), ∀ a, (k0_off57 i arg41_r0 arg42_r0) a + S1x8x512.size a ≤ S4x8x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h28 => k0_hw1.2.1.2.2.1 k0_h28
theorem k0_off58_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h28 : k0_cond28 i k0_t1 arg41_r0 arg42_r0 = 1#1), ∀ a, (k0_off58 arg23_r0) a + S1x1x8x512.size a ≤ S2x1x8x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h28 => k0_hw1.2.1.2.2.2.1 k0_h28
theorem k0_off59_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h29 : k0_cond29 i k0_t1 arg41_r0 arg42_r0 = 1#1), ∀ a, (k0_off59 arg25_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h29 => k0_hw1.2.1.2.2.2.2.1 k0_h29
theorem k0_off60_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h29 : k0_cond29 i k0_t1 arg41_r0 arg42_r0 = 1#1), ∀ a, (k0_off60 i arg41_r0 arg42_r0) a + S1x2x512.size a ≤ S4x2x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h29 => k0_hw1.2.1.2.2.2.2.2.1 k0_h29
theorem k0_off61_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h29 : k0_cond29 i k0_t1 arg41_r0 arg42_r0 = 1#1), ∀ a, (k0_off61 arg25_r0) a + S1x1x2x512.size a ≤ S2x1x2x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h29 => k0_hw1.2.1.2.2.2.2.2.2.1 k0_h29
theorem k0_off62_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h30 : k0_cond30 i k0_t1 arg41_r0 arg42_r0 = 1#1), ∀ a, (k0_off62 arg27_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h30 => k0_hw1.2.1.2.2.2.2.2.2.2.1 k0_h30
theorem k0_off63_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h30 : k0_cond30 i k0_t1 arg41_r0 arg42_r0 = 1#1), ∀ a, (k0_off63 i arg41_r0 arg42_r0) a + S1x2x512.size a ≤ S4x2x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h30 => k0_hw1.2.1.2.2.2.2.2.2.2.2.1 k0_h30
theorem k0_off64_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h30 : k0_cond30 i k0_t1 arg41_r0 arg42_r0 = 1#1), ∀ a, (k0_off64 arg27_r0) a + S1x1x2x512.size a ≤ S2x1x2x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h30 => k0_hw1.2.1.2.2.2.2.2.2.2.2.2.1 k0_h30
theorem k0_off65_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h31 : k0_cond31 i k0_t1 arg41_r0 arg42_r0 = 1#1), ∀ a, (k0_off65 arg29_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h31 => k0_hw1.2.1.2.2.2.2.2.2.2.2.2.2.1 k0_h31
theorem k0_off66_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h31 : k0_cond31 i k0_t1 arg41_r0 arg42_r0 = 1#1), ∀ a, (k0_off66 i arg41_r0 arg42_r0) a + S1x2x512.size a ≤ S4x2x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h31 => k0_hw1.2.1.2.2.2.2.2.2.2.2.2.2.2.1 k0_h31
theorem k0_off67_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h31 : k0_cond31 i k0_t1 arg41_r0 arg42_r0 = 1#1), ∀ a, (k0_off67 arg29_r0) a + S1x1x2x512.size a ≤ S2x1x2x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h31 => k0_hw1.2.1.2.2.2.2.2.2.2.2.2.2.2.2.1 k0_h31
theorem k0_off68_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h32 : k0_cond32 i k0_t1 arg41_r0 arg42_r0 = 1#1), ∀ a, (k0_off68 arg31_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h32 => k0_hw1.2.1.2.2.2.2.2.2.2.2.2.2.2.2.2.1 k0_h32
theorem k0_off69_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h32 : k0_cond32 i k0_t1 arg41_r0 arg42_r0 = 1#1), ∀ a, (k0_off69 i arg41_r0 arg42_r0) a + S1x2x512.size a ≤ S4x2x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h32 => k0_hw1.2.1.2.2.2.2.2.2.2.2.2.2.2.2.2.2.1 k0_h32
theorem k0_off70_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h32 : k0_cond32 i k0_t1 arg41_r0 arg42_r0 = 1#1), ∀ a, (k0_off70 arg31_r0) a + S1x1x2x512.size a ≤ S2x1x2x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h32 => k0_hw1.2.1.2.2.2.2.2.2.2.2.2.2.2.2.2.2.2.1 k0_h32
theorem k0_off71_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h33 : k0_cond33 i k0_t1 arg41_r0 arg42_r0 = 1#1), ∀ a, (k0_off71 arg33_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h33 => k0_hw1.2.1.2.2.2.2.2.2.2.2.2.2.2.2.2.2.2.2.1 k0_h33
theorem k0_off72_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h33 : k0_cond33 i k0_t1 arg41_r0 arg42_r0 = 1#1), ∀ a, (k0_off72 i arg41_r0 arg42_r0) a + S1x2x512.size a ≤ S4x2x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h33 => k0_hw1.2.1.2.2.2.2.2.2.2.2.2.2.2.2.2.2.2.2.2.1 k0_h33
theorem k0_off73_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h33 : k0_cond33 i k0_t1 arg41_r0 arg42_r0 = 1#1), ∀ a, (k0_off73 arg33_r0) a + S1x1x2x512.size a ≤ S2x1x2x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h33 => k0_hw1.2.1.2.2.2.2.2.2.2.2.2.2.2.2.2.2.2.2.2.2.1 k0_h33
theorem k0_off74_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h34 : k0_cond34 i k0_t1 arg41_r0 arg42_r0 = 1#1), ∀ a, (k0_off74 arg35_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h34 => k0_hw1.2.1.2.2.2.2.2.2.2.2.2.2.2.2.2.2.2.2.2.2.2.1 k0_h34
theorem k0_off75_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h34 : k0_cond34 i k0_t1 arg41_r0 arg42_r0 = 1#1), ∀ a, (k0_off75 i arg41_r0 arg42_r0) a + S1x2x512.size a ≤ S4x2x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h34 => k0_hw1.2.1.2.2.2.2.2.2.2.2.2.2.2.2.2.2.2.2.2.2.2.2.1 k0_h34
theorem k0_off76_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h34 : k0_cond34 i k0_t1 arg41_r0 arg42_r0 = 1#1), ∀ a, (k0_off76 arg35_r0) a + S1x1x2x512.size a ≤ S2x1x2x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h34 => k0_hw1.2.1.2.2.2.2.2.2.2.2.2.2.2.2.2.2.2.2.2.2.2.2.2.1 k0_h34
theorem k0_off77_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h35 : k0_cond35 i k0_t1 arg41_r0 arg42_r0 = 1#1), ∀ a, (k0_off77 arg37_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h35 => k0_hw1.2.1.2.2.2.2.2.2.2.2.2.2.2.2.2.2.2.2.2.2.2.2.2.2.1 k0_h35
theorem k0_off78_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h35 : k0_cond35 i k0_t1 arg41_r0 arg42_r0 = 1#1), ∀ a, (k0_off78 i arg41_r0 arg42_r0) a + S1x2x512.size a ≤ S4x2x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h35 => k0_hw1.2.1.2.2.2.2.2.2.2.2.2.2.2.2.2.2.2.2.2.2.2.2.2.2.2.1 k0_h35
theorem k0_off79_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h35 : k0_cond35 i k0_t1 arg41_r0 arg42_r0 = 1#1), ∀ a, (k0_off79 arg37_r0) a + S1x1x2x512.size a ≤ S2x1x2x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h35 => k0_hw1.2.1.2.2.2.2.2.2.2.2.2.2.2.2.2.2.2.2.2.2.2.2.2.2.2.2.1 k0_h35
theorem k0_off80_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h36 : k0_cond36 i k0_t1 arg41_r0 arg42_r0 = 1#1), ∀ a, (k0_off80 arg39_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h36 => k0_hw1.2.1.2.2.2.2.2.2.2.2.2.2.2.2.2.2.2.2.2.2.2.2.2.2.2.2.2.1 k0_h36
theorem k0_off81_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h36 : k0_cond36 i k0_t1 arg41_r0 arg42_r0 = 1#1), ∀ a, (k0_off81 i arg41_r0 arg42_r0) a + S1x2x512.size a ≤ S4x2x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h36 => k0_hw1.2.1.2.2.2.2.2.2.2.2.2.2.2.2.2.2.2.2.2.2.2.2.2.2.2.2.2.2.1 k0_h36
theorem k0_off82_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h36 : k0_cond36 i k0_t1 arg41_r0 arg42_r0 = 1#1), ∀ a, (k0_off82 arg39_r0) a + S1x1x2x512.size a ≤ S2x1x2x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h36 => k0_hw1.2.1.2.2.2.2.2.2.2.2.2.2.2.2.2.2.2.2.2.2.2.2.2.2.2.2.2.2.2.1 k0_h36
theorem k0_off83_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h41 : k0_cond41 i k0_t1 arg41_r0 arg42_r0 = 1#1), ∀ a, (k0_off83 arg18_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h41 => k0_hw1.2.1.2.2.2.2.2.2.2.2.2.2.2.2.2.2.2.2.2.2.2.2.2.2.2.2.2.2.2.2.1 k0_h41
theorem k0_off84_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h41 : k0_cond41 i k0_t1 arg41_r0 arg42_r0 = 1#1), ∀ a, (k0_off84 i arg41_r0 arg42_r0) a + S1x8x512.size a ≤ S4x8x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h41 => k0_hw1.2.1.2.2.2.2.2.2.2.2.2.2.2.2.2.2.2.2.2.2.2.2.2.2.2.2.2.2.2.2.2.1 k0_h41
theorem k0_off85_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h41 : k0_cond41 i k0_t1 arg41_r0 arg42_r0 = 1#1), ∀ a, (k0_off85 arg18_r0) a + S1x1x8x512.size a ≤ S2x1x8x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h41 => k0_hw1.2.1.2.2.2.2.2.2.2.2.2.2.2.2.2.2.2.2.2.2.2.2.2.2.2.2.2.2.2.2.2.2.1 k0_h41
theorem k0_off86_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h42 : k0_cond42 i k0_t1 arg41_r0 arg42_r0 = 1#1), ∀ a, (k0_off86 arg20_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h42 => k0_hw1.2.1.2.2.2.2.2.2.2.2.2.2.2.2.2.2.2.2.2.2.2.2.2.2.2.2.2.2.2.2.2.2.2 k0_h42
theorem k0_off87_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h42 : k0_cond42 i k0_t1 arg41_r0 arg42_r0 = 1#1), ∀ a, (k0_off87 i arg41_r0 arg42_r0) a + S1x8x512.size a ≤ S4x8x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h42 => k0_hw1.2.2.1 k0_h42
theorem k0_off88_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h42 : k0_cond42 i k0_t1 arg41_r0 arg42_r0 = 1#1), ∀ a, (k0_off88 arg20_r0) a + S1x1x8x512.size a ≤ S2x1x8x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h42 => k0_hw1.2.2.2.1 k0_h42
theorem k0_off89_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h43 : k0_cond43 i k0_t1 arg41_r0 arg42_r0 = 1#1), ∀ a, (k0_off89 arg22_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h43 => k0_hw1.2.2.2.2.1 k0_h43
theorem k0_off90_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h43 : k0_cond43 i k0_t1 arg41_r0 arg42_r0 = 1#1), ∀ a, (k0_off90 i arg41_r0 arg42_r0) a + S1x8x512.size a ≤ S4x8x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h43 => k0_hw1.2.2.2.2.2.1 k0_h43
theorem k0_off91_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h43 : k0_cond43 i k0_t1 arg41_r0 arg42_r0 = 1#1), ∀ a, (k0_off91 arg22_r0) a + S1x1x8x512.size a ≤ S2x1x8x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h43 => k0_hw1.2.2.2.2.2.2.1 k0_h43
theorem k0_off92_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h44 : k0_cond44 i k0_t1 arg41_r0 arg42_r0 = 1#1), ∀ a, (k0_off92 arg24_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h44 => k0_hw1.2.2.2.2.2.2.2.1 k0_h44
theorem k0_off93_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h44 : k0_cond44 i k0_t1 arg41_r0 arg42_r0 = 1#1), ∀ a, (k0_off93 i arg41_r0 arg42_r0) a + S1x8x512.size a ≤ S4x8x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h44 => k0_hw1.2.2.2.2.2.2.2.2.1 k0_h44
theorem k0_off94_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h44 : k0_cond44 i k0_t1 arg41_r0 arg42_r0 = 1#1), ∀ a, (k0_off94 arg24_r0) a + S1x1x8x512.size a ≤ S2x1x8x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h44 => k0_hw1.2.2.2.2.2.2.2.2.2.1 k0_h44
theorem k0_off95_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h45 : k0_cond45 i k0_t1 arg41_r0 arg42_r0 = 1#1), ∀ a, (k0_off95 arg26_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h45 => k0_hw1.2.2.2.2.2.2.2.2.2.2.1 k0_h45
theorem k0_off96_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h45 : k0_cond45 i k0_t1 arg41_r0 arg42_r0 = 1#1), ∀ a, (k0_off96 i arg41_r0 arg42_r0) a + S1x2x512.size a ≤ S4x2x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h45 => k0_hw1.2.2.2.2.2.2.2.2.2.2.2.1 k0_h45
theorem k0_off97_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h45 : k0_cond45 i k0_t1 arg41_r0 arg42_r0 = 1#1), ∀ a, (k0_off97 arg26_r0) a + S1x1x2x512.size a ≤ S2x1x2x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h45 => k0_hw1.2.2.2.2.2.2.2.2.2.2.2.2.1 k0_h45
theorem k0_off98_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h46 : k0_cond46 i k0_t1 arg41_r0 arg42_r0 = 1#1), ∀ a, (k0_off98 arg28_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h46 => k0_hw1.2.2.2.2.2.2.2.2.2.2.2.2.2.1 k0_h46
theorem k0_off99_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h46 : k0_cond46 i k0_t1 arg41_r0 arg42_r0 = 1#1), ∀ a, (k0_off99 i arg41_r0 arg42_r0) a + S1x2x512.size a ≤ S4x2x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h46 => k0_hw1.2.2.2.2.2.2.2.2.2.2.2.2.2.2.1 k0_h46
theorem k0_off100_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h46 : k0_cond46 i k0_t1 arg41_r0 arg42_r0 = 1#1), ∀ a, (k0_off100 arg28_r0) a + S1x1x2x512.size a ≤ S2x1x2x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h46 => k0_hw1.2.2.2.2.2.2.2.2.2.2.2.2.2.2.2.1 k0_h46
theorem k0_off101_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h47 : k0_cond47 i k0_t1 arg41_r0 arg42_r0 = 1#1), ∀ a, (k0_off101 arg30_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h47 => k0_hw1.2.2.2.2.2.2.2.2.2.2.2.2.2.2.2.2.1 k0_h47
theorem k0_off102_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h47 : k0_cond47 i k0_t1 arg41_r0 arg42_r0 = 1#1), ∀ a, (k0_off102 i arg41_r0 arg42_r0) a + S1x2x512.size a ≤ S4x2x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h47 => k0_hw1.2.2.2.2.2.2.2.2.2.2.2.2.2.2.2.2.2.1 k0_h47
theorem k0_off103_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h47 : k0_cond47 i k0_t1 arg41_r0 arg42_r0 = 1#1), ∀ a, (k0_off103 arg30_r0) a + S1x1x2x512.size a ≤ S2x1x2x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h47 => k0_hw1.2.2.2.2.2.2.2.2.2.2.2.2.2.2.2.2.2.2.1 k0_h47
theorem k0_off104_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h48 : k0_cond48 i k0_t1 arg41_r0 arg42_r0 = 1#1), ∀ a, (k0_off104 arg32_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h48 => k0_hw1.2.2.2.2.2.2.2.2.2.2.2.2.2.2.2.2.2.2.2.1 k0_h48
theorem k0_off105_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h48 : k0_cond48 i k0_t1 arg41_r0 arg42_r0 = 1#1), ∀ a, (k0_off105 i arg41_r0 arg42_r0) a + S1x2x512.size a ≤ S4x2x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h48 => k0_hw1.2.2.2.2.2.2.2.2.2.2.2.2.2.2.2.2.2.2.2.2.1 k0_h48
theorem k0_off106_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h48 : k0_cond48 i k0_t1 arg41_r0 arg42_r0 = 1#1), ∀ a, (k0_off106 arg32_r0) a + S1x1x2x512.size a ≤ S2x1x2x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h48 => k0_hw1.2.2.2.2.2.2.2.2.2.2.2.2.2.2.2.2.2.2.2.2.2.1 k0_h48
theorem k0_off107_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h49 : k0_cond49 i k0_t1 arg41_r0 arg42_r0 = 1#1), ∀ a, (k0_off107 arg34_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h49 => k0_hw1.2.2.2.2.2.2.2.2.2.2.2.2.2.2.2.2.2.2.2.2.2.2.1 k0_h49
theorem k0_off108_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h49 : k0_cond49 i k0_t1 arg41_r0 arg42_r0 = 1#1), ∀ a, (k0_off108 i arg41_r0 arg42_r0) a + S1x2x512.size a ≤ S4x2x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h49 => k0_hw1.2.2.2.2.2.2.2.2.2.2.2.2.2.2.2.2.2.2.2.2.2.2.2.1 k0_h49
theorem k0_off109_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h49 : k0_cond49 i k0_t1 arg41_r0 arg42_r0 = 1#1), ∀ a, (k0_off109 arg34_r0) a + S1x1x2x512.size a ≤ S2x1x2x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h49 => k0_hw1.2.2.2.2.2.2.2.2.2.2.2.2.2.2.2.2.2.2.2.2.2.2.2.2.1 k0_h49
theorem k0_off110_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h50 : k0_cond50 i k0_t1 arg41_r0 arg42_r0 = 1#1), ∀ a, (k0_off110 arg36_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h50 => k0_hw1.2.2.2.2.2.2.2.2.2.2.2.2.2.2.2.2.2.2.2.2.2.2.2.2.2.1 k0_h50
theorem k0_off111_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h50 : k0_cond50 i k0_t1 arg41_r0 arg42_r0 = 1#1), ∀ a, (k0_off111 i arg41_r0 arg42_r0) a + S1x2x512.size a ≤ S4x2x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h50 => k0_hw1.2.2.2.2.2.2.2.2.2.2.2.2.2.2.2.2.2.2.2.2.2.2.2.2.2.2.1 k0_h50
theorem k0_off112_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h50 : k0_cond50 i k0_t1 arg41_r0 arg42_r0 = 1#1), ∀ a, (k0_off112 arg36_r0) a + S1x1x2x512.size a ≤ S2x1x2x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h50 => k0_hw1.2.2.2.2.2.2.2.2.2.2.2.2.2.2.2.2.2.2.2.2.2.2.2.2.2.2.2.1 k0_h50
theorem k0_off113_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h51 : k0_cond51 i k0_t1 arg41_r0 arg42_r0 = 1#1), ∀ a, (k0_off113 arg38_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h51 => k0_hw1.2.2.2.2.2.2.2.2.2.2.2.2.2.2.2.2.2.2.2.2.2.2.2.2.2.2.2.2.1 k0_h51
theorem k0_off114_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h51 : k0_cond51 i k0_t1 arg41_r0 arg42_r0 = 1#1), ∀ a, (k0_off114 i arg41_r0 arg42_r0) a + S1x2x512.size a ≤ S4x2x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h51 => k0_hw1.2.2.2.2.2.2.2.2.2.2.2.2.2.2.2.2.2.2.2.2.2.2.2.2.2.2.2.2.2.1 k0_h51
theorem k0_off115_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h51 : k0_cond51 i k0_t1 arg41_r0 arg42_r0 = 1#1), ∀ a, (k0_off115 arg38_r0) a + S1x1x2x512.size a ≤ S2x1x2x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h51 => k0_hw1.2.2.2.2.2.2.2.2.2.2.2.2.2.2.2.2.2.2.2.2.2.2.2.2.2.2.2.2.2.2.1 k0_h51
theorem k0_off116_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h52 : k0_cond52 i k0_t1 arg41_r0 arg42_r0 = 1#1), ∀ a, (k0_off116 arg40_r0) a + S1.size a ≤ S2.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h52 => k0_hw1.2.2.2.2.2.2.2.2.2.2.2.2.2.2.2.2.2.2.2.2.2.2.2.2.2.2.2.2.2.2.2.1 k0_h52
theorem k0_off117_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h52 : k0_cond52 i k0_t1 arg41_r0 arg42_r0 = 1#1), ∀ a, (k0_off117 i arg41_r0 arg42_r0) a + S1x2x512.size a ≤ S4x2x8192.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h52 => k0_hw1.2.2.2.2.2.2.2.2.2.2.2.2.2.2.2.2.2.2.2.2.2.2.2.2.2.2.2.2.2.2.2.2.1 k0_h52
theorem k0_off118_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (k0_hw1 : k0_chk1 i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0), ∀ (k0_h52 : k0_cond52 i k0_t1 arg41_r0 arg42_r0 = 1#1), ∀ a, (k0_off118 arg40_r0) a + S1x1x2x512.size a ≤ S2x1x2x512.size a := fun i k0_t1 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 k0_hw1 k0_h52 => k0_hw1.2.2.2.2.2.2.2.2.2.2.2.2.2.2.2.2.2.2.2.2.2.2.2.2.2.2.2.2.2.2.2.2.2 k0_h52

def k0_off119 (v78_9_r0 : BitVec 32) : Fin 1 → Nat :=
  let c2_i32_141_r0 : BitVec 32 := 2#32
  let v119_r0 : BitVec 32 := Scalar.remui v78_9_r0 c2_i32_141_r0
  ![v119_r0.toNat]

def k0_off120 (i : grid0.Coords) (v78_33_r0 : BitVec 32) (v78_32_r0 : BitVec 32) : Fin 3 → Nat :=
  let c1_i32_143_r0 : BitVec 32 := 1#32
  let true_110_r0 : BitVec 1 := 1#1
  let c1_i32_109_r0 : BitVec 32 := 1#32
  let v79_r0 : BitVec 32 := Scalar.subi v78_33_r0 c1_i32_109_r0
  let v80_r0 : BitVec 32 := Scalar.select true_110_r0 v79_r0 v78_33_r0
  let c_m1_i32_111_r0 : BitVec 32 := 4294967295#32
  let v81_r0 : BitVec 1 := Scalar.cmpi .eq v80_r0 c_m1_i32_111_r0
  let c1_i32_113_r0 : BitVec 32 := 1#32
  let v83_r0 : BitVec 32 := Scalar.subi v78_32_r0 c1_i32_113_r0
  let v84_r0 : BitVec 32 := Scalar.select v81_r0 v83_r0 v78_32_r0
  let c_m1_i32_114_r0 : BitVec 32 := 4294967295#32
  let v85_r0 : BitVec 1 := Scalar.cmpi .eq v84_r0 c_m1_i32_114_r0
  let c1_i32_115_r0 : BitVec 32 := 1#32
  let v86_r0 : BitVec 32 := Scalar.select v85_r0 c1_i32_115_r0 v84_r0
  let arg0 : BitVec 32 := BitVec.ofNat 32 (i 0).val
  let c2_i32 : BitVec 32 := 2#32
  let v1 : BitVec 32 := Scalar.muli arg0 c2_i32
  let v87_r0 : BitVec 32 := Scalar.addi v86_r0 v1
  let v121_r0 : BitVec 32 := Scalar.muli c1_i32_143_r0 v87_r0
  let c0_i32_144_r0 : BitVec 32 := 0#32
  let c512_i32_r0 : BitVec 32 := 512#32
  let c0_i32_142_r0 : BitVec 32 := 0#32
  let c3_i32_112_r0 : BitVec 32 := 3#32
  let v82_r0 : BitVec 32 := Scalar.select v81_r0 c3_i32_112_r0 v80_r0
  let c0_i32_116_r0 : BitVec 32 := 0#32
  let v88_r0 : BitVec 32 := Scalar.addi v82_r0 c0_i32_116_r0
  let v120_r0 : BitVec 32 := Scalar.addi c0_i32_142_r0 v88_r0
  let v122_r0 : BitVec 32 := Scalar.muli c512_i32_r0 v120_r0
  ![v121_r0.toNat, 0, v122_r0.toNat]

def k0_off121 (v78_9_r0 : BitVec 32) : Fin 4 → Nat :=
  let c2_i32_141_r0 : BitVec 32 := 2#32
  let v119_r0 : BitVec 32 := Scalar.remui v78_9_r0 c2_i32_141_r0
  let c0_i32_145_r0 : BitVec 32 := 0#32
  let c0_i32_146_r0 : BitVec 32 := 0#32
  let c0_i32_147_r0 : BitVec 32 := 0#32
  ![v119_r0.toNat, 0, 0, 0]

def k0_chk18 (v78_9_r0 : BitVec 32) : Prop :=
  (∀ a, (k0_off119 v78_9_r0) a + S1.size a ≤ S2.size a) ∧
  (∀ a, (k0_off121 v78_9_r0) a + S1x1x8x512.size a ≤ S2x1x8x512.size a)
theorem k0_off119_inb : ∀ (v78_9_r0 : BitVec 32) (k0_hw18 : k0_chk18 v78_9_r0), ∀ a, (k0_off119 v78_9_r0) a + S1.size a ≤ S2.size a := fun v78_9_r0 k0_hw18 => k0_hw18.1
theorem k0_off121_inb : ∀ (v78_9_r0 : BitVec 32) (k0_hw18 : k0_chk18 v78_9_r0), ∀ a, (k0_off121 v78_9_r0) a + S1x1x8x512.size a ≤ S2x1x8x512.size a := fun v78_9_r0 k0_hw18 => k0_hw18.2

def k0_off122 (v78_11_r0 : BitVec 32) : Fin 1 → Nat :=
  let c2_i32_148_r0 : BitVec 32 := 2#32
  let v128_r0 : BitVec 32 := Scalar.remui v78_11_r0 c2_i32_148_r0
  ![v128_r0.toNat]

def k0_off123 (i : grid0.Coords) (v78_33_r0 : BitVec 32) (v78_32_r0 : BitVec 32) : Fin 3 → Nat :=
  let c1_i32_150_r0 : BitVec 32 := 1#32
  let true_110_r0 : BitVec 1 := 1#1
  let c1_i32_109_r0 : BitVec 32 := 1#32
  let v79_r0 : BitVec 32 := Scalar.subi v78_33_r0 c1_i32_109_r0
  let v80_r0 : BitVec 32 := Scalar.select true_110_r0 v79_r0 v78_33_r0
  let c_m1_i32_111_r0 : BitVec 32 := 4294967295#32
  let v81_r0 : BitVec 1 := Scalar.cmpi .eq v80_r0 c_m1_i32_111_r0
  let c1_i32_113_r0 : BitVec 32 := 1#32
  let v83_r0 : BitVec 32 := Scalar.subi v78_32_r0 c1_i32_113_r0
  let v84_r0 : BitVec 32 := Scalar.select v81_r0 v83_r0 v78_32_r0
  let c_m1_i32_114_r0 : BitVec 32 := 4294967295#32
  let v85_r0 : BitVec 1 := Scalar.cmpi .eq v84_r0 c_m1_i32_114_r0
  let c1_i32_115_r0 : BitVec 32 := 1#32
  let v86_r0 : BitVec 32 := Scalar.select v85_r0 c1_i32_115_r0 v84_r0
  let arg0 : BitVec 32 := BitVec.ofNat 32 (i 0).val
  let c2_i32 : BitVec 32 := 2#32
  let v1 : BitVec 32 := Scalar.muli arg0 c2_i32
  let v87_r0 : BitVec 32 := Scalar.addi v86_r0 v1
  let v130_r0 : BitVec 32 := Scalar.muli c1_i32_150_r0 v87_r0
  let c0_i32_152_r0 : BitVec 32 := 0#32
  let c512_i32_151_r0 : BitVec 32 := 512#32
  let c4_i32_149_r0 : BitVec 32 := 4#32
  let c3_i32_112_r0 : BitVec 32 := 3#32
  let v82_r0 : BitVec 32 := Scalar.select v81_r0 c3_i32_112_r0 v80_r0
  let c0_i32_116_r0 : BitVec 32 := 0#32
  let v88_r0 : BitVec 32 := Scalar.addi v82_r0 c0_i32_116_r0
  let v129_r0 : BitVec 32 := Scalar.addi c4_i32_149_r0 v88_r0
  let v131_r0 : BitVec 32 := Scalar.muli c512_i32_151_r0 v129_r0
  ![v130_r0.toNat, 0, v131_r0.toNat]
def k0_off124 (v78_11_r0 : BitVec 32) : Fin 4 → Nat :=
  let c2_i32_148_r0 : BitVec 32 := 2#32
  let v128_r0 : BitVec 32 := Scalar.remui v78_11_r0 c2_i32_148_r0
  let c0_i32_153_r0 : BitVec 32 := 0#32
  let c0_i32_154_r0 : BitVec 32 := 0#32
  let c0_i32_155_r0 : BitVec 32 := 0#32
  ![v128_r0.toNat, 0, 0, 0]

def k0_chk20 (v78_11_r0 : BitVec 32) : Prop :=
  (∀ a, (k0_off122 v78_11_r0) a + S1.size a ≤ S2.size a) ∧
  (∀ a, (k0_off124 v78_11_r0) a + S1x1x8x512.size a ≤ S2x1x8x512.size a)
theorem k0_off122_inb : ∀ (v78_11_r0 : BitVec 32) (k0_hw20 : k0_chk20 v78_11_r0), ∀ a, (k0_off122 v78_11_r0) a + S1.size a ≤ S2.size a := fun v78_11_r0 k0_hw20 => k0_hw20.1
theorem k0_off124_inb : ∀ (v78_11_r0 : BitVec 32) (k0_hw20 : k0_chk20 v78_11_r0), ∀ a, (k0_off124 v78_11_r0) a + S1x1x8x512.size a ≤ S2x1x8x512.size a := fun v78_11_r0 k0_hw20 => k0_hw20.2

def k0_off125 (v78_13_r0 : BitVec 32) : Fin 1 → Nat :=
  let c2_i32_156_r0 : BitVec 32 := 2#32
  let v137_r0 : BitVec 32 := Scalar.remui v78_13_r0 c2_i32_156_r0
  ![v137_r0.toNat]

def k0_off126 (i : grid0.Coords) (v78_33_r0 : BitVec 32) (v78_32_r0 : BitVec 32) : Fin 3 → Nat :=
  let c1_i32_158_r0 : BitVec 32 := 1#32
  let true_110_r0 : BitVec 1 := 1#1
  let c1_i32_109_r0 : BitVec 32 := 1#32
  let v79_r0 : BitVec 32 := Scalar.subi v78_33_r0 c1_i32_109_r0
  let v80_r0 : BitVec 32 := Scalar.select true_110_r0 v79_r0 v78_33_r0
  let c_m1_i32_111_r0 : BitVec 32 := 4294967295#32
  let v81_r0 : BitVec 1 := Scalar.cmpi .eq v80_r0 c_m1_i32_111_r0
  let c1_i32_113_r0 : BitVec 32 := 1#32
  let v83_r0 : BitVec 32 := Scalar.subi v78_32_r0 c1_i32_113_r0
  let v84_r0 : BitVec 32 := Scalar.select v81_r0 v83_r0 v78_32_r0
  let c_m1_i32_114_r0 : BitVec 32 := 4294967295#32
  let v85_r0 : BitVec 1 := Scalar.cmpi .eq v84_r0 c_m1_i32_114_r0
  let c1_i32_115_r0 : BitVec 32 := 1#32
  let v86_r0 : BitVec 32 := Scalar.select v85_r0 c1_i32_115_r0 v84_r0
  let arg0 : BitVec 32 := BitVec.ofNat 32 (i 0).val
  let c2_i32 : BitVec 32 := 2#32
  let v1 : BitVec 32 := Scalar.muli arg0 c2_i32
  let v87_r0 : BitVec 32 := Scalar.addi v86_r0 v1
  let v139_r0 : BitVec 32 := Scalar.muli c1_i32_158_r0 v87_r0
  let c0_i32_160_r0 : BitVec 32 := 0#32
  let c512_i32_159_r0 : BitVec 32 := 512#32
  let c8_i32_157_r0 : BitVec 32 := 8#32
  let c3_i32_112_r0 : BitVec 32 := 3#32
  let v82_r0 : BitVec 32 := Scalar.select v81_r0 c3_i32_112_r0 v80_r0
  let c0_i32_116_r0 : BitVec 32 := 0#32
  let v88_r0 : BitVec 32 := Scalar.addi v82_r0 c0_i32_116_r0
  let v138_r0 : BitVec 32 := Scalar.addi c8_i32_157_r0 v88_r0
  let v140_r0 : BitVec 32 := Scalar.muli c512_i32_159_r0 v138_r0
  ![v139_r0.toNat, 0, v140_r0.toNat]
def k0_off127 (v78_13_r0 : BitVec 32) : Fin 4 → Nat :=
  let c2_i32_156_r0 : BitVec 32 := 2#32
  let v137_r0 : BitVec 32 := Scalar.remui v78_13_r0 c2_i32_156_r0
  let c0_i32_161_r0 : BitVec 32 := 0#32
  let c0_i32_162_r0 : BitVec 32 := 0#32
  let c0_i32_163_r0 : BitVec 32 := 0#32
  ![v137_r0.toNat, 0, 0, 0]

def k0_chk21 (v78_13_r0 : BitVec 32) : Prop :=
  (∀ a, (k0_off125 v78_13_r0) a + S1.size a ≤ S2.size a) ∧
  (∀ a, (k0_off127 v78_13_r0) a + S1x1x8x512.size a ≤ S2x1x8x512.size a)
theorem k0_off125_inb : ∀ (v78_13_r0 : BitVec 32) (k0_hw21 : k0_chk21 v78_13_r0), ∀ a, (k0_off125 v78_13_r0) a + S1.size a ≤ S2.size a := fun v78_13_r0 k0_hw21 => k0_hw21.1
theorem k0_off127_inb : ∀ (v78_13_r0 : BitVec 32) (k0_hw21 : k0_chk21 v78_13_r0), ∀ a, (k0_off127 v78_13_r0) a + S1x1x8x512.size a ≤ S2x1x8x512.size a := fun v78_13_r0 k0_hw21 => k0_hw21.2

def k0_off128 (v78_15_r0 : BitVec 32) : Fin 1 → Nat :=
  let c2_i32_164_r0 : BitVec 32 := 2#32
  let v146_r0 : BitVec 32 := Scalar.remui v78_15_r0 c2_i32_164_r0
  ![v146_r0.toNat]

def k0_off129 (i : grid0.Coords) (v78_33_r0 : BitVec 32) (v78_32_r0 : BitVec 32) : Fin 3 → Nat :=
  let c1_i32_165_r0 : BitVec 32 := 1#32
  let true_110_r0 : BitVec 1 := 1#1
  let c1_i32_109_r0 : BitVec 32 := 1#32
  let v79_r0 : BitVec 32 := Scalar.subi v78_33_r0 c1_i32_109_r0
  let v80_r0 : BitVec 32 := Scalar.select true_110_r0 v79_r0 v78_33_r0
  let c_m1_i32_111_r0 : BitVec 32 := 4294967295#32
  let v81_r0 : BitVec 1 := Scalar.cmpi .eq v80_r0 c_m1_i32_111_r0
  let c1_i32_113_r0 : BitVec 32 := 1#32
  let v83_r0 : BitVec 32 := Scalar.subi v78_32_r0 c1_i32_113_r0
  let v84_r0 : BitVec 32 := Scalar.select v81_r0 v83_r0 v78_32_r0
  let c_m1_i32_114_r0 : BitVec 32 := 4294967295#32
  let v85_r0 : BitVec 1 := Scalar.cmpi .eq v84_r0 c_m1_i32_114_r0
  let c1_i32_115_r0 : BitVec 32 := 1#32
  let v86_r0 : BitVec 32 := Scalar.select v85_r0 c1_i32_115_r0 v84_r0
  let arg0 : BitVec 32 := BitVec.ofNat 32 (i 0).val
  let c2_i32 : BitVec 32 := 2#32
  let v1 : BitVec 32 := Scalar.muli arg0 c2_i32
  let v87_r0 : BitVec 32 := Scalar.addi v86_r0 v1
  let v148_r0 : BitVec 32 := Scalar.muli c1_i32_165_r0 v87_r0
  let c0_i32_167_r0 : BitVec 32 := 0#32
  let c512_i32_166_r0 : BitVec 32 := 512#32
  let c12_i32_r0 : BitVec 32 := 12#32
  let c3_i32_112_r0 : BitVec 32 := 3#32
  let v82_r0 : BitVec 32 := Scalar.select v81_r0 c3_i32_112_r0 v80_r0
  let c0_i32_116_r0 : BitVec 32 := 0#32
  let v88_r0 : BitVec 32 := Scalar.addi v82_r0 c0_i32_116_r0
  let v147_r0 : BitVec 32 := Scalar.addi c12_i32_r0 v88_r0
  let v149_r0 : BitVec 32 := Scalar.muli c512_i32_166_r0 v147_r0
  ![v148_r0.toNat, 0, v149_r0.toNat]
def k0_off130 (v78_15_r0 : BitVec 32) : Fin 4 → Nat :=
  let c2_i32_164_r0 : BitVec 32 := 2#32
  let v146_r0 : BitVec 32 := Scalar.remui v78_15_r0 c2_i32_164_r0
  let c0_i32_168_r0 : BitVec 32 := 0#32
  let c0_i32_169_r0 : BitVec 32 := 0#32
  let c0_i32_170_r0 : BitVec 32 := 0#32
  ![v146_r0.toNat, 0, 0, 0]

def k0_chk22 (v78_15_r0 : BitVec 32) : Prop :=
  (∀ a, (k0_off128 v78_15_r0) a + S1.size a ≤ S2.size a) ∧
  (∀ a, (k0_off130 v78_15_r0) a + S1x1x8x512.size a ≤ S2x1x8x512.size a)
theorem k0_off128_inb : ∀ (v78_15_r0 : BitVec 32) (k0_hw22 : k0_chk22 v78_15_r0), ∀ a, (k0_off128 v78_15_r0) a + S1.size a ≤ S2.size a := fun v78_15_r0 k0_hw22 => k0_hw22.1
theorem k0_off130_inb : ∀ (v78_15_r0 : BitVec 32) (k0_hw22 : k0_chk22 v78_15_r0), ∀ a, (k0_off130 v78_15_r0) a + S1x1x8x512.size a ≤ S2x1x8x512.size a := fun v78_15_r0 k0_hw22 => k0_hw22.2

def k0_off131 (v78_17_r0 : BitVec 32) : Fin 1 → Nat :=
  let c2_i32_171_r0 : BitVec 32 := 2#32
  let v155_r0 : BitVec 32 := Scalar.remui v78_17_r0 c2_i32_171_r0
  ![v155_r0.toNat]

def k0_off132 (i : grid0.Coords) (v78_33_r0 : BitVec 32) (v78_32_r0 : BitVec 32) : Fin 3 → Nat :=
  let c1_i32_173_r0 : BitVec 32 := 1#32
  let true_110_r0 : BitVec 1 := 1#1
  let c1_i32_109_r0 : BitVec 32 := 1#32
  let v79_r0 : BitVec 32 := Scalar.subi v78_33_r0 c1_i32_109_r0
  let v80_r0 : BitVec 32 := Scalar.select true_110_r0 v79_r0 v78_33_r0
  let c_m1_i32_111_r0 : BitVec 32 := 4294967295#32
  let v81_r0 : BitVec 1 := Scalar.cmpi .eq v80_r0 c_m1_i32_111_r0
  let c1_i32_113_r0 : BitVec 32 := 1#32
  let v83_r0 : BitVec 32 := Scalar.subi v78_32_r0 c1_i32_113_r0
  let v84_r0 : BitVec 32 := Scalar.select v81_r0 v83_r0 v78_32_r0
  let c_m1_i32_114_r0 : BitVec 32 := 4294967295#32
  let v85_r0 : BitVec 1 := Scalar.cmpi .eq v84_r0 c_m1_i32_114_r0
  let c1_i32_115_r0 : BitVec 32 := 1#32
  let v86_r0 : BitVec 32 := Scalar.select v85_r0 c1_i32_115_r0 v84_r0
  let arg0 : BitVec 32 := BitVec.ofNat 32 (i 0).val
  let c2_i32 : BitVec 32 := 2#32
  let v1 : BitVec 32 := Scalar.muli arg0 c2_i32
  let v87_r0 : BitVec 32 := Scalar.addi v86_r0 v1
  let v157_r0 : BitVec 32 := Scalar.muli c1_i32_173_r0 v87_r0
  let c0_i32_175_r0 : BitVec 32 := 0#32
  let c512_i32_174_r0 : BitVec 32 := 512#32
  let c0_i32_172_r0 : BitVec 32 := 0#32
  let c3_i32_112_r0 : BitVec 32 := 3#32
  let v82_r0 : BitVec 32 := Scalar.select v81_r0 c3_i32_112_r0 v80_r0
  let c0_i32_116_r0 : BitVec 32 := 0#32
  let v88_r0 : BitVec 32 := Scalar.addi v82_r0 c0_i32_116_r0
  let v156_r0 : BitVec 32 := Scalar.addi c0_i32_172_r0 v88_r0
  let v158_r0 : BitVec 32 := Scalar.muli c512_i32_174_r0 v156_r0
  ![v157_r0.toNat, 0, v158_r0.toNat]
def k0_off133 (v78_17_r0 : BitVec 32) : Fin 4 → Nat :=
  let c2_i32_171_r0 : BitVec 32 := 2#32
  let v155_r0 : BitVec 32 := Scalar.remui v78_17_r0 c2_i32_171_r0
  let c0_i32_176_r0 : BitVec 32 := 0#32
  let c0_i32_177_r0 : BitVec 32 := 0#32
  let c0_i32_178_r0 : BitVec 32 := 0#32
  ![v155_r0.toNat, 0, 0, 0]

def k0_chk23 (v78_17_r0 : BitVec 32) : Prop :=
  (∀ a, (k0_off131 v78_17_r0) a + S1.size a ≤ S2.size a) ∧
  (∀ a, (k0_off133 v78_17_r0) a + S1x1x2x512.size a ≤ S2x1x2x512.size a)
theorem k0_off131_inb : ∀ (v78_17_r0 : BitVec 32) (k0_hw23 : k0_chk23 v78_17_r0), ∀ a, (k0_off131 v78_17_r0) a + S1.size a ≤ S2.size a := fun v78_17_r0 k0_hw23 => k0_hw23.1
theorem k0_off133_inb : ∀ (v78_17_r0 : BitVec 32) (k0_hw23 : k0_chk23 v78_17_r0), ∀ a, (k0_off133 v78_17_r0) a + S1x1x2x512.size a ≤ S2x1x2x512.size a := fun v78_17_r0 k0_hw23 => k0_hw23.2

def k0_off134 (v78_19_r0 : BitVec 32) : Fin 1 → Nat :=
  let c2_i32_179_r0 : BitVec 32 := 2#32
  let v164_r0 : BitVec 32 := Scalar.remui v78_19_r0 c2_i32_179_r0
  ![v164_r0.toNat]

def k0_off135 (i : grid0.Coords) (v78_33_r0 : BitVec 32) (v78_32_r0 : BitVec 32) : Fin 3 → Nat :=
  let c1_i32_181_r0 : BitVec 32 := 1#32
  let true_110_r0 : BitVec 1 := 1#1
  let c1_i32_109_r0 : BitVec 32 := 1#32
  let v79_r0 : BitVec 32 := Scalar.subi v78_33_r0 c1_i32_109_r0
  let v80_r0 : BitVec 32 := Scalar.select true_110_r0 v79_r0 v78_33_r0
  let c_m1_i32_111_r0 : BitVec 32 := 4294967295#32
  let v81_r0 : BitVec 1 := Scalar.cmpi .eq v80_r0 c_m1_i32_111_r0
  let c1_i32_113_r0 : BitVec 32 := 1#32
  let v83_r0 : BitVec 32 := Scalar.subi v78_32_r0 c1_i32_113_r0
  let v84_r0 : BitVec 32 := Scalar.select v81_r0 v83_r0 v78_32_r0
  let c_m1_i32_114_r0 : BitVec 32 := 4294967295#32
  let v85_r0 : BitVec 1 := Scalar.cmpi .eq v84_r0 c_m1_i32_114_r0
  let c1_i32_115_r0 : BitVec 32 := 1#32
  let v86_r0 : BitVec 32 := Scalar.select v85_r0 c1_i32_115_r0 v84_r0
  let arg0 : BitVec 32 := BitVec.ofNat 32 (i 0).val
  let c2_i32 : BitVec 32 := 2#32
  let v1 : BitVec 32 := Scalar.muli arg0 c2_i32
  let v87_r0 : BitVec 32 := Scalar.addi v86_r0 v1
  let v166_r0 : BitVec 32 := Scalar.muli c1_i32_181_r0 v87_r0
  let c0_i32_183_r0 : BitVec 32 := 0#32
  let c512_i32_182_r0 : BitVec 32 := 512#32
  let c4_i32_180_r0 : BitVec 32 := 4#32
  let c3_i32_112_r0 : BitVec 32 := 3#32
  let v82_r0 : BitVec 32 := Scalar.select v81_r0 c3_i32_112_r0 v80_r0
  let c0_i32_116_r0 : BitVec 32 := 0#32
  let v88_r0 : BitVec 32 := Scalar.addi v82_r0 c0_i32_116_r0
  let v165_r0 : BitVec 32 := Scalar.addi c4_i32_180_r0 v88_r0
  let v167_r0 : BitVec 32 := Scalar.muli c512_i32_182_r0 v165_r0
  ![v166_r0.toNat, 0, v167_r0.toNat]
def k0_off136 (v78_19_r0 : BitVec 32) : Fin 4 → Nat :=
  let c2_i32_179_r0 : BitVec 32 := 2#32
  let v164_r0 : BitVec 32 := Scalar.remui v78_19_r0 c2_i32_179_r0
  let c0_i32_184_r0 : BitVec 32 := 0#32
  let c0_i32_185_r0 : BitVec 32 := 0#32
  let c0_i32_186_r0 : BitVec 32 := 0#32
  ![v164_r0.toNat, 0, 0, 0]

def k0_chk24 (v78_19_r0 : BitVec 32) : Prop :=
  (∀ a, (k0_off134 v78_19_r0) a + S1.size a ≤ S2.size a) ∧
  (∀ a, (k0_off136 v78_19_r0) a + S1x1x2x512.size a ≤ S2x1x2x512.size a)
theorem k0_off134_inb : ∀ (v78_19_r0 : BitVec 32) (k0_hw24 : k0_chk24 v78_19_r0), ∀ a, (k0_off134 v78_19_r0) a + S1.size a ≤ S2.size a := fun v78_19_r0 k0_hw24 => k0_hw24.1
theorem k0_off136_inb : ∀ (v78_19_r0 : BitVec 32) (k0_hw24 : k0_chk24 v78_19_r0), ∀ a, (k0_off136 v78_19_r0) a + S1x1x2x512.size a ≤ S2x1x2x512.size a := fun v78_19_r0 k0_hw24 => k0_hw24.2

def k0_off137 (v78_21_r0 : BitVec 32) : Fin 1 → Nat :=
  let c2_i32_187_r0 : BitVec 32 := 2#32
  let v173_r0 : BitVec 32 := Scalar.remui v78_21_r0 c2_i32_187_r0
  ![v173_r0.toNat]

def k0_off138 (i : grid0.Coords) (v78_33_r0 : BitVec 32) (v78_32_r0 : BitVec 32) : Fin 3 → Nat :=
  let c1_i32_189_r0 : BitVec 32 := 1#32
  let true_110_r0 : BitVec 1 := 1#1
  let c1_i32_109_r0 : BitVec 32 := 1#32
  let v79_r0 : BitVec 32 := Scalar.subi v78_33_r0 c1_i32_109_r0
  let v80_r0 : BitVec 32 := Scalar.select true_110_r0 v79_r0 v78_33_r0
  let c_m1_i32_111_r0 : BitVec 32 := 4294967295#32
  let v81_r0 : BitVec 1 := Scalar.cmpi .eq v80_r0 c_m1_i32_111_r0
  let c1_i32_113_r0 : BitVec 32 := 1#32
  let v83_r0 : BitVec 32 := Scalar.subi v78_32_r0 c1_i32_113_r0
  let v84_r0 : BitVec 32 := Scalar.select v81_r0 v83_r0 v78_32_r0
  let c_m1_i32_114_r0 : BitVec 32 := 4294967295#32
  let v85_r0 : BitVec 1 := Scalar.cmpi .eq v84_r0 c_m1_i32_114_r0
  let c1_i32_115_r0 : BitVec 32 := 1#32
  let v86_r0 : BitVec 32 := Scalar.select v85_r0 c1_i32_115_r0 v84_r0
  let arg0 : BitVec 32 := BitVec.ofNat 32 (i 0).val
  let c2_i32 : BitVec 32 := 2#32
  let v1 : BitVec 32 := Scalar.muli arg0 c2_i32
  let v87_r0 : BitVec 32 := Scalar.addi v86_r0 v1
  let v175_r0 : BitVec 32 := Scalar.muli c1_i32_189_r0 v87_r0
  let c0_i32_191_r0 : BitVec 32 := 0#32
  let c512_i32_190_r0 : BitVec 32 := 512#32
  let c8_i32_188_r0 : BitVec 32 := 8#32
  let c3_i32_112_r0 : BitVec 32 := 3#32
  let v82_r0 : BitVec 32 := Scalar.select v81_r0 c3_i32_112_r0 v80_r0
  let c0_i32_116_r0 : BitVec 32 := 0#32
  let v88_r0 : BitVec 32 := Scalar.addi v82_r0 c0_i32_116_r0
  let v174_r0 : BitVec 32 := Scalar.addi c8_i32_188_r0 v88_r0
  let v176_r0 : BitVec 32 := Scalar.muli c512_i32_190_r0 v174_r0
  ![v175_r0.toNat, 0, v176_r0.toNat]
def k0_off139 (v78_21_r0 : BitVec 32) : Fin 4 → Nat :=
  let c2_i32_187_r0 : BitVec 32 := 2#32
  let v173_r0 : BitVec 32 := Scalar.remui v78_21_r0 c2_i32_187_r0
  let c0_i32_192_r0 : BitVec 32 := 0#32
  let c0_i32_193_r0 : BitVec 32 := 0#32
  let c0_i32_194_r0 : BitVec 32 := 0#32
  ![v173_r0.toNat, 0, 0, 0]

def k0_chk25 (v78_21_r0 : BitVec 32) : Prop :=
  (∀ a, (k0_off137 v78_21_r0) a + S1.size a ≤ S2.size a) ∧
  (∀ a, (k0_off139 v78_21_r0) a + S1x1x2x512.size a ≤ S2x1x2x512.size a)
theorem k0_off137_inb : ∀ (v78_21_r0 : BitVec 32) (k0_hw25 : k0_chk25 v78_21_r0), ∀ a, (k0_off137 v78_21_r0) a + S1.size a ≤ S2.size a := fun v78_21_r0 k0_hw25 => k0_hw25.1
theorem k0_off139_inb : ∀ (v78_21_r0 : BitVec 32) (k0_hw25 : k0_chk25 v78_21_r0), ∀ a, (k0_off139 v78_21_r0) a + S1x1x2x512.size a ≤ S2x1x2x512.size a := fun v78_21_r0 k0_hw25 => k0_hw25.2

def k0_off140 (v78_23_r0 : BitVec 32) : Fin 1 → Nat :=
  let c2_i32_195_r0 : BitVec 32 := 2#32
  let v182_r0 : BitVec 32 := Scalar.remui v78_23_r0 c2_i32_195_r0
  ![v182_r0.toNat]

def k0_off141 (i : grid0.Coords) (v78_33_r0 : BitVec 32) (v78_32_r0 : BitVec 32) : Fin 3 → Nat :=
  let c1_i32_197_r0 : BitVec 32 := 1#32
  let true_110_r0 : BitVec 1 := 1#1
  let c1_i32_109_r0 : BitVec 32 := 1#32
  let v79_r0 : BitVec 32 := Scalar.subi v78_33_r0 c1_i32_109_r0
  let v80_r0 : BitVec 32 := Scalar.select true_110_r0 v79_r0 v78_33_r0
  let c_m1_i32_111_r0 : BitVec 32 := 4294967295#32
  let v81_r0 : BitVec 1 := Scalar.cmpi .eq v80_r0 c_m1_i32_111_r0
  let c1_i32_113_r0 : BitVec 32 := 1#32
  let v83_r0 : BitVec 32 := Scalar.subi v78_32_r0 c1_i32_113_r0
  let v84_r0 : BitVec 32 := Scalar.select v81_r0 v83_r0 v78_32_r0
  let c_m1_i32_114_r0 : BitVec 32 := 4294967295#32
  let v85_r0 : BitVec 1 := Scalar.cmpi .eq v84_r0 c_m1_i32_114_r0
  let c1_i32_115_r0 : BitVec 32 := 1#32
  let v86_r0 : BitVec 32 := Scalar.select v85_r0 c1_i32_115_r0 v84_r0
  let arg0 : BitVec 32 := BitVec.ofNat 32 (i 0).val
  let c2_i32 : BitVec 32 := 2#32
  let v1 : BitVec 32 := Scalar.muli arg0 c2_i32
  let v87_r0 : BitVec 32 := Scalar.addi v86_r0 v1
  let v184_r0 : BitVec 32 := Scalar.muli c1_i32_197_r0 v87_r0
  let c0_i32_199_r0 : BitVec 32 := 0#32
  let c512_i32_198_r0 : BitVec 32 := 512#32
  let c12_i32_196_r0 : BitVec 32 := 12#32
  let c3_i32_112_r0 : BitVec 32 := 3#32
  let v82_r0 : BitVec 32 := Scalar.select v81_r0 c3_i32_112_r0 v80_r0
  let c0_i32_116_r0 : BitVec 32 := 0#32
  let v88_r0 : BitVec 32 := Scalar.addi v82_r0 c0_i32_116_r0
  let v183_r0 : BitVec 32 := Scalar.addi c12_i32_196_r0 v88_r0
  let v185_r0 : BitVec 32 := Scalar.muli c512_i32_198_r0 v183_r0
  ![v184_r0.toNat, 0, v185_r0.toNat]
def k0_off142 (v78_23_r0 : BitVec 32) : Fin 4 → Nat :=
  let c2_i32_195_r0 : BitVec 32 := 2#32
  let v182_r0 : BitVec 32 := Scalar.remui v78_23_r0 c2_i32_195_r0
  let c0_i32_200_r0 : BitVec 32 := 0#32
  let c0_i32_201_r0 : BitVec 32 := 0#32
  let c0_i32_202_r0 : BitVec 32 := 0#32
  ![v182_r0.toNat, 0, 0, 0]

def k0_chk26 (v78_23_r0 : BitVec 32) : Prop :=
  (∀ a, (k0_off140 v78_23_r0) a + S1.size a ≤ S2.size a) ∧
  (∀ a, (k0_off142 v78_23_r0) a + S1x1x2x512.size a ≤ S2x1x2x512.size a)
theorem k0_off140_inb : ∀ (v78_23_r0 : BitVec 32) (k0_hw26 : k0_chk26 v78_23_r0), ∀ a, (k0_off140 v78_23_r0) a + S1.size a ≤ S2.size a := fun v78_23_r0 k0_hw26 => k0_hw26.1
theorem k0_off142_inb : ∀ (v78_23_r0 : BitVec 32) (k0_hw26 : k0_chk26 v78_23_r0), ∀ a, (k0_off142 v78_23_r0) a + S1x1x2x512.size a ≤ S2x1x2x512.size a := fun v78_23_r0 k0_hw26 => k0_hw26.2

def k0_off143 (v78_25_r0 : BitVec 32) : Fin 1 → Nat :=
  let c2_i32_203_r0 : BitVec 32 := 2#32
  let v191_r0 : BitVec 32 := Scalar.remui v78_25_r0 c2_i32_203_r0
  ![v191_r0.toNat]

def k0_off144 (i : grid0.Coords) (v78_33_r0 : BitVec 32) (v78_32_r0 : BitVec 32) : Fin 3 → Nat :=
  let c1_i32_205_r0 : BitVec 32 := 1#32
  let true_110_r0 : BitVec 1 := 1#1
  let c1_i32_109_r0 : BitVec 32 := 1#32
  let v79_r0 : BitVec 32 := Scalar.subi v78_33_r0 c1_i32_109_r0
  let v80_r0 : BitVec 32 := Scalar.select true_110_r0 v79_r0 v78_33_r0
  let c_m1_i32_111_r0 : BitVec 32 := 4294967295#32
  let v81_r0 : BitVec 1 := Scalar.cmpi .eq v80_r0 c_m1_i32_111_r0
  let c1_i32_113_r0 : BitVec 32 := 1#32
  let v83_r0 : BitVec 32 := Scalar.subi v78_32_r0 c1_i32_113_r0
  let v84_r0 : BitVec 32 := Scalar.select v81_r0 v83_r0 v78_32_r0
  let c_m1_i32_114_r0 : BitVec 32 := 4294967295#32
  let v85_r0 : BitVec 1 := Scalar.cmpi .eq v84_r0 c_m1_i32_114_r0
  let c1_i32_115_r0 : BitVec 32 := 1#32
  let v86_r0 : BitVec 32 := Scalar.select v85_r0 c1_i32_115_r0 v84_r0
  let arg0 : BitVec 32 := BitVec.ofNat 32 (i 0).val
  let c2_i32 : BitVec 32 := 2#32
  let v1 : BitVec 32 := Scalar.muli arg0 c2_i32
  let v87_r0 : BitVec 32 := Scalar.addi v86_r0 v1
  let v193_r0 : BitVec 32 := Scalar.muli c1_i32_205_r0 v87_r0
  let c0_i32_207_r0 : BitVec 32 := 0#32
  let c512_i32_206_r0 : BitVec 32 := 512#32
  let c0_i32_204_r0 : BitVec 32 := 0#32
  let c3_i32_112_r0 : BitVec 32 := 3#32
  let v82_r0 : BitVec 32 := Scalar.select v81_r0 c3_i32_112_r0 v80_r0
  let c0_i32_116_r0 : BitVec 32 := 0#32
  let v88_r0 : BitVec 32 := Scalar.addi v82_r0 c0_i32_116_r0
  let v192_r0 : BitVec 32 := Scalar.addi c0_i32_204_r0 v88_r0
  let v194_r0 : BitVec 32 := Scalar.muli c512_i32_206_r0 v192_r0
  ![v193_r0.toNat, 0, v194_r0.toNat]
def k0_off145 (v78_25_r0 : BitVec 32) : Fin 4 → Nat :=
  let c2_i32_203_r0 : BitVec 32 := 2#32
  let v191_r0 : BitVec 32 := Scalar.remui v78_25_r0 c2_i32_203_r0
  let c0_i32_208_r0 : BitVec 32 := 0#32
  let c0_i32_209_r0 : BitVec 32 := 0#32
  let c0_i32_210_r0 : BitVec 32 := 0#32
  ![v191_r0.toNat, 0, 0, 0]

def k0_chk27 (v78_25_r0 : BitVec 32) : Prop :=
  (∀ a, (k0_off143 v78_25_r0) a + S1.size a ≤ S2.size a) ∧
  (∀ a, (k0_off145 v78_25_r0) a + S1x1x2x512.size a ≤ S2x1x2x512.size a)
theorem k0_off143_inb : ∀ (v78_25_r0 : BitVec 32) (k0_hw27 : k0_chk27 v78_25_r0), ∀ a, (k0_off143 v78_25_r0) a + S1.size a ≤ S2.size a := fun v78_25_r0 k0_hw27 => k0_hw27.1
theorem k0_off145_inb : ∀ (v78_25_r0 : BitVec 32) (k0_hw27 : k0_chk27 v78_25_r0), ∀ a, (k0_off145 v78_25_r0) a + S1x1x2x512.size a ≤ S2x1x2x512.size a := fun v78_25_r0 k0_hw27 => k0_hw27.2

def k0_off146 (v78_27_r0 : BitVec 32) : Fin 1 → Nat :=
  let c2_i32_211_r0 : BitVec 32 := 2#32
  let v200_r0 : BitVec 32 := Scalar.remui v78_27_r0 c2_i32_211_r0
  ![v200_r0.toNat]

def k0_off147 (i : grid0.Coords) (v78_33_r0 : BitVec 32) (v78_32_r0 : BitVec 32) : Fin 3 → Nat :=
  let c1_i32_213_r0 : BitVec 32 := 1#32
  let true_110_r0 : BitVec 1 := 1#1
  let c1_i32_109_r0 : BitVec 32 := 1#32
  let v79_r0 : BitVec 32 := Scalar.subi v78_33_r0 c1_i32_109_r0
  let v80_r0 : BitVec 32 := Scalar.select true_110_r0 v79_r0 v78_33_r0
  let c_m1_i32_111_r0 : BitVec 32 := 4294967295#32
  let v81_r0 : BitVec 1 := Scalar.cmpi .eq v80_r0 c_m1_i32_111_r0
  let c1_i32_113_r0 : BitVec 32 := 1#32
  let v83_r0 : BitVec 32 := Scalar.subi v78_32_r0 c1_i32_113_r0
  let v84_r0 : BitVec 32 := Scalar.select v81_r0 v83_r0 v78_32_r0
  let c_m1_i32_114_r0 : BitVec 32 := 4294967295#32
  let v85_r0 : BitVec 1 := Scalar.cmpi .eq v84_r0 c_m1_i32_114_r0
  let c1_i32_115_r0 : BitVec 32 := 1#32
  let v86_r0 : BitVec 32 := Scalar.select v85_r0 c1_i32_115_r0 v84_r0
  let arg0 : BitVec 32 := BitVec.ofNat 32 (i 0).val
  let c2_i32 : BitVec 32 := 2#32
  let v1 : BitVec 32 := Scalar.muli arg0 c2_i32
  let v87_r0 : BitVec 32 := Scalar.addi v86_r0 v1
  let v202_r0 : BitVec 32 := Scalar.muli c1_i32_213_r0 v87_r0
  let c0_i32_215_r0 : BitVec 32 := 0#32
  let c512_i32_214_r0 : BitVec 32 := 512#32
  let c4_i32_212_r0 : BitVec 32 := 4#32
  let c3_i32_112_r0 : BitVec 32 := 3#32
  let v82_r0 : BitVec 32 := Scalar.select v81_r0 c3_i32_112_r0 v80_r0
  let c0_i32_116_r0 : BitVec 32 := 0#32
  let v88_r0 : BitVec 32 := Scalar.addi v82_r0 c0_i32_116_r0
  let v201_r0 : BitVec 32 := Scalar.addi c4_i32_212_r0 v88_r0
  let v203_r0 : BitVec 32 := Scalar.muli c512_i32_214_r0 v201_r0
  ![v202_r0.toNat, 0, v203_r0.toNat]
def k0_off148 (v78_27_r0 : BitVec 32) : Fin 4 → Nat :=
  let c2_i32_211_r0 : BitVec 32 := 2#32
  let v200_r0 : BitVec 32 := Scalar.remui v78_27_r0 c2_i32_211_r0
  let c0_i32_216_r0 : BitVec 32 := 0#32
  let c0_i32_217_r0 : BitVec 32 := 0#32
  let c0_i32_218_r0 : BitVec 32 := 0#32
  ![v200_r0.toNat, 0, 0, 0]

def k0_chk28 (v78_27_r0 : BitVec 32) : Prop :=
  (∀ a, (k0_off146 v78_27_r0) a + S1.size a ≤ S2.size a) ∧
  (∀ a, (k0_off148 v78_27_r0) a + S1x1x2x512.size a ≤ S2x1x2x512.size a)
theorem k0_off146_inb : ∀ (v78_27_r0 : BitVec 32) (k0_hw28 : k0_chk28 v78_27_r0), ∀ a, (k0_off146 v78_27_r0) a + S1.size a ≤ S2.size a := fun v78_27_r0 k0_hw28 => k0_hw28.1
theorem k0_off148_inb : ∀ (v78_27_r0 : BitVec 32) (k0_hw28 : k0_chk28 v78_27_r0), ∀ a, (k0_off148 v78_27_r0) a + S1x1x2x512.size a ≤ S2x1x2x512.size a := fun v78_27_r0 k0_hw28 => k0_hw28.2

def k0_off149 (v78_29_r0 : BitVec 32) : Fin 1 → Nat :=
  let c2_i32_219_r0 : BitVec 32 := 2#32
  let v209_r0 : BitVec 32 := Scalar.remui v78_29_r0 c2_i32_219_r0
  ![v209_r0.toNat]

def k0_off150 (i : grid0.Coords) (v78_33_r0 : BitVec 32) (v78_32_r0 : BitVec 32) : Fin 3 → Nat :=
  let c1_i32_221_r0 : BitVec 32 := 1#32
  let true_110_r0 : BitVec 1 := 1#1
  let c1_i32_109_r0 : BitVec 32 := 1#32
  let v79_r0 : BitVec 32 := Scalar.subi v78_33_r0 c1_i32_109_r0
  let v80_r0 : BitVec 32 := Scalar.select true_110_r0 v79_r0 v78_33_r0
  let c_m1_i32_111_r0 : BitVec 32 := 4294967295#32
  let v81_r0 : BitVec 1 := Scalar.cmpi .eq v80_r0 c_m1_i32_111_r0
  let c1_i32_113_r0 : BitVec 32 := 1#32
  let v83_r0 : BitVec 32 := Scalar.subi v78_32_r0 c1_i32_113_r0
  let v84_r0 : BitVec 32 := Scalar.select v81_r0 v83_r0 v78_32_r0
  let c_m1_i32_114_r0 : BitVec 32 := 4294967295#32
  let v85_r0 : BitVec 1 := Scalar.cmpi .eq v84_r0 c_m1_i32_114_r0
  let c1_i32_115_r0 : BitVec 32 := 1#32
  let v86_r0 : BitVec 32 := Scalar.select v85_r0 c1_i32_115_r0 v84_r0
  let arg0 : BitVec 32 := BitVec.ofNat 32 (i 0).val
  let c2_i32 : BitVec 32 := 2#32
  let v1 : BitVec 32 := Scalar.muli arg0 c2_i32
  let v87_r0 : BitVec 32 := Scalar.addi v86_r0 v1
  let v211_r0 : BitVec 32 := Scalar.muli c1_i32_221_r0 v87_r0
  let c0_i32_223_r0 : BitVec 32 := 0#32
  let c512_i32_222_r0 : BitVec 32 := 512#32
  let c8_i32_220_r0 : BitVec 32 := 8#32
  let c3_i32_112_r0 : BitVec 32 := 3#32
  let v82_r0 : BitVec 32 := Scalar.select v81_r0 c3_i32_112_r0 v80_r0
  let c0_i32_116_r0 : BitVec 32 := 0#32
  let v88_r0 : BitVec 32 := Scalar.addi v82_r0 c0_i32_116_r0
  let v210_r0 : BitVec 32 := Scalar.addi c8_i32_220_r0 v88_r0
  let v212_r0 : BitVec 32 := Scalar.muli c512_i32_222_r0 v210_r0
  ![v211_r0.toNat, 0, v212_r0.toNat]
def k0_off151 (v78_29_r0 : BitVec 32) : Fin 4 → Nat :=
  let c2_i32_219_r0 : BitVec 32 := 2#32
  let v209_r0 : BitVec 32 := Scalar.remui v78_29_r0 c2_i32_219_r0
  let c0_i32_224_r0 : BitVec 32 := 0#32
  let c0_i32_225_r0 : BitVec 32 := 0#32
  let c0_i32_226_r0 : BitVec 32 := 0#32
  ![v209_r0.toNat, 0, 0, 0]

def k0_chk29 (v78_29_r0 : BitVec 32) : Prop :=
  (∀ a, (k0_off149 v78_29_r0) a + S1.size a ≤ S2.size a) ∧
  (∀ a, (k0_off151 v78_29_r0) a + S1x1x2x512.size a ≤ S2x1x2x512.size a)
theorem k0_off149_inb : ∀ (v78_29_r0 : BitVec 32) (k0_hw29 : k0_chk29 v78_29_r0), ∀ a, (k0_off149 v78_29_r0) a + S1.size a ≤ S2.size a := fun v78_29_r0 k0_hw29 => k0_hw29.1
theorem k0_off151_inb : ∀ (v78_29_r0 : BitVec 32) (k0_hw29 : k0_chk29 v78_29_r0), ∀ a, (k0_off151 v78_29_r0) a + S1x1x2x512.size a ≤ S2x1x2x512.size a := fun v78_29_r0 k0_hw29 => k0_hw29.2

def k0_off152 (v78_31_r0 : BitVec 32) : Fin 1 → Nat :=
  let c2_i32_227_r0 : BitVec 32 := 2#32
  let v218_r0 : BitVec 32 := Scalar.remui v78_31_r0 c2_i32_227_r0
  ![v218_r0.toNat]

def k0_off153 (i : grid0.Coords) (v78_33_r0 : BitVec 32) (v78_32_r0 : BitVec 32) : Fin 3 → Nat :=
  let c1_i32_229_r0 : BitVec 32 := 1#32
  let true_110_r0 : BitVec 1 := 1#1
  let c1_i32_109_r0 : BitVec 32 := 1#32
  let v79_r0 : BitVec 32 := Scalar.subi v78_33_r0 c1_i32_109_r0
  let v80_r0 : BitVec 32 := Scalar.select true_110_r0 v79_r0 v78_33_r0
  let c_m1_i32_111_r0 : BitVec 32 := 4294967295#32
  let v81_r0 : BitVec 1 := Scalar.cmpi .eq v80_r0 c_m1_i32_111_r0
  let c1_i32_113_r0 : BitVec 32 := 1#32
  let v83_r0 : BitVec 32 := Scalar.subi v78_32_r0 c1_i32_113_r0
  let v84_r0 : BitVec 32 := Scalar.select v81_r0 v83_r0 v78_32_r0
  let c_m1_i32_114_r0 : BitVec 32 := 4294967295#32
  let v85_r0 : BitVec 1 := Scalar.cmpi .eq v84_r0 c_m1_i32_114_r0
  let c1_i32_115_r0 : BitVec 32 := 1#32
  let v86_r0 : BitVec 32 := Scalar.select v85_r0 c1_i32_115_r0 v84_r0
  let arg0 : BitVec 32 := BitVec.ofNat 32 (i 0).val
  let c2_i32 : BitVec 32 := 2#32
  let v1 : BitVec 32 := Scalar.muli arg0 c2_i32
  let v87_r0 : BitVec 32 := Scalar.addi v86_r0 v1
  let v220_r0 : BitVec 32 := Scalar.muli c1_i32_229_r0 v87_r0
  let c0_i32_231_r0 : BitVec 32 := 0#32
  let c512_i32_230_r0 : BitVec 32 := 512#32
  let c12_i32_228_r0 : BitVec 32 := 12#32
  let c3_i32_112_r0 : BitVec 32 := 3#32
  let v82_r0 : BitVec 32 := Scalar.select v81_r0 c3_i32_112_r0 v80_r0
  let c0_i32_116_r0 : BitVec 32 := 0#32
  let v88_r0 : BitVec 32 := Scalar.addi v82_r0 c0_i32_116_r0
  let v219_r0 : BitVec 32 := Scalar.addi c12_i32_228_r0 v88_r0
  let v221_r0 : BitVec 32 := Scalar.muli c512_i32_230_r0 v219_r0
  ![v220_r0.toNat, 0, v221_r0.toNat]

def k0_chk19 (i : grid0.Coords) (v78_33_r0 : BitVec 32) (v78_32_r0 : BitVec 32) : Prop :=
  (∀ a, (k0_off120 i v78_33_r0 v78_32_r0) a + S1x8x512.size a ≤ S4x8x8192.size a) ∧
  (∀ a, (k0_off123 i v78_33_r0 v78_32_r0) a + S1x8x512.size a ≤ S4x8x8192.size a) ∧
  (∀ a, (k0_off126 i v78_33_r0 v78_32_r0) a + S1x8x512.size a ≤ S4x8x8192.size a) ∧
  (∀ a, (k0_off129 i v78_33_r0 v78_32_r0) a + S1x8x512.size a ≤ S4x8x8192.size a) ∧
  (∀ a, (k0_off132 i v78_33_r0 v78_32_r0) a + S1x2x512.size a ≤ S4x2x8192.size a) ∧
  (∀ a, (k0_off135 i v78_33_r0 v78_32_r0) a + S1x2x512.size a ≤ S4x2x8192.size a) ∧
  (∀ a, (k0_off138 i v78_33_r0 v78_32_r0) a + S1x2x512.size a ≤ S4x2x8192.size a) ∧
  (∀ a, (k0_off141 i v78_33_r0 v78_32_r0) a + S1x2x512.size a ≤ S4x2x8192.size a) ∧
  (∀ a, (k0_off144 i v78_33_r0 v78_32_r0) a + S1x2x512.size a ≤ S4x2x8192.size a) ∧
  (∀ a, (k0_off147 i v78_33_r0 v78_32_r0) a + S1x2x512.size a ≤ S4x2x8192.size a) ∧
  (∀ a, (k0_off150 i v78_33_r0 v78_32_r0) a + S1x2x512.size a ≤ S4x2x8192.size a) ∧
  (∀ a, (k0_off153 i v78_33_r0 v78_32_r0) a + S1x2x512.size a ≤ S4x2x8192.size a)
theorem k0_off120_inb : ∀ (i : grid0.Coords) (v78_33_r0 : BitVec 32) (v78_32_r0 : BitVec 32) (k0_hw19 : k0_chk19 i v78_33_r0 v78_32_r0), ∀ a, (k0_off120 i v78_33_r0 v78_32_r0) a + S1x8x512.size a ≤ S4x8x8192.size a := fun i v78_33_r0 v78_32_r0 k0_hw19 => k0_hw19.1
theorem k0_off123_inb : ∀ (i : grid0.Coords) (v78_33_r0 : BitVec 32) (v78_32_r0 : BitVec 32) (k0_hw19 : k0_chk19 i v78_33_r0 v78_32_r0), ∀ a, (k0_off123 i v78_33_r0 v78_32_r0) a + S1x8x512.size a ≤ S4x8x8192.size a := fun i v78_33_r0 v78_32_r0 k0_hw19 => k0_hw19.2.1
theorem k0_off126_inb : ∀ (i : grid0.Coords) (v78_33_r0 : BitVec 32) (v78_32_r0 : BitVec 32) (k0_hw19 : k0_chk19 i v78_33_r0 v78_32_r0), ∀ a, (k0_off126 i v78_33_r0 v78_32_r0) a + S1x8x512.size a ≤ S4x8x8192.size a := fun i v78_33_r0 v78_32_r0 k0_hw19 => k0_hw19.2.2.1
theorem k0_off129_inb : ∀ (i : grid0.Coords) (v78_33_r0 : BitVec 32) (v78_32_r0 : BitVec 32) (k0_hw19 : k0_chk19 i v78_33_r0 v78_32_r0), ∀ a, (k0_off129 i v78_33_r0 v78_32_r0) a + S1x8x512.size a ≤ S4x8x8192.size a := fun i v78_33_r0 v78_32_r0 k0_hw19 => k0_hw19.2.2.2.1
theorem k0_off132_inb : ∀ (i : grid0.Coords) (v78_33_r0 : BitVec 32) (v78_32_r0 : BitVec 32) (k0_hw19 : k0_chk19 i v78_33_r0 v78_32_r0), ∀ a, (k0_off132 i v78_33_r0 v78_32_r0) a + S1x2x512.size a ≤ S4x2x8192.size a := fun i v78_33_r0 v78_32_r0 k0_hw19 => k0_hw19.2.2.2.2.1
theorem k0_off135_inb : ∀ (i : grid0.Coords) (v78_33_r0 : BitVec 32) (v78_32_r0 : BitVec 32) (k0_hw19 : k0_chk19 i v78_33_r0 v78_32_r0), ∀ a, (k0_off135 i v78_33_r0 v78_32_r0) a + S1x2x512.size a ≤ S4x2x8192.size a := fun i v78_33_r0 v78_32_r0 k0_hw19 => k0_hw19.2.2.2.2.2.1
theorem k0_off138_inb : ∀ (i : grid0.Coords) (v78_33_r0 : BitVec 32) (v78_32_r0 : BitVec 32) (k0_hw19 : k0_chk19 i v78_33_r0 v78_32_r0), ∀ a, (k0_off138 i v78_33_r0 v78_32_r0) a + S1x2x512.size a ≤ S4x2x8192.size a := fun i v78_33_r0 v78_32_r0 k0_hw19 => k0_hw19.2.2.2.2.2.2.1
theorem k0_off141_inb : ∀ (i : grid0.Coords) (v78_33_r0 : BitVec 32) (v78_32_r0 : BitVec 32) (k0_hw19 : k0_chk19 i v78_33_r0 v78_32_r0), ∀ a, (k0_off141 i v78_33_r0 v78_32_r0) a + S1x2x512.size a ≤ S4x2x8192.size a := fun i v78_33_r0 v78_32_r0 k0_hw19 => k0_hw19.2.2.2.2.2.2.2.1
theorem k0_off144_inb : ∀ (i : grid0.Coords) (v78_33_r0 : BitVec 32) (v78_32_r0 : BitVec 32) (k0_hw19 : k0_chk19 i v78_33_r0 v78_32_r0), ∀ a, (k0_off144 i v78_33_r0 v78_32_r0) a + S1x2x512.size a ≤ S4x2x8192.size a := fun i v78_33_r0 v78_32_r0 k0_hw19 => k0_hw19.2.2.2.2.2.2.2.2.1
theorem k0_off147_inb : ∀ (i : grid0.Coords) (v78_33_r0 : BitVec 32) (v78_32_r0 : BitVec 32) (k0_hw19 : k0_chk19 i v78_33_r0 v78_32_r0), ∀ a, (k0_off147 i v78_33_r0 v78_32_r0) a + S1x2x512.size a ≤ S4x2x8192.size a := fun i v78_33_r0 v78_32_r0 k0_hw19 => k0_hw19.2.2.2.2.2.2.2.2.2.1
theorem k0_off150_inb : ∀ (i : grid0.Coords) (v78_33_r0 : BitVec 32) (v78_32_r0 : BitVec 32) (k0_hw19 : k0_chk19 i v78_33_r0 v78_32_r0), ∀ a, (k0_off150 i v78_33_r0 v78_32_r0) a + S1x2x512.size a ≤ S4x2x8192.size a := fun i v78_33_r0 v78_32_r0 k0_hw19 => k0_hw19.2.2.2.2.2.2.2.2.2.2.1
theorem k0_off153_inb : ∀ (i : grid0.Coords) (v78_33_r0 : BitVec 32) (v78_32_r0 : BitVec 32) (k0_hw19 : k0_chk19 i v78_33_r0 v78_32_r0), ∀ a, (k0_off153 i v78_33_r0 v78_32_r0) a + S1x2x512.size a ≤ S4x2x8192.size a := fun i v78_33_r0 v78_32_r0 k0_hw19 => k0_hw19.2.2.2.2.2.2.2.2.2.2.2

def k0_off154 (v78_31_r0 : BitVec 32) : Fin 4 → Nat :=
  let c2_i32_227_r0 : BitVec 32 := 2#32
  let v218_r0 : BitVec 32 := Scalar.remui v78_31_r0 c2_i32_227_r0
  let c0_i32_232_r0 : BitVec 32 := 0#32
  let c0_i32_233_r0 : BitVec 32 := 0#32
  let c0_i32_234_r0 : BitVec 32 := 0#32
  ![v218_r0.toNat, 0, 0, 0]

def k0_chk30 (v78_31_r0 : BitVec 32) : Prop :=
  (∀ a, (k0_off152 v78_31_r0) a + S1.size a ≤ S2.size a) ∧
  (∀ a, (k0_off154 v78_31_r0) a + S1x1x2x512.size a ≤ S2x1x2x512.size a)
theorem k0_off152_inb : ∀ (v78_31_r0 : BitVec 32) (k0_hw30 : k0_chk30 v78_31_r0), ∀ a, (k0_off152 v78_31_r0) a + S1.size a ≤ S2.size a := fun v78_31_r0 k0_hw30 => k0_hw30.1
theorem k0_off154_inb : ∀ (v78_31_r0 : BitVec 32) (k0_hw30 : k0_chk30 v78_31_r0), ∀ a, (k0_off154 v78_31_r0) a + S1x1x2x512.size a ≤ S2x1x2x512.size a := fun v78_31_r0 k0_hw30 => k0_hw30.2
-- ==== ReferenceIdeal.lean ====
abbrev S4x8192x1024 : Shape := ⟨3, ![4, 8192, 1024]⟩
abbrev S8x1024 : Shape := ⟨2, ![8, 1024]⟩
abbrev S4x8192x8 : Shape := ⟨3, ![4, 8192, 8]⟩
abbrev S_ : Shape := ⟨0, ![]⟩
abbrev S4x8192 : Shape := ⟨2, ![4, 8192]⟩
abbrev S4x8192x1 : Shape := ⟨3, ![4, 8192, 1]⟩
abbrev S4x8192x2 : Shape := ⟨3, ![4, 8192, 2]⟩

abbrev nBuf : Space → Nat
  | .hbm => 24
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8x1024, .f32⟩
  | .hbm, ⟨2, _⟩ => ⟨S4x8192x8, .f32⟩
  | .hbm, ⟨3, _⟩ => ⟨S_, .f32⟩
  | .hbm, ⟨4, _⟩ => ⟨S4x8192, .f32⟩
  | .hbm, ⟨5, _⟩ => ⟨S_, .f32⟩
  | .hbm, ⟨6, _⟩ => ⟨S4x8192, .f32⟩
  | .hbm, ⟨7, _⟩ => ⟨S4x8192, .f32⟩
  | .hbm, ⟨8, _⟩ => ⟨S4x8192x1, .f32⟩
  | .hbm, ⟨9, _⟩ => ⟨S4x8192x8, .f32⟩
  | .hbm, ⟨10, _⟩ => ⟨S4x8192x8, .f32⟩
  | .hbm, ⟨11, _⟩ => ⟨S4x8192x8, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S4x8192x8, .f32⟩
  | .hbm, ⟨16, _⟩ => ⟨S4x8192x8, .f32⟩
  | .hbm, ⟨17, _⟩ => ⟨S4x8192x2, .f32⟩
  | .hbm, ⟨18, _⟩ => ⟨S4x8192x2, .i32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S4x8192x2, .f32⟩
  | .hbm, ⟨23, _⟩ => ⟨S4x8192x2, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_values : Ref sig .tc := ⟨.hbm, 17, rfl⟩
abbrev main_indices : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Proof.Words.lean ====
/-
  The scalar words of the pipelined loop, in closed form.

  Before trip `k` the loop carries the issue counters `k + 1` of the four input streams, the wait counters `k`, the
  issue counters `k` and wait counters `k - 1` of the twelve outputs, and the inner grid's two indices `k / 4` and
  `k % 4`. A slot or a semaphore cell is addressed by a counter modulo two; a block of an array by the batch
  `2 i + k / 4` and the position `4 w + k % 4` of stream `w`.
-/
module

public import proofs.«01_k».proof.Proof.Gen.KernelIdeal.Loops
public import Idealize.ShloMosaic.Lib.Ring
public import Idealize.ShloMosaic.Lib.Affine
public import Idealize.ShloMosaic.Lib.Tactic

@[expose] public section

set_option maxRecDepth 16384

noncomputable section

namespace Cert.Proof.Words

open Cert.KernelIdeal Cert.KernelIdeal.Gen
open Idealize.ShloMosaic Idealize.ShloMosaic.TcCoe Idealize.ShloMosaic.Tactic
open Idealize.ShloMosaic.Ring

/-- The word of a counter. -/
def wn (n : ℕ) : BitVec 32 := BitVec.ofNat 32 n
/-- The inner batch index at step `k`. -/
def wb (k : ℕ) : BitVec 32 := BitVec.ofNat 32 (k / 4 % 2)
/-- The inner block index at step `k`. -/
def wj (k : ℕ) : BitVec 32 := BitVec.ofNat 32 (k % 4)

theorem toNat_rem_two (n : ℕ) : (Scalar.remui (wn n) 2#32).toNat = n % 2 := by
  have h : (Scalar.remui (wn n) 2#32) = (BitVec.ofNat 32 n) % 2#32 := by
    simp [Scalar.remui, IntOp.remui, wn]
  rw [h, BitVec.toNat_umod, BitVec.toNat_ofNat, BitVec.toNat_ofNat, Nat.mod_eq_of_lt (show 2 < 2 ^ 32 by decide)]
  omega

/-! ## Canonical slots, cells and blocks -/

abbrev so4 (s : Fin 2) : Fin 4 → Nat := ![s.val, 0, 0, 0]
abbrev so1 (s : Fin 2) : Fin 1 → Nat := ![s.val]

theorem so1_inb (s : Fin 2) : ∀ a, so1 s a + S1.size a ≤ S2.size a := by revert s; decide +kernel
theorem so4x_inb (s : Fin 2) : ∀ a, so4 s a + S1x1x512x1024.size a ≤ S2x1x512x1024.size a := by revert s; decide +kernel
theorem so4l_inb (s : Fin 2) : ∀ a, so4 s a + S1x1x8x512.size a ≤ S2x1x8x512.size a := by revert s; decide +kernel
theorem so4w_inb (s : Fin 2) : ∀ a, so4 s a + S1x1x2x512.size a ≤ S2x1x2x512.size a := by revert s; decide +kernel

/-- Batch of step `n` at core `i`; position of stream `w` at step `n`. -/
def stB (i : grid0.Coords) (n : ℕ) : Fin 4 := Fin.ofNat 4 (2 * (i 0).val + n / 4 % 2)
def stQ (w : Fin 4) (n : ℕ) : Fin 16 := Fin.ofNat 16 (4 * w.val + n % 4)

abbrev xo (b : Fin 4) (q : Fin 16) : Fin 3 → Nat := ![b.val, 512 * q.val, 0]
abbrev oo (b : Fin 4) (q : Fin 16) : Fin 3 → Nat := ![b.val, 0, 512 * q.val]
theorem xo_inb (b : Fin 4) (q : Fin 16) : ∀ a, xo b q a + S1x512x1024.size a ≤ S4x8192x1024.size a := by
  revert b q; decide +kernel
theorem ool_inb (b : Fin 4) (q : Fin 16) : ∀ a, oo b q a + S1x8x512.size a ≤ S4x8x8192.size a := by
  revert b q; decide +kernel
theorem oow_inb (b : Fin 4) (q : Fin 16) : ∀ a, oo b q a + S1x2x512.size a ≤ S4x2x8192.size a := by
  revert b q; decide +kernel

/-- Slot `s` of an input ring, as the body slices and squeezes it. -/
def xslot (M : Memref sig .tc .vmem S2x1x512x1024 .f32) (s : Fin 2) : Memref sig .tc .vmem S1x512x1024 .f32 :=
  (M.slice (Rect.unit (s := S2x1x512x1024) (so4 s) S1x1x512x1024.size (so4x_inb s)) (fun _ => rfl)).squeeze S1x512x1024 squeezes_S1x1x512x1024_S1x512x1024
/-- Slot `s` of a logits ring. -/
def lslot (M : Memref sig .tc .vmem S2x1x8x512 .f32) (s : Fin 2) : Memref sig .tc .vmem S1x8x512 .f32 :=
  (M.slice (Rect.unit (s := S2x1x8x512) (so4 s) S1x1x8x512.size (so4l_inb s)) (fun _ => rfl)).squeeze S1x8x512 squeezes_S1x1x8x512_S1x8x512
/-- Slot `s` of a ring of two selected rows (weights or experts). -/
def wslot {t : EltTy} (M : Memref sig .tc .vmem S2x1x2x512 t) (s : Fin 2) : Memref sig .tc .vmem S1x2x512 t :=
  (M.slice (Rect.unit (s := S2x1x2x512) (so4 s) S1x1x2x512.size (so4w_inb s)) (fun _ => rfl)).squeeze S1x2x512 squeezes_S1x1x2x512_S1x2x512
/-- Slot `s`'s cell of a ring's semaphores. -/
def csm (S : DmaSems sig S2) (s : Fin 2) : DmaSems sig S_ :=
  (S.slice (Rect.unit (s := S2) (so1 s) S1.size (so1_inb s))).squeeze S_ squeezes_S1_S_

/-- Block `(b, q)` of the input, of the logits, of the two selected rows. -/
def xblk (M : Memref sig .tc .hbm S4x8192x1024 .f32) (b : Fin 4) (q : Fin 16) : Memref sig .tc .hbm S1x512x1024 .f32 :=
  M.slice (Rect.unit (s := S4x8192x1024) (xo b q) S1x512x1024.size (xo_inb b q)) (fun _ => rfl)
def lblk (M : Memref sig .tc .hbm S4x8x8192 .f32) (b : Fin 4) (q : Fin 16) : Memref sig .tc .hbm S1x8x512 .f32 :=
  M.slice (Rect.unit (s := S4x8x8192) (oo b q) S1x8x512.size (ool_inb b q)) (fun _ => rfl)
def wblk {t : EltTy} (M : Memref sig .tc .hbm S4x2x8192 t) (b : Fin 4) (q : Fin 16) : Memref sig .tc .hbm S1x2x512 t :=
  M.slice (Rect.unit (s := S4x2x8192) (oo b q) S1x2x512.size (oow_inb b q)) (fun _ => rfl)

instance (s : Fin 2) : ClosedOff (so4 s) := ⟨so4 s, rfl⟩
instance (s : Fin 2) : ClosedOff (so1 s) := ⟨so1 s, rfl⟩
instance (b : Fin 4) (q : Fin 16) : ClosedOff (xo b q) := ⟨xo b q, rfl⟩
instance (b : Fin 4) (q : Fin 16) : ClosedOff (oo b q) := ⟨oo b q, rfl⟩

/-! ## "The slice at offset `off` is …", as rewriting reads it -/

abbrev SemAt (off : Fin 1 → Nat) (s : Fin 2) : Prop := ∀ (S : DmaSems sig S2) hh,
  (S.slice (Rect.unit (s := S2) off S1.size hh)).squeeze S_ squeezes_S1_S_ = csm S s
abbrev XAt (off : Fin 4 → Nat) (s : Fin 2) : Prop := ∀ (M : Memref sig .tc .vmem S2x1x512x1024 .f32) hh hs,
  (M.slice (Rect.unit (s := S2x1x512x1024) off S1x1x512x1024.size hh) hs).squeeze S1x512x1024 squeezes_S1x1x512x1024_S1x512x1024 = xslot M s
abbrev LAt (off : Fin 4 → Nat) (s : Fin 2) : Prop := ∀ (M : Memref sig .tc .vmem S2x1x8x512 .f32) hh hs,
  (M.slice (Rect.unit (s := S2x1x8x512) off S1x1x8x512.size hh) hs).squeeze S1x8x512 squeezes_S1x1x8x512_S1x8x512 = lslot M s
abbrev WAt (t : EltTy) (off : Fin 4 → Nat) (s : Fin 2) : Prop := ∀ (M : Memref sig .tc .vmem S2x1x2x512 t) hh hs,
  (M.slice (Rect.unit (s := S2x1x2x512) off S1x1x2x512.size hh) hs).squeeze S1x2x512 squeezes_S1x1x2x512_S1x2x512 = wslot M s
abbrev XBAt (off : Fin 3 → Nat) (b : Fin 4) (q : Fin 16) : Prop := ∀ (M : Memref sig .tc .hbm S4x8192x1024 .f32) hh hs,
  M.slice (Rect.unit (s := S4x8192x1024) off S1x512x1024.size hh) hs = xblk M b q
abbrev LBAt (off : Fin 3 → Nat) (b : Fin 4) (q : Fin 16) : Prop := ∀ (M : Memref sig .tc .hbm S4x8x8192 .f32) hh hs,
  M.slice (Rect.unit (s := S4x8x8192) off S1x8x512.size hh) hs = lblk M b q
abbrev WBAt (t : EltTy) (off : Fin 3 → Nat) (b : Fin 4) (q : Fin 16) : Prop := ∀ (M : Memref sig .tc .hbm S4x2x8192 t) hh hs,
  M.slice (Rect.unit (s := S4x2x8192) off S1x2x512.size hh) hs = wblk M b q

theorem semAt {off : Fin 1 → Nat} {s : Fin 2} (e : off = so1 s) : SemAt off s := by subst e; intro S hh; rfl
theorem xAt {off : Fin 4 → Nat} {s : Fin 2} (e : off = so4 s) : XAt off s := by subst e; intro S hh hs; rfl
theorem lAt {off : Fin 4 → Nat} {s : Fin 2} (e : off = so4 s) : LAt off s := by subst e; intro S hh hs; rfl
theorem wAt {t : EltTy} {off : Fin 4 → Nat} {s : Fin 2} (e : off = so4 s) : WAt t off s := by subst e; intro S hh hs; rfl
theorem xbAt {off : Fin 3 → Nat} {b : Fin 4} {q : Fin 16} (e : off = xo b q) : XBAt off b q := by subst e; intro S hh hs; rfl
theorem lbAt {off : Fin 3 → Nat} {b : Fin 4} {q : Fin 16} (e : off = oo b q) : LBAt off b q := by subst e; intro S hh hs; rfl
theorem wbAt {t : EltTy} {off : Fin 3 → Nat} {b : Fin 4} {q : Fin 16} (e : off = oo b q) : WBAt t off b q := by subst e; intro S hh hs; rfl

/-- A counter's cell and slot: the counter modulo two. -/
theorem cell_eq (n : ℕ) : (![(Scalar.remui (wn n) 2#32).toNat] : Fin 1 → Nat) = so1 (sl 2 n) := by
  rw [toNat_rem_two]; rfl
theorem slot_eq (n : ℕ) : (![(Scalar.remui (wn n) 2#32).toNat, 0, 0, 0] : Fin 4 → Nat) = so4 (sl 2 n) := by
  rw [toNat_rem_two]; rfl

/-! ## Cells and slots -/

/-- The cells a counter addresses. -/
@[sl_canon] theorem cells (n : ℕ) :
    SemAt (k0_off7 (wn n)) (sl 2 n) ∧
    SemAt (k0_off10 (wn n)) (sl 2 n) ∧
    SemAt (k0_off13 (wn n)) (sl 2 n) ∧
    SemAt (k0_off16 (wn n)) (sl 2 n) ∧
    SemAt (k0_off19 (wn n)) (sl 2 n) ∧
    SemAt (k0_off22 (wn n)) (sl 2 n) ∧
    SemAt (k0_off25 (wn n)) (sl 2 n) ∧
    SemAt (k0_off28 (wn n)) (sl 2 n) ∧
    SemAt (k0_off47 (wn n)) (sl 2 n) ∧
    SemAt (k0_off50 (wn n)) (sl 2 n) ∧
    SemAt (k0_off53 (wn n)) (sl 2 n) ∧
    SemAt (k0_off56 (wn n)) (sl 2 n) ∧
    SemAt (k0_off59 (wn n)) (sl 2 n) ∧
    SemAt (k0_off62 (wn n)) (sl 2 n) ∧
    SemAt (k0_off65 (wn n)) (sl 2 n) ∧
    SemAt (k0_off68 (wn n)) (sl 2 n) ∧
    SemAt (k0_off71 (wn n)) (sl 2 n) ∧
    SemAt (k0_off74 (wn n)) (sl 2 n) ∧
    SemAt (k0_off77 (wn n)) (sl 2 n) ∧
    SemAt (k0_off80 (wn n)) (sl 2 n) ∧
    SemAt (k0_off83 (wn n)) (sl 2 n) ∧
    SemAt (k0_off86 (wn n)) (sl 2 n) ∧
    SemAt (k0_off89 (wn n)) (sl 2 n) ∧
    SemAt (k0_off92 (wn n)) (sl 2 n) ∧
    SemAt (k0_off95 (wn n)) (sl 2 n) ∧
    SemAt (k0_off98 (wn n)) (sl 2 n) ∧
    SemAt (k0_off101 (wn n)) (sl 2 n) ∧
    SemAt (k0_off104 (wn n)) (sl 2 n) ∧
    SemAt (k0_off107 (wn n)) (sl 2 n) ∧
    SemAt (k0_off110 (wn n)) (sl 2 n) ∧
    SemAt (k0_off113 (wn n)) (sl 2 n) ∧
    SemAt (k0_off116 (wn n)) (sl 2 n) ∧
    SemAt (k0_off119 (wn n)) (sl 2 n) ∧
    SemAt (k0_off122 (wn n)) (sl 2 n) ∧
    SemAt (k0_off125 (wn n)) (sl 2 n) ∧
    SemAt (k0_off128 (wn n)) (sl 2 n) ∧
    SemAt (k0_off131 (wn n)) (sl 2 n) ∧
    SemAt (k0_off134 (wn n)) (sl 2 n) ∧
    SemAt (k0_off137 (wn n)) (sl 2 n) ∧
    SemAt (k0_off140 (wn n)) (sl 2 n) ∧
    SemAt (k0_off143 (wn n)) (sl 2 n) ∧
    SemAt (k0_off146 (wn n)) (sl 2 n) ∧
    SemAt (k0_off149 (wn n)) (sl 2 n) ∧
    SemAt (k0_off152 (wn n)) (sl 2 n) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact semAt (cell_eq n)

/-- The input rings' slots. -/
@[sl_canon] theorem xslots (n : ℕ) :
    XAt (k0_off8 (wn n)) (sl 2 n) ∧
    XAt (k0_off11 (wn n)) (sl 2 n) ∧
    XAt (k0_off14 (wn n)) (sl 2 n) ∧
    XAt (k0_off17 (wn n)) (sl 2 n) ∧
    XAt (k0_off20 (wn n)) (sl 2 n) ∧
    XAt (k0_off23 (wn n)) (sl 2 n) ∧
    XAt (k0_off26 (wn n)) (sl 2 n) ∧
    XAt (k0_off29 (wn n)) (sl 2 n) := by
  refine ⟨?_, ?_, ?_, ?_, ?_, ?_, ?_, ?_⟩ <;> exact xAt (slot_eq n)

/-- The logits rings' slots. -/
@[sl_canon] theorem lslots (n : ℕ) :
    LAt (k0_off49 (wn n)) (sl 2 n) ∧
    LAt (k0_off85 (wn n)) (sl 2 n) ∧
    LAt (k0_off121 (wn n)) (sl 2 n) ∧
    LAt (k0_off52 (wn n)) (sl 2 n) ∧
    LAt (k0_off88 (wn n)) (sl 2 n) ∧
    LAt (k0_off124 (wn n)) (sl 2 n) ∧
    LAt (k0_off55 (wn n)) (sl 2 n) ∧
    LAt (k0_off91 (wn n)) (sl 2 n) ∧
    LAt (k0_off127 (wn n)) (sl 2 n) ∧
    LAt (k0_off58 (wn n)) (sl 2 n) ∧
    LAt (k0_off94 (wn n)) (sl 2 n) ∧
    LAt (k0_off130 (wn n)) (sl 2 n) := by
  refine ⟨?_, ?_, ?_, ?_, ?_, ?_, ?_, ?_, ?_, ?_, ?_, ?_⟩ <;> exact lAt (slot_eq n)

/-- The weights rings' slots. -/
@[sl_canon] theorem wslots (n : ℕ) :
    WAt .f32 (k0_off61 (wn n)) (sl 2 n) ∧
    WAt .f32 (k0_off97 (wn n)) (sl 2 n) ∧
    WAt .f32 (k0_off133 (wn n)) (sl 2 n) ∧
    WAt .f32 (k0_off64 (wn n)) (sl 2 n) ∧
    WAt .f32 (k0_off100 (wn n)) (sl 2 n) ∧
    WAt .f32 (k0_off136 (wn n)) (sl 2 n) ∧
    WAt .f32 (k0_off67 (wn n)) (sl 2 n) ∧
    WAt .f32 (k0_off103 (wn n)) (sl 2 n) ∧
    WAt .f32 (k0_off139 (wn n)) (sl 2 n) ∧
    WAt .f32 (k0_off70 (wn n)) (sl 2 n) ∧
    WAt .f32 (k0_off106 (wn n)) (sl 2 n) ∧
    WAt .f32 (k0_off142 (wn n)) (sl 2 n) := by
  refine ⟨?_, ?_, ?_, ?_, ?_, ?_, ?_, ?_, ?_, ?_, ?_, ?_⟩ <;> exact wAt (slot_eq n)

/-- The experts rings' slots. -/
@[sl_canon] theorem eslots (n : ℕ) :
    WAt .i32 (k0_off73 (wn n)) (sl 2 n) ∧
    WAt .i32 (k0_off109 (wn n)) (sl 2 n) ∧
    WAt .i32 (k0_off145 (wn n)) (sl 2 n) ∧
    WAt .i32 (k0_off76 (wn n)) (sl 2 n) ∧
    WAt .i32 (k0_off112 (wn n)) (sl 2 n) ∧
    WAt .i32 (k0_off148 (wn n)) (sl 2 n) ∧
    WAt .i32 (k0_off79 (wn n)) (sl 2 n) ∧
    WAt .i32 (k0_off115 (wn n)) (sl 2 n) ∧
    WAt .i32 (k0_off151 (wn n)) (sl 2 n) ∧
    WAt .i32 (k0_off82 (wn n)) (sl 2 n) ∧
    WAt .i32 (k0_off118 (wn n)) (sl 2 n) ∧
    WAt .i32 (k0_off154 (wn n)) (sl 2 n) := by
  refine ⟨?_, ?_, ?_, ?_, ?_, ?_, ?_, ?_, ?_, ?_, ?_, ?_⟩ <;> exact wAt (slot_eq n)

/-- The slots the trip reads its tokens from and writes its results to. -/
@[sl_canon] theorem slots (n : ℕ) :
    XAt (k0_off31 (wn n)) (sl 2 n) ∧
    LAt (k0_off32 (wn n)) (sl 2 n) ∧
    WAt .f32 (k0_off33 (wn n)) (sl 2 n) ∧
    WAt .i32 (k0_off34 (wn n)) (sl 2 n) ∧
    XAt (k0_off35 (wn n)) (sl 2 n) ∧
    LAt (k0_off36 (wn n)) (sl 2 n) ∧
    WAt .f32 (k0_off37 (wn n)) (sl 2 n) ∧
    WAt .i32 (k0_off38 (wn n)) (sl 2 n) ∧
    XAt (k0_off39 (wn n)) (sl 2 n) ∧
    LAt (k0_off40 (wn n)) (sl 2 n) ∧
    WAt .f32 (k0_off41 (wn n)) (sl 2 n) ∧
    WAt .i32 (k0_off42 (wn n)) (sl 2 n) ∧
    XAt (k0_off43 (wn n)) (sl 2 n) ∧
    LAt (k0_off44 (wn n)) (sl 2 n) ∧
    WAt .f32 (k0_off45 (wn n)) (sl 2 n) ∧
    WAt .i32 (k0_off46 (wn n)) (sl 2 n) := by
  refine ⟨?_, ?_, ?_, ?_, ?_, ?_, ?_, ?_, ?_, ?_, ?_, ?_, ?_, ?_, ?_, ?_⟩ <;> first | exact xAt (slot_eq n) | exact lAt (slot_eq n) | exact wAt (slot_eq n)

/-! ## Blocks -/

theorem issueIn_offs : ∀ (i : grid0.Coords) (k : Fin k0_t1_loop.trips), k.val < 7 →
    k0_off9 i (wb k.val) (wj k.val) = xo (stB i (k.val + 1)) (stQ 0 (k.val + 1)) ∧
    k0_off12 i (wb k.val) (wj k.val) = xo (stB i (k.val + 1)) (stQ 1 (k.val + 1)) ∧
    k0_off15 i (wb k.val) (wj k.val) = xo (stB i (k.val + 1)) (stQ 2 (k.val + 1)) ∧
    k0_off18 i (wb k.val) (wj k.val) = xo (stB i (k.val + 1)) (stQ 3 (k.val + 1)) := by
  decide +kernel

/-- The blocks issued at trip `k`: the next step's. -/
@[sl_canon] theorem issueIn (i : grid0.Coords) (k : Fin k0_t1_loop.trips) (h : k.val < 7) :
    XBAt (k0_off9 i (wb k.val) (wj k.val)) (stB i (k.val + 1)) (stQ 0 (k.val + 1)) ∧
    XBAt (k0_off12 i (wb k.val) (wj k.val)) (stB i (k.val + 1)) (stQ 1 (k.val + 1)) ∧
    XBAt (k0_off15 i (wb k.val) (wj k.val)) (stB i (k.val + 1)) (stQ 2 (k.val + 1)) ∧
    XBAt (k0_off18 i (wb k.val) (wj k.val)) (stB i (k.val + 1)) (stQ 3 (k.val + 1)) := by
  obtain ⟨e0, e1, e2, e3⟩ := issueIn_offs i k h
  exact ⟨xbAt e0, xbAt e1, xbAt e2, xbAt e3⟩

theorem waitIn_offs : ∀ (i : grid0.Coords) (k : Fin k0_t1_loop.trips),
    k0_off21 i (wb k.val) (wj k.val) = xo (stB i k.val) (stQ 0 k.val) ∧
    k0_off24 i (wb k.val) (wj k.val) = xo (stB i k.val) (stQ 1 k.val) ∧
    k0_off27 i (wb k.val) (wj k.val) = xo (stB i k.val) (stQ 2 k.val) ∧
    k0_off30 i (wb k.val) (wj k.val) = xo (stB i k.val) (stQ 3 k.val) := by
  decide +kernel

/-- The blocks waited for at trip `k`. -/
@[sl_canon] theorem waitIn (i : grid0.Coords) (k : Fin k0_t1_loop.trips)  :
    XBAt (k0_off21 i (wb k.val) (wj k.val)) (stB i k.val) (stQ 0 k.val) ∧
    XBAt (k0_off24 i (wb k.val) (wj k.val)) (stB i k.val) (stQ 1 k.val) ∧
    XBAt (k0_off27 i (wb k.val) (wj k.val)) (stB i k.val) (stQ 2 k.val) ∧
    XBAt (k0_off30 i (wb k.val) (wj k.val)) (stB i k.val) (stQ 3 k.val) := by
  obtain ⟨e0, e1, e2, e3⟩ := waitIn_offs i k
  exact ⟨xbAt e0, xbAt e1, xbAt e2, xbAt e3⟩

theorem issueOut_offs : ∀ (i : grid0.Coords) (k : Fin k0_t1_loop.trips),
    k0_off48 i (wb k.val) (wj k.val) = oo (stB i k.val) (stQ 0 k.val) ∧
    k0_off51 i (wb k.val) (wj k.val) = oo (stB i k.val) (stQ 1 k.val) ∧
    k0_off54 i (wb k.val) (wj k.val) = oo (stB i k.val) (stQ 2 k.val) ∧
    k0_off57 i (wb k.val) (wj k.val) = oo (stB i k.val) (stQ 3 k.val) ∧
    k0_off60 i (wb k.val) (wj k.val) = oo (stB i k.val) (stQ 0 k.val) ∧
    k0_off63 i (wb k.val) (wj k.val) = oo (stB i k.val) (stQ 1 k.val) ∧
    k0_off66 i (wb k.val) (wj k.val) = oo (stB i k.val) (stQ 2 k.val) ∧
    k0_off69 i (wb k.val) (wj k.val) = oo (stB i k.val) (stQ 3 k.val) ∧
    k0_off72 i (wb k.val) (wj k.val) = oo (stB i k.val) (stQ 0 k.val) ∧
    k0_off75 i (wb k.val) (wj k.val) = oo (stB i k.val) (stQ 1 k.val) ∧
    k0_off78 i (wb k.val) (wj k.val) = oo (stB i k.val) (stQ 2 k.val) ∧
    k0_off81 i (wb k.val) (wj k.val) = oo (stB i k.val) (stQ 3 k.val) := by
  decide +kernel

/-- The blocks written at trip `k`. -/
@[sl_canon] theorem issueOut (i : grid0.Coords) (k : Fin k0_t1_loop.trips)  :
    LBAt (k0_off48 i (wb k.val) (wj k.val)) (stB i k.val) (stQ 0 k.val) ∧
    LBAt (k0_off51 i (wb k.val) (wj k.val)) (stB i k.val) (stQ 1 k.val) ∧
    LBAt (k0_off54 i (wb k.val) (wj k.val)) (stB i k.val) (stQ 2 k.val) ∧
    LBAt (k0_off57 i (wb k.val) (wj k.val)) (stB i k.val) (stQ 3 k.val) ∧
    WBAt .f32 (k0_off60 i (wb k.val) (wj k.val)) (stB i k.val) (stQ 0 k.val) ∧
    WBAt .f32 (k0_off63 i (wb k.val) (wj k.val)) (stB i k.val) (stQ 1 k.val) ∧
    WBAt .f32 (k0_off66 i (wb k.val) (wj k.val)) (stB i k.val) (stQ 2 k.val) ∧
    WBAt .f32 (k0_off69 i (wb k.val) (wj k.val)) (stB i k.val) (stQ 3 k.val) ∧
    WBAt .i32 (k0_off72 i (wb k.val) (wj k.val)) (stB i k.val) (stQ 0 k.val) ∧
    WBAt .i32 (k0_off75 i (wb k.val) (wj k.val)) (stB i k.val) (stQ 1 k.val) ∧
    WBAt .i32 (k0_off78 i (wb k.val) (wj k.val)) (stB i k.val) (stQ 2 k.val) ∧
    WBAt .i32 (k0_off81 i (wb k.val) (wj k.val)) (stB i k.val) (stQ 3 k.val) := by
  obtain ⟨e0, e1, e2, e3, e4, e5, e6, e7, e8, e9, e10, e11⟩ := issueOut_offs i k
  exact ⟨lbAt e0, lbAt e1, lbAt e2, lbAt e3, wbAt e4, wbAt e5, wbAt e6, wbAt e7, wbAt e8, wbAt e9, wbAt e10, wbAt e11⟩

theorem waitOut_offs : ∀ (i : grid0.Coords) (k : Fin k0_t1_loop.trips), 1 ≤ k.val →
    k0_off84 i (wb k.val) (wj k.val) = oo (stB i (k.val - 1)) (stQ 0 (k.val - 1)) ∧
    k0_off87 i (wb k.val) (wj k.val) = oo (stB i (k.val - 1)) (stQ 1 (k.val - 1)) ∧
    k0_off90 i (wb k.val) (wj k.val) = oo (stB i (k.val - 1)) (stQ 2 (k.val - 1)) ∧
    k0_off93 i (wb k.val) (wj k.val) = oo (stB i (k.val - 1)) (stQ 3 (k.val - 1)) ∧
    k0_off96 i (wb k.val) (wj k.val) = oo (stB i (k.val - 1)) (stQ 0 (k.val - 1)) ∧
    k0_off99 i (wb k.val) (wj k.val) = oo (stB i (k.val - 1)) (stQ 1 (k.val - 1)) ∧
    k0_off102 i (wb k.val) (wj k.val) = oo (stB i (k.val - 1)) (stQ 2 (k.val - 1)) ∧
    k0_off105 i (wb k.val) (wj k.val) = oo (stB i (k.val - 1)) (stQ 3 (k.val - 1)) ∧
    k0_off108 i (wb k.val) (wj k.val) = oo (stB i (k.val - 1)) (stQ 0 (k.val - 1)) ∧
    k0_off111 i (wb k.val) (wj k.val) = oo (stB i (k.val - 1)) (stQ 1 (k.val - 1)) ∧
    k0_off114 i (wb k.val) (wj k.val) = oo (stB i (k.val - 1)) (stQ 2 (k.val - 1)) ∧
    k0_off117 i (wb k.val) (wj k.val) = oo (stB i (k.val - 1)) (stQ 3 (k.val - 1)) := by
  decide +kernel

/-- The blocks whose copies trip `k` waits for: the previous step's. -/
@[sl_canon] theorem waitOut (i : grid0.Coords) (k : Fin k0_t1_loop.trips) (h : 1 ≤ k.val) :
    LBAt (k0_off84 i (wb k.val) (wj k.val)) (stB i (k.val - 1)) (stQ 0 (k.val - 1)) ∧
    LBAt (k0_off87 i (wb k.val) (wj k.val)) (stB i (k.val - 1)) (stQ 1 (k.val - 1)) ∧
    LBAt (k0_off90 i (wb k.val) (wj k.val)) (stB i (k.val - 1)) (stQ 2 (k.val - 1)) ∧
    LBAt (k0_off93 i (wb k.val) (wj k.val)) (stB i (k.val - 1)) (stQ 3 (k.val - 1)) ∧
    WBAt .f32 (k0_off96 i (wb k.val) (wj k.val)) (stB i (k.val - 1)) (stQ 0 (k.val - 1)) ∧
    WBAt .f32 (k0_off99 i (wb k.val) (wj k.val)) (stB i (k.val - 1)) (stQ 1 (k.val - 1)) ∧
    WBAt .f32 (k0_off102 i (wb k.val) (wj k.val)) (stB i (k.val - 1)) (stQ 2 (k.val - 1)) ∧
    WBAt .f32 (k0_off105 i (wb k.val) (wj k.val)) (stB i (k.val - 1)) (stQ 3 (k.val - 1)) ∧
    WBAt .i32 (k0_off108 i (wb k.val) (wj k.val)) (stB i (k.val - 1)) (stQ 0 (k.val - 1)) ∧
    WBAt .i32 (k0_off111 i (wb k.val) (wj k.val)) (stB i (k.val - 1)) (stQ 1 (k.val - 1)) ∧
    WBAt .i32 (k0_off114 i (wb k.val) (wj k.val)) (stB i (k.val - 1)) (stQ 2 (k.val - 1)) ∧
    WBAt .i32 (k0_off117 i (wb k.val) (wj k.val)) (stB i (k.val - 1)) (stQ 3 (k.val - 1)) := by
  obtain ⟨e0, e1, e2, e3, e4, e5, e6, e7, e8, e9, e10, e11⟩ := waitOut_offs i k h
  exact ⟨lbAt e0, lbAt e1, lbAt e2, lbAt e3, wbAt e4, wbAt e5, wbAt e6, wbAt e7, wbAt e8, wbAt e9, wbAt e10, wbAt e11⟩

theorem lastOut_offs : ∀ i : grid0.Coords,
    k0_off120 i (wj 8) (wb 8) = oo (stB i 7) (stQ 0 7) ∧
    k0_off123 i (wj 8) (wb 8) = oo (stB i 7) (stQ 1 7) ∧
    k0_off126 i (wj 8) (wb 8) = oo (stB i 7) (stQ 2 7) ∧
    k0_off129 i (wj 8) (wb 8) = oo (stB i 7) (stQ 3 7) ∧
    k0_off132 i (wj 8) (wb 8) = oo (stB i 7) (stQ 0 7) ∧
    k0_off135 i (wj 8) (wb 8) = oo (stB i 7) (stQ 1 7) ∧
    k0_off138 i (wj 8) (wb 8) = oo (stB i 7) (stQ 2 7) ∧
    k0_off141 i (wj 8) (wb 8) = oo (stB i 7) (stQ 3 7) ∧
    k0_off144 i (wj 8) (wb 8) = oo (stB i 7) (stQ 0 7) ∧
    k0_off147 i (wj 8) (wb 8) = oo (stB i 7) (stQ 1 7) ∧
    k0_off150 i (wj 8) (wb 8) = oo (stB i 7) (stQ 2 7) ∧
    k0_off153 i (wj 8) (wb 8) = oo (stB i 7) (stQ 3 7) := by
  decide +kernel

/-- The last step's blocks, waited for after the loop. -/
@[sl_canon] theorem lastOut (i : grid0.Coords) :
    LBAt (k0_off120 i (wj 8) (wb 8)) (stB i 7) (stQ 0 7) ∧
    LBAt (k0_off123 i (wj 8) (wb 8)) (stB i 7) (stQ 1 7) ∧
    LBAt (k0_off126 i (wj 8) (wb 8)) (stB i 7) (stQ 2 7) ∧
    LBAt (k0_off129 i (wj 8) (wb 8)) (stB i 7) (stQ 3 7) ∧
    WBAt .f32 (k0_off132 i (wj 8) (wb 8)) (stB i 7) (stQ 0 7) ∧
    WBAt .f32 (k0_off135 i (wj 8) (wb 8)) (stB i 7) (stQ 1 7) ∧
    WBAt .f32 (k0_off138 i (wj 8) (wb 8)) (stB i 7) (stQ 2 7) ∧
    WBAt .f32 (k0_off141 i (wj 8) (wb 8)) (stB i 7) (stQ 3 7) ∧
    WBAt .i32 (k0_off144 i (wj 8) (wb 8)) (stB i 7) (stQ 0 7) ∧
    WBAt .i32 (k0_off147 i (wj 8) (wb 8)) (stB i 7) (stQ 1 7) ∧
    WBAt .i32 (k0_off150 i (wj 8) (wb 8)) (stB i 7) (stQ 2 7) ∧
    WBAt .i32 (k0_off153 i (wj 8) (wb 8)) (stB i 7) (stQ 3 7) := by
  obtain ⟨e0, e1, e2, e3, e4, e5, e6, e7, e8, e9, e10, e11⟩ := lastOut_offs i
  exact ⟨lbAt e0, lbAt e1, lbAt e2, lbAt e3, wbAt e4, wbAt e5, wbAt e6, wbAt e7, wbAt e8, wbAt e9, wbAt e10, wbAt e11⟩

/-- The prologue's cell, slot and first blocks. -/
theorem first_offs : k0_off1 = so1 (sl 2 0) ∧ k0_off2 = so4 (sl 2 0) ∧ ∀ i : grid0.Coords,
    k0_off3 i = xo (stB i 0) (stQ 0 0) ∧ k0_off4 i = xo (stB i 0) (stQ 1 0) ∧
    k0_off5 i = xo (stB i 0) (stQ 2 0) ∧ k0_off6 i = xo (stB i 0) (stQ 3 0) := by
  decide +kernel
@[sl_canon] theorem firstSlot : SemAt k0_off1 (sl 2 0) ∧ XAt k0_off2 (sl 2 0) :=
  ⟨semAt first_offs.1, xAt first_offs.2.1⟩
@[sl_canon] theorem firstIn (i : grid0.Coords) :
    XBAt (k0_off3 i) (stB i 0) (stQ 0 0) ∧ XBAt (k0_off4 i) (stB i 0) (stQ 1 0) ∧
    XBAt (k0_off5 i) (stB i 0) (stQ 2 0) ∧ XBAt (k0_off6 i) (stB i 0) (stQ 3 0) := by
  obtain ⟨a, b, c, d⟩ := first_offs.2.2 i
  exact ⟨xbAt a, xbAt b, xbAt c, xbAt d⟩

/-! ## Which copies a trip starts and which it waits for -/

/-- A trip but the last starts the next step's input copies; -/
theorem issues : ∀ (i : grid0.Coords) (k : Fin k0_t1_loop.trips), k.val < 7 →
    k0_cond1 i k (wb k.val) (wj k.val) = 1#1 ∧
    k0_cond2 i k (wb k.val) (wj k.val) = 1#1 ∧
    k0_cond3 i k (wb k.val) (wj k.val) = 1#1 ∧
    k0_cond4 i k (wb k.val) (wj k.val) = 1#1 := by decide +kernel

theorem issues_last : ∀ (i : grid0.Coords) (k : Fin k0_t1_loop.trips), ¬ k.val < 7 →
    ¬ k0_cond1 i k (wb k.val) (wj k.val) = 1#1 ∧
    ¬ k0_cond2 i k (wb k.val) (wj k.val) = 1#1 ∧
    ¬ k0_cond3 i k (wb k.val) (wj k.val) = 1#1 ∧
    ¬ k0_cond4 i k (wb k.val) (wj k.val) = 1#1 := by decide +kernel

/-- every trip waits for its inputs and starts its output copies; -/
theorem always : ∀ (i : grid0.Coords) (k : Fin k0_t1_loop.trips),
    k0_cond5 i k (wb k.val) (wj k.val) = 1#1 ∧
    k0_cond6 i k (wb k.val) (wj k.val) = 1#1 ∧
    k0_cond7 i k (wb k.val) (wj k.val) = 1#1 ∧
    k0_cond8 i k (wb k.val) (wj k.val) = 1#1 ∧
    k0_cond25 i k (wb k.val) (wj k.val) = 1#1 ∧
    k0_cond26 i k (wb k.val) (wj k.val) = 1#1 ∧
    k0_cond27 i k (wb k.val) (wj k.val) = 1#1 ∧
    k0_cond28 i k (wb k.val) (wj k.val) = 1#1 ∧
    k0_cond29 i k (wb k.val) (wj k.val) = 1#1 ∧
    k0_cond30 i k (wb k.val) (wj k.val) = 1#1 ∧
    k0_cond31 i k (wb k.val) (wj k.val) = 1#1 ∧
    k0_cond32 i k (wb k.val) (wj k.val) = 1#1 ∧
    k0_cond33 i k (wb k.val) (wj k.val) = 1#1 ∧
    k0_cond34 i k (wb k.val) (wj k.val) = 1#1 ∧
    k0_cond35 i k (wb k.val) (wj k.val) = 1#1 ∧
    k0_cond36 i k (wb k.val) (wj k.val) = 1#1 := by decide +kernel

/-- a trip but the first waits for the previous step's output copies. -/
theorem waits : ∀ (i : grid0.Coords) (k : Fin k0_t1_loop.trips), 1 ≤ k.val →
    k0_cond41 i k (wb k.val) (wj k.val) = 1#1 ∧
    k0_cond42 i k (wb k.val) (wj k.val) = 1#1 ∧
    k0_cond43 i k (wb k.val) (wj k.val) = 1#1 ∧
    k0_cond44 i k (wb k.val) (wj k.val) = 1#1 ∧
    k0_cond45 i k (wb k.val) (wj k.val) = 1#1 ∧
    k0_cond46 i k (wb k.val) (wj k.val) = 1#1 ∧
    k0_cond47 i k (wb k.val) (wj k.val) = 1#1 ∧
    k0_cond48 i k (wb k.val) (wj k.val) = 1#1 ∧
    k0_cond49 i k (wb k.val) (wj k.val) = 1#1 ∧
    k0_cond50 i k (wb k.val) (wj k.val) = 1#1 ∧
    k0_cond51 i k (wb k.val) (wj k.val) = 1#1 ∧
    k0_cond52 i k (wb k.val) (wj k.val) = 1#1 := by decide +kernel

theorem waits_first : ∀ (i : grid0.Coords) (k : Fin k0_t1_loop.trips), ¬ 1 ≤ k.val →
    ¬ k0_cond41 i k (wb k.val) (wj k.val) = 1#1 ∧
    ¬ k0_cond42 i k (wb k.val) (wj k.val) = 1#1 ∧
    ¬ k0_cond43 i k (wb k.val) (wj k.val) = 1#1 ∧
    ¬ k0_cond44 i k (wb k.val) (wj k.val) = 1#1 ∧
    ¬ k0_cond45 i k (wb k.val) (wj k.val) = 1#1 ∧
    ¬ k0_cond46 i k (wb k.val) (wj k.val) = 1#1 ∧
    ¬ k0_cond47 i k (wb k.val) (wj k.val) = 1#1 ∧
    ¬ k0_cond48 i k (wb k.val) (wj k.val) = 1#1 ∧
    ¬ k0_cond49 i k (wb k.val) (wj k.val) = 1#1 ∧
    ¬ k0_cond50 i k (wb k.val) (wj k.val) = 1#1 ∧
    ¬ k0_cond51 i k (wb k.val) (wj k.val) = 1#1 ∧
    ¬ k0_cond52 i k (wb k.val) (wj k.val) = 1#1 := by decide +kernel

/-! ## The program's own side conditions -/

theorem checks_trip : ∀ (i : grid0.Coords) (k : Fin k0_t1_loop.trips),
    k0_chk1 i k (wn (k.val + 1)) (wn k.val) (wn (k.val + 1)) (wn k.val) (wn (k.val + 1)) (wn k.val) (wn (k.val + 1)) (wn k.val) (wn k.val) (wn (k.val - 1)) (wn k.val) (wn (k.val - 1)) (wn k.val) (wn (k.val - 1)) (wn k.val) (wn (k.val - 1)) (wn k.val) (wn (k.val - 1)) (wn k.val) (wn (k.val - 1)) (wn k.val) (wn (k.val - 1)) (wn k.val) (wn (k.val - 1)) (wn k.val) (wn (k.val - 1)) (wn k.val) (wn (k.val - 1)) (wn k.val) (wn (k.val - 1)) (wn k.val) (wn (k.val - 1)) (wb k.val) (wj k.val) := by
  decide +kernel
theorem checks_slots : ∀ (k : Fin k0_t1_loop.trips),
    k0_chk2 (wn k.val) ∧
    k0_chk3 (wn k.val) ∧
    k0_chk4 (wn k.val) ∧
    k0_chk5 (wn k.val) ∧
    k0_chk6 (wn k.val) ∧
    k0_chk7 (wn k.val) ∧
    k0_chk8 (wn k.val) ∧
    k0_chk9 (wn k.val) ∧
    k0_chk10 (wn k.val) ∧
    k0_chk11 (wn k.val) ∧
    k0_chk12 (wn k.val) ∧
    k0_chk13 (wn k.val) ∧
    k0_chk14 (wn k.val) ∧
    k0_chk15 (wn k.val) ∧
    k0_chk16 (wn k.val) ∧
    k0_chk17 (wn k.val) := by
  decide +kernel
theorem checks_end : k0_chk18 (wn 7) ∧
    k0_chk20 (wn 7) ∧
    k0_chk21 (wn 7) ∧
    k0_chk22 (wn 7) ∧
    k0_chk23 (wn 7) ∧
    k0_chk24 (wn 7) ∧
    k0_chk25 (wn 7) ∧
    k0_chk26 (wn 7) ∧
    k0_chk27 (wn 7) ∧
    k0_chk28 (wn 7) ∧
    k0_chk29 (wn 7) ∧
    k0_chk30 (wn 7) := by
  decide +kernel
theorem checks_last : ∀ i : grid0.Coords, k0_chk19 i (wj 8) (wb 8) := by
  decide +kernel

end Cert.Proof.Words

end
-- ==== Proof.Held.lean ====
/-
  What the pipelined loop holds before each trip: the input blocks at home, their slots free or in flight, the output
  blocks ahead of the loop, in flight, or written, and the output slots.
-/
module

public import proofs.«01_k».proof.Proof.Words
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameSuffixV
public import Idealize.ShloMosaic.Lib.Ring
public import Idealize.ShloMosaic.Lib.Ring.WriteBehind
public import Idealize.ShloMosaic.Lib.Tactic

@[expose] public section

set_option maxRecDepth 16384

noncomputable section

namespace Cert.Proof.Held

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]

abbrev UU : Type := UR sig nD τ × Counters
local notation "𝕄" => MT nD τ sig Unit (Elt F) ℕ UU ℕ
abbrev 𝒱₀ : Variants := Variants.none

omit [FloatOps F] in
theorem entails_of_eq {P Q : sProp 𝕄} (e : P = Q) : P ⊢ Q := e ▸ .rfl

/-! ## The values one step computes from the router's weights and one block of tokens -/

/-- The logits, one row per expert. -/
abbrev logV (W : Vec F S8x1024 .f32) (x : Vec F S1x512x1024 .f32) : Vec F S1x8x512 .f32 := k0_pay2 W x
/-- The two routing weights. -/
abbrev wtV (W : Vec F S8x1024 .f32) (x : Vec F S1x512x1024 .f32) : Vec F S1x2x512 .f32 := k0_pay8 (k0_pay3 W x) (k0_pay6 W x)
/-- The two experts. -/
abbrev exV (W : Vec F S8x1024 .f32) (x : Vec F S1x512x1024 .f32) : Vec F S1x2x512 .i32 :=
  k0_pay9 (iota .tc S8x512 32 [0] iota_S8x512_d0_w32) (k0_pay4 W x) (k0_pay5 W x) (k0_pay7 W x)

section Pieces
variable (c : Dev nD)

/-- Slot `s`'s cell at zero. -/
abbrev cellP (S : DmaSems sig S2) (s : Fin 2) : sProp 𝕄 := semVal ((c : Thread nD τ), SemLoc.dma (csm S s).sem) 0
/-- A memref's elements held at contents `f`. -/
abbrev heldP {sp : Space} {sh : Shape} {e : EltTy} (B : Memref sig .tc sp sh e) (f : Buf (Elt F) (B.view.loc (c : Thread nD τ))) : sProp 𝕄 :=
  B.view.loc (c : Thread nD τ) ↦[B.view.set]{fullShare} f
/-- A slot held at some contents, its cell at zero. -/
abbrev freeP {sp : Space} {sh : Shape} {e : EltTy} (B : Memref sig .tc sp sh e) (S : DmaSems sig S2) (s : Fin 2) : sProp 𝕄 :=
  iprop((∃ f, heldP c B f) ∗ cellP c S s)
/-- A block held at some contents. -/
abbrev someP {sp : Space} {sh : Shape} {e : EltTy} (B : Memref sig .tc sp sh e) : sProp 𝕄 := iprop(∃ f, heldP c B f)
/-- A block that reads `P`. -/
abbrev doneP {sp : Space} {sh : Shape} {e : EltTy} (B : Memref sig .tc sp sh e) (P : sh.Idx → Elt F e) : sProp 𝕄 :=
  iprop(∃ g, ⌜B.view.read (Elt F) g = P⌝ ∗ heldP c B g)
/-- A slot whose copy into block `B` is in flight: its wait hands the block over reading `P`, and the slot back. -/
abbrev goneP {sp sp' : Space} {sh : Shape} {e : EltTy} (B : Memref sig .tc sp sh e) (Sl : Memref sig .tc sp' sh e)
    (S : DmaSems sig S2) (s : Fin 2) (N : ℕ) (P : sh.Idx → Elt F e) : sProp 𝕄 :=
  iprop(∃ (g : Buf (Elt F) (B.view.loc (c : Thread nD τ))) (fs : Buf (Elt F) (Sl.view.loc (c : Thread nD τ))), ⌜B.view.read (Elt F) g = P⌝
    ∗ Transfers.Flight countersEmb (c : Thread nD τ) (SemLoc.dma (csm S s).sem) () N iprop(heldP c B g ∗ heldP c Sl fs))
/-- A slot whose copy from block `B` (held at `X`) is in flight: its wait hands the slot over holding the block, and the block back. -/
abbrev comeP {sp sp' : Space} {sh : Shape} {e : EltTy} (B : Memref sig .tc sp sh e) (X : Buf (Elt F) (B.view.loc (c : Thread nD τ)))
    (Sl : Memref sig .tc sp' sh e) (S : DmaSems sig S2) (s : Fin 2) (N : ℕ) : sProp 𝕄 :=
  iprop(∃ f : Buf (Elt F) (Sl.view.loc (c : Thread nD τ)),
    Transfers.Flight countersEmb (c : Thread nD τ) (SemLoc.dma (csm S s).sem) () N
      iprop(heldP c Sl (Sl.view.writes (Elt F) f [⟨Rect.whole sh, ReadAs.same.apply (B.view.read (Elt F) X)⟩]) ∗ heldP c B X))

end Pieces

section Rings
variable (c : Dev nD) (i : grid0.Coords) (W : Vec F S8x1024 .f32)
  (X : Buf (Elt F) ((Memref.whole main_arg0 : Memref sig .tc .hbm S4x8192x1024 .f32).view.loc (c : Thread nD τ)))

/-- Stream `w`'s block at step `n`, and its words. -/
abbrev xb (w : Fin 4) (n : ℕ) : Memref sig .tc .hbm S1x512x1024 .f32 := xblk (Memref.whole main_arg0) (stB i n) (stQ w n)
abbrev xread (w : Fin 4) (n : ℕ) : Vec F S1x512x1024 .f32 := (xb i w n).view.read (Elt F) X

/-- The four input blocks of step `n`, at home. -/
def homeI (n : ℕ) : sProp 𝕄 :=
  iprop(heldP c (xb i 0 n) X
      ∗ heldP c (xb i 1 n) X
      ∗ heldP c (xb i 2 n) X
      ∗ heldP c (xb i 3 n) X)

/-- The four input slots `s`, free. -/
def freeI (s : Fin 2) : sProp 𝕄 :=
  iprop(freeP c (xslot (Memref.whole cc0_scoped0) s) cc0_scoped1 s
      ∗ freeP c (xslot (Memref.whole cc0_scoped2) s) cc0_scoped3 s
      ∗ freeP c (xslot (Memref.whole cc0_scoped4) s) cc0_scoped5 s
      ∗ freeP c (xslot (Memref.whole cc0_scoped6) s) cc0_scoped7 s)

/-- Step `n`'s four input blocks in flight into slots `s`. -/
def comeI (s : Fin 2) (n : ℕ) : sProp 𝕄 :=
  iprop(comeP c (xb i 0 n) X (xslot (Memref.whole cc0_scoped0) s) cc0_scoped1 s 65536
      ∗ comeP c (xb i 1 n) X (xslot (Memref.whole cc0_scoped2) s) cc0_scoped3 s 65536
      ∗ comeP c (xb i 2 n) X (xslot (Memref.whole cc0_scoped4) s) cc0_scoped5 s 65536
      ∗ comeP c (xb i 3 n) X (xslot (Memref.whole cc0_scoped6) s) cc0_scoped7 s 65536)

/-- The twelve output blocks of step `n`, not yet written. -/
def aheadO (n : ℕ) : sProp 𝕄 :=
  iprop(someP c (lblk (Memref.whole main_v0_0) (stB i n) (stQ 0 n))
      ∗ someP c (lblk (Memref.whole main_v0_0) (stB i n) (stQ 1 n))
      ∗ someP c (lblk (Memref.whole main_v0_0) (stB i n) (stQ 2 n))
      ∗ someP c (lblk (Memref.whole main_v0_0) (stB i n) (stQ 3 n))
      ∗ someP c (wblk (Memref.whole main_v0_1) (stB i n) (stQ 0 n))
      ∗ someP c (wblk (Memref.whole main_v0_1) (stB i n) (stQ 1 n))
      ∗ someP c (wblk (Memref.whole main_v0_1) (stB i n) (stQ 2 n))
      ∗ someP c (wblk (Memref.whole main_v0_1) (stB i n) (stQ 3 n))
      ∗ someP c (wblk (Memref.whole main_v0_2) (stB i n) (stQ 0 n))
      ∗ someP c (wblk (Memref.whole main_v0_2) (stB i n) (stQ 1 n))
      ∗ someP c (wblk (Memref.whole main_v0_2) (stB i n) (stQ 2 n))
      ∗ someP c (wblk (Memref.whole main_v0_2) (stB i n) (stQ 3 n)))

/-- The twelve output slots `s`, free. -/
def freeO (s : Fin 2) : sProp 𝕄 :=
  iprop(freeP c (lslot (Memref.whole cc0_scoped8) s) cc0_scoped9 s
      ∗ freeP c (lslot (Memref.whole cc0_scoped10) s) cc0_scoped11 s
      ∗ freeP c (lslot (Memref.whole cc0_scoped12) s) cc0_scoped13 s
      ∗ freeP c (lslot (Memref.whole cc0_scoped14) s) cc0_scoped15 s
      ∗ freeP c (wslot (Memref.whole cc0_scoped16) s) cc0_scoped17 s
      ∗ freeP c (wslot (Memref.whole cc0_scoped18) s) cc0_scoped19 s
      ∗ freeP c (wslot (Memref.whole cc0_scoped20) s) cc0_scoped21 s
      ∗ freeP c (wslot (Memref.whole cc0_scoped22) s) cc0_scoped23 s
      ∗ freeP c (wslot (Memref.whole cc0_scoped24) s) cc0_scoped25 s
      ∗ freeP c (wslot (Memref.whole cc0_scoped26) s) cc0_scoped27 s
      ∗ freeP c (wslot (Memref.whole cc0_scoped28) s) cc0_scoped29 s
      ∗ freeP c (wslot (Memref.whole cc0_scoped30) s) cc0_scoped31 s)

/-- Step `n`'s twelve output blocks in flight from slots `s`. -/
def goneO (s : Fin 2) (n : ℕ) : sProp 𝕄 :=
  iprop(goneP c (lblk (Memref.whole main_v0_0) (stB i n) (stQ 0 n)) (lslot (Memref.whole cc0_scoped8) s) cc0_scoped9 s 512 (logV W (xread c i X 0 n))
      ∗ goneP c (lblk (Memref.whole main_v0_0) (stB i n) (stQ 1 n)) (lslot (Memref.whole cc0_scoped10) s) cc0_scoped11 s 512 (logV W (xread c i X 1 n))
      ∗ goneP c (lblk (Memref.whole main_v0_0) (stB i n) (stQ 2 n)) (lslot (Memref.whole cc0_scoped12) s) cc0_scoped13 s 512 (logV W (xread c i X 2 n))
      ∗ goneP c (lblk (Memref.whole main_v0_0) (stB i n) (stQ 3 n)) (lslot (Memref.whole cc0_scoped14) s) cc0_scoped15 s 512 (logV W (xread c i X 3 n))
      ∗ goneP c (wblk (Memref.whole main_v0_1) (stB i n) (stQ 0 n)) (wslot (Memref.whole cc0_scoped16) s) cc0_scoped17 s 128 (wtV W (xread c i X 0 n))
      ∗ goneP c (wblk (Memref.whole main_v0_1) (stB i n) (stQ 1 n)) (wslot (Memref.whole cc0_scoped18) s) cc0_scoped19 s 128 (wtV W (xread c i X 1 n))
      ∗ goneP c (wblk (Memref.whole main_v0_1) (stB i n) (stQ 2 n)) (wslot (Memref.whole cc0_scoped20) s) cc0_scoped21 s 128 (wtV W (xread c i X 2 n))
      ∗ goneP c (wblk (Memref.whole main_v0_1) (stB i n) (stQ 3 n)) (wslot (Memref.whole cc0_scoped22) s) cc0_scoped23 s 128 (wtV W (xread c i X 3 n))
      ∗ goneP c (wblk (Memref.whole main_v0_2) (stB i n) (stQ 0 n)) (wslot (Memref.whole cc0_scoped24) s) cc0_scoped25 s 128 (exV W (xread c i X 0 n))
      ∗ goneP c (wblk (Memref.whole main_v0_2) (stB i n) (stQ 1 n)) (wslot (Memref.whole cc0_scoped26) s) cc0_scoped27 s 128 (exV W (xread c i X 1 n))
      ∗ goneP c (wblk (Memref.whole main_v0_2) (stB i n) (stQ 2 n)) (wslot (Memref.whole cc0_scoped28) s) cc0_scoped29 s 128 (exV W (xread c i X 2 n))
      ∗ goneP c (wblk (Memref.whole main_v0_2) (stB i n) (stQ 3 n)) (wslot (Memref.whole cc0_scoped30) s) cc0_scoped31 s 128 (exV W (xread c i X 3 n)))

/-- Step `n`'s twelve output blocks, written. -/
def doneO (n : ℕ) : sProp 𝕄 :=
  iprop(doneP c (lblk (Memref.whole main_v0_0) (stB i n) (stQ 0 n)) (logV W (xread c i X 0 n))
      ∗ doneP c (lblk (Memref.whole main_v0_0) (stB i n) (stQ 1 n)) (logV W (xread c i X 1 n))
      ∗ doneP c (lblk (Memref.whole main_v0_0) (stB i n) (stQ 2 n)) (logV W (xread c i X 2 n))
      ∗ doneP c (lblk (Memref.whole main_v0_0) (stB i n) (stQ 3 n)) (logV W (xread c i X 3 n))
      ∗ doneP c (wblk (Memref.whole main_v0_1) (stB i n) (stQ 0 n)) (wtV W (xread c i X 0 n))
      ∗ doneP c (wblk (Memref.whole main_v0_1) (stB i n) (stQ 1 n)) (wtV W (xread c i X 1 n))
      ∗ doneP c (wblk (Memref.whole main_v0_1) (stB i n) (stQ 2 n)) (wtV W (xread c i X 2 n))
      ∗ doneP c (wblk (Memref.whole main_v0_1) (stB i n) (stQ 3 n)) (wtV W (xread c i X 3 n))
      ∗ doneP c (wblk (Memref.whole main_v0_2) (stB i n) (stQ 0 n)) (exV W (xread c i X 0 n))
      ∗ doneP c (wblk (Memref.whole main_v0_2) (stB i n) (stQ 1 n)) (exV W (xread c i X 1 n))
      ∗ doneP c (wblk (Memref.whole main_v0_2) (stB i n) (stQ 2 n)) (exV W (xread c i X 2 n))
      ∗ doneP c (wblk (Memref.whole main_v0_2) (stB i n) (stQ 3 n)) (exV W (xread c i X 3 n)))

/-- The inputs before trip `k`. -/
def resI (k : ℕ) : sProp 𝕄 :=
  iprop(bigSep (homeSet (NB := 8) 1 k) (fun u => homeI c i X u.val) ∗ freeI c (sl 2 (k + 1))
    ∗ (if k < 8 then comeI c i X (sl 2 k) k else freeI c (sl 2 k)))
/-- The outputs before trip `k`. -/
def resO (k : ℕ) : sProp 𝕄 :=
  AtB (NB := 8) (n := 2) 1 (freeO c) (fun s u => goneO c i W X s u.val) (fun u => aheadO c i u.val) (fun u => doneO c i W X u.val) k
/-- All a trip holds. -/
def resAt (k : ℕ) : sProp 𝕄 := iprop((∃ O, owes (c : Thread nD τ) 0 O) ∗ resI c i X k ∗ resO c i W X k)

theorem resI_here (k : ℕ) (h : k < 7) : resI c i X k
    = iprop((homeI c i X (k + 1) ∗ bigSep ((homeSet (NB := 8) 1 k).erase (bk 8 (k + 1))) (fun u => homeI c i X u.val))
      ∗ freeI c (sl 2 (k + 1)) ∗ comeI c i X (sl 2 k) k) := by
  unfold resI
  rw [if_pos (by omega)]
  conv_lhs => rw [homeSet_out 1 k (by omega), bigSep_insert (bkL_not_mem_erase 1 k), bk_val (by omega)]
  rfl
theorem resI_next (k : ℕ) (h : k < 7) : resI c i X (k + 1)
    = iprop((homeI c i X k ∗ bigSep ((homeSet (NB := 8) 1 k).erase (bk 8 (k + 1))) (fun u => homeI c i X u.val))
      ∗ freeI c (sl 2 k) ∗ comeI c i X (sl 2 (k + 1)) (k + 1)) := by
  unfold resI
  rw [if_pos (by omega), show sl 2 (k + 1 + 1) = sl 2 k by rw [sl_add]]
  conv_lhs => rw [homeSet_succ 1 k (by omega), bigSep_insert (bk_not_mem_erase 1 k (by omega) (by decide)), bk_val (by omega)]
  rfl
theorem resI_here_last : resI c i X 7
    = iprop(bigSep (homeSet (NB := 8) 1 7) (fun u => homeI c i X u.val) ∗ freeI c (sl 2 (7 + 1)) ∗ comeI c i X (sl 2 7) 7) := by
  unfold resI
  rw [if_pos (by omega)]
theorem resI_next_last : resI c i X (7 + 1)
    = iprop((homeI c i X 7 ∗ bigSep (homeSet (NB := 8) 1 7) (fun u => homeI c i X u.val))
      ∗ freeI c (sl 2 7) ∗ freeI c (sl 2 (7 + 1))) := by
  unfold resI
  rw [if_neg (by omega), show sl 2 (7 + 1 + 1) = sl 2 7 by rw [sl_add]]
  conv_lhs => rw [homeSet_succ_tail 1 7 (by omega) (by omega), bigSep_insert (bk_not_mem_homeSet 1 7 (by omega) (by decide)), bk_val (by omega)]
  rfl

theorem resO_here (k : ℕ) (h1 : 1 ≤ k) (h : k < 8) : resO c i W X k
    = iprop((aheadO c i k ∗ bigSep (aheadSet (NB := 8) (k + 1)) (fun u => aheadO c i u.val))
      ∗ bigSep (behindSet (NB := 8) 1 k) (fun u => doneO c i W X u.val)
      ∗ freeO c (sl 2 k) ∗ goneO c i W X (sl 2 (k - 1)) (k - 1)) := by
  unfold resO
  rw [AtB21_here _ _ _ _ k h1 h, bk_val h, bk_val (by omega), sl2_succ_eq_pred k h1]
theorem resO_next (k : ℕ) (h1 : 1 ≤ k) (h : k < 8) : resO c i W X (k + 1)
    = iprop(bigSep (aheadSet (NB := 8) (k + 1)) (fun u => aheadO c i u.val)
      ∗ (doneO c i W X (k - 1) ∗ bigSep (behindSet (NB := 8) 1 k) (fun u => doneO c i W X u.val))
      ∗ freeO c (sl 2 (k - 1)) ∗ goneO c i W X (sl 2 k) k) := by
  unfold resO
  rw [AtB21_next _ _ _ _ k h1 h, bk_val h, bk_val (by omega), sl2_succ_eq_pred k h1]
theorem resO_here_zero : resO c i W X 0
    = iprop((aheadO c i 0 ∗ bigSep (aheadSet (NB := 8) (0 + 1)) (fun u => aheadO c i u.val))
      ∗ freeO c (sl 2 0) ∗ freeO c (sl 2 (0 + 1))) := by
  unfold resO
  rw [AtB2_zero' _ _ _ _ _ 0 rfl]; rfl
theorem resO_next_zero : resO c i W X (0 + 1)
    = iprop(bigSep (aheadSet (NB := 8) (0 + 1)) (fun u => aheadO c i u.val)
      ∗ freeO c (sl 2 (0 + 1)) ∗ goneO c i W X (sl 2 0) 0) := by
  unfold resO
  rw [AtB21_next_zero' _ _ _ _ 0 rfl]; rfl

/-! The two ends, at a trip's number that is known to be the first or the last. -/

theorem resO_here_zero' (k : ℕ) (h : k = 0) : resO c i W X k
    = iprop((aheadO c i k ∗ bigSep (aheadSet (NB := 8) (k + 1)) (fun u => aheadO c i u.val))
      ∗ freeO c (sl 2 k) ∗ freeO c (sl 2 (k + 1))) := by
  subst h; exact resO_here_zero c i W X
theorem resO_next_zero' (k : ℕ) (h : k = 0) : resO c i W X (k + 1)
    = iprop(bigSep (aheadSet (NB := 8) (k + 1)) (fun u => aheadO c i u.val)
      ∗ freeO c (sl 2 (k + 1)) ∗ goneO c i W X (sl 2 k) k) := by
  subst h; exact resO_next_zero c i W X
theorem resI_here_last' (k : ℕ) (h : k = 7) : resI c i X k
    = iprop(bigSep (homeSet (NB := 8) 1 k) (fun u => homeI c i X u.val) ∗ freeI c (sl 2 (k + 1)) ∗ comeI c i X (sl 2 k) k) := by
  subst h; exact resI_here_last c i X
theorem resI_next_last' (k : ℕ) (h : k = 7) : resI c i X (k + 1)
    = iprop((homeI c i X k ∗ bigSep (homeSet (NB := 8) 1 k) (fun u => homeI c i X u.val))
      ∗ freeI c (sl 2 k) ∗ freeI c (sl 2 (k + 1))) := by
  subst h; exact resI_next_last c i X

end Rings

/-- The words carried before trip `k`, the input streams' issue counters at `n`. -/
abbrev accAt (n k : ℕ) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  (wn n, wn k, wn n, wn k, wn n, wn k, wn n, wn k, wn k, wn (k - 1), wn k, wn (k - 1), wn k, wn (k - 1), wn k, wn (k - 1), wn k, wn (k - 1), wn k, wn (k - 1), wn k, wn (k - 1), wn k, wn (k - 1), wn k, wn (k - 1), wn k, wn (k - 1), wn k, wn (k - 1), wn k, wn (k - 1), wb k, wj k)

end Cert.Proof.Held

end
-- ==== Proof.Split.lean ====
/-
  The arrays as their blocks, and the ring buffers as their two slots.
-/
module

public import proofs.«01_k».proof.Proof.Held

@[expose] public section

set_option maxRecDepth 16384

noncomputable section

namespace Cert.Proof.Split

open Cert.KernelIdeal Cert.KernelIdeal.Gen Cert.Proof.Words Cert.Proof.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-! ## A ring buffer is its two slots -/

section Slots
variable (c : Dev nD) {S : Shape} {e : EltTy} (M : Memref sig .tc .vmem S e) (hM : M.IsWhole) (R : Fin 2 → Rect S)
  (hR : ∀ s s', s ≠ s' → Disjoint (R s).set (R s').set) (hc : ∀ y, ∃ s, y ∈ (R s).set)

/-- The elements of part `s`. -/
abbrev part (s : Fin 2) : Finset (Idx (M.view.loc (c : Thread nD τ))) := (M.view.slice (R s)).set

include hR in
omit [FloatOps F] in
theorem part_disjoint (s s' : Fin 2) (h : s ≠ s') : Disjoint (part c M R s) (part c M R s') := by
  unfold part
  rw [View.set_slice, View.set_slice]
  exact (Finset.disjoint_map _).mpr (hR s s' h)

include hM hc in
omit [FloatOps F] in
theorem part_cover : Finset.univ.biUnion (part c M R) = Finset.univ := by
  have hu : M.view.set = Finset.univ := hM.set_eq_univ
  rw [Finset.eq_univ_iff_forall]
  intro y
  have hy : y ∈ M.view.set := by rw [hu]; exact Finset.mem_univ _
  obtain ⟨x, -, rfl⟩ := Finset.mem_map.mp hy
  obtain ⟨s, hs⟩ := hc x
  refine Finset.mem_biUnion.mpr ⟨s, Finset.mem_univ _, ?_⟩
  unfold part
  rw [View.set_slice]
  exact Finset.mem_map_of_mem _ hs

include hM hR hc in
omit [FloatOps F] in
theorem parts_split :
    iprop(∃ f : Buf (Elt F) (M.view.loc (c : Thread nD τ)), M.view.loc (c : Thread nD τ) ↦{fullShare} f)
      ⊢ (iprop((∃ f, M.view.loc (c : Thread nD τ) ↦[part c M R 0]{fullShare} f) ∗ ∃ f, M.view.loc (c : Thread nD τ) ↦[part c M R 1]{fullShare} f) : sProp 𝕄) := by
  iintro ⟨%f, H⟩
  ihave H2 := (entails_of_eq ((Ring.pointsTo_blocks (Ix := Unit) (Name := ℕ) (U := UU) (Lvl := ℕ) (q := fullShare) (ℓ := M.view.loc (c : Thread nD τ)) (part c M R) (part_disjoint c M R hR) (part_cover c M hM R hc) f).trans (bigSep_fin2 _))) $$ H
  icases H2 with ⟨H0, H1⟩
  isplitl [H0]
  · iexists f; iexact H0
  · iexists f; iexact H1

include hM hR hc in
omit [FloatOps F] in
theorem parts_join :
    (iprop((∃ f, M.view.loc (c : Thread nD τ) ↦[part c M R 0]{fullShare} f) ∗ ∃ f, M.view.loc (c : Thread nD τ) ↦[part c M R 1]{fullShare} f) : sProp 𝕄)
      ⊢ iprop(∃ f : Buf (Elt F) (M.view.loc (c : Thread nD τ)), M.view.loc (c : Thread nD τ) ↦{fullShare} f) := by
  iintro ⟨⟨%f0, H0⟩, ⟨%f1, H1⟩⟩
  iapply (Ring.pointsTo_blocks_join_exists (ℓ := M.view.loc (c : Thread nD τ)) (part c M R) (part_disjoint c M R hR) (part_cover c M hM R hc) f0)
  irw [bigSep_fin2]
  isplitl [H0]
  · iexists f0; iexact H0
  · iexists f1; iexact H1

end Slots

theorem xslot_mem (s : Fin 2) (y : S2x1x512x1024.Idx) : y ∈ (Rect.unit (s := S2x1x512x1024) (so4 s) S1x1x512x1024.size (so4x_inb s)).set ↔ (y 0).val = s.val := by
  rw [Rect.mem_set_unit]
  have h1 : (y 1).val < 1 := (y 1).isLt
  have h2 : (y 2).val < 512 := (y 2).isLt
  have h3 : (y 3).val < 1024 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 512; omega
    · show 0 ≤ (y 3).val ∧ (y 3).val < 0 + 1024; omega
theorem xslot_disjoint (s s' : Fin 2) (h : s ≠ s') : Disjoint (Rect.unit (s := S2x1x512x1024) (so4 s) S1x1x512x1024.size (so4x_inb s)).set (Rect.unit (s := S2x1x512x1024) (so4 s') S1x1x512x1024.size (so4x_inb s')).set := by
  rw [Finset.disjoint_left]; intro y hy hy'; rw [xslot_mem] at hy hy'; exact h (Fin.ext (hy.symm.trans hy'))
theorem xslot_cover (y : S2x1x512x1024.Idx) : ∃ s : Fin 2, y ∈ (Rect.unit (s := S2x1x512x1024) (so4 s) S1x1x512x1024.size (so4x_inb s)).set :=
  ⟨(y 0).cast (by decide), by rw [xslot_mem]; rfl⟩

theorem lslot_mem (s : Fin 2) (y : S2x1x8x512.Idx) : y ∈ (Rect.unit (s := S2x1x8x512) (so4 s) S1x1x8x512.size (so4l_inb s)).set ↔ (y 0).val = s.val := by
  rw [Rect.mem_set_unit]
  have h1 : (y 1).val < 1 := (y 1).isLt
  have h2 : (y 2).val < 8 := (y 2).isLt
  have h3 : (y 3).val < 512 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 8; omega
    · show 0 ≤ (y 3).val ∧ (y 3).val < 0 + 512; omega
theorem lslot_disjoint (s s' : Fin 2) (h : s ≠ s') : Disjoint (Rect.unit (s := S2x1x8x512) (so4 s) S1x1x8x512.size (so4l_inb s)).set (Rect.unit (s := S2x1x8x512) (so4 s') S1x1x8x512.size (so4l_inb s')).set := by
  rw [Finset.disjoint_left]; intro y hy hy'; rw [lslot_mem] at hy hy'; exact h (Fin.ext (hy.symm.trans hy'))
theorem lslot_cover (y : S2x1x8x512.Idx) : ∃ s : Fin 2, y ∈ (Rect.unit (s := S2x1x8x512) (so4 s) S1x1x8x512.size (so4l_inb s)).set :=
  ⟨(y 0).cast (by decide), by rw [lslot_mem]; rfl⟩

theorem wslot_mem (s : Fin 2) (y : S2x1x2x512.Idx) : y ∈ (Rect.unit (s := S2x1x2x512) (so4 s) S1x1x2x512.size (so4w_inb s)).set ↔ (y 0).val = s.val := by
  rw [Rect.mem_set_unit]
  have h1 : (y 1).val < 1 := (y 1).isLt
  have h2 : (y 2).val < 2 := (y 2).isLt
  have h3 : (y 3).val < 512 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 2; omega
    · show 0 ≤ (y 3).val ∧ (y 3).val < 0 + 512; omega
theorem wslot_disjoint (s s' : Fin 2) (h : s ≠ s') : Disjoint (Rect.unit (s := S2x1x2x512) (so4 s) S1x1x2x512.size (so4w_inb s)).set (Rect.unit (s := S2x1x2x512) (so4 s') S1x1x2x512.size (so4w_inb s')).set := by
  rw [Finset.disjoint_left]; intro y hy hy'; rw [wslot_mem] at hy hy'; exact h (Fin.ext (hy.symm.trans hy'))
theorem wslot_cover (y : S2x1x2x512.Idx) : ∃ s : Fin 2, y ∈ (Rect.unit (s := S2x1x2x512) (so4 s) S1x1x2x512.size (so4w_inb s)).set :=
  ⟨(y 0).cast (by decide), by rw [wslot_mem]; rfl⟩

omit [FloatOps F] in
/-- A whole ring buffer of this shape, as its two slots; -/
theorem xring_split (c : Dev nD) (M : Memref sig .tc .vmem S2x1x512x1024 .f32) (hM : M.IsWhole) :
    iprop(∃ f : Buf (Elt F) (M.view.loc (c : Thread nD τ)), M.view.loc (c : Thread nD τ) ↦{fullShare} f)
      ⊢ (iprop(someP c (xslot M 0) ∗ someP c (xslot M 1)) : sProp 𝕄) := by
  have e (s : Fin 2) : (xslot M s).view.set = (M.view.slice (Rect.unit (s := S2x1x512x1024) (so4 s) S1x1x512x1024.size (so4x_inb s))).set := View.set_reshape _ _
  refine (parts_split (F := F) c M hM (fun s => Rect.unit (s := S2x1x512x1024) (so4 s) S1x1x512x1024.size (so4x_inb s)) xslot_disjoint xslot_cover).trans ?_
  unfold someP heldP
  rw [e 0, e 1]
  exact .rfl
omit [FloatOps F] in
/-- and back. -/
theorem xring_join (c : Dev nD) (M : Memref sig .tc .vmem S2x1x512x1024 .f32) (hM : M.IsWhole) :
    (iprop(someP c (xslot M 0) ∗ someP c (xslot M 1)) : sProp 𝕄)
      ⊢ iprop(∃ f : Buf (Elt F) (M.view.loc (c : Thread nD τ)), M.view.loc (c : Thread nD τ) ↦{fullShare} f) := by
  have e (s : Fin 2) : (xslot M s).view.set = (M.view.slice (Rect.unit (s := S2x1x512x1024) (so4 s) S1x1x512x1024.size (so4x_inb s))).set := View.set_reshape _ _
  refine .trans ?_ (parts_join (F := F) c M hM (fun s => Rect.unit (s := S2x1x512x1024) (so4 s) S1x1x512x1024.size (so4x_inb s)) xslot_disjoint xslot_cover)
  unfold someP heldP
  rw [e 0, e 1]
  exact .rfl

omit [FloatOps F] in
/-- A whole ring buffer of this shape, as its two slots; -/
theorem lring_split (c : Dev nD) (M : Memref sig .tc .vmem S2x1x8x512 .f32) (hM : M.IsWhole) :
    iprop(∃ f : Buf (Elt F) (M.view.loc (c : Thread nD τ)), M.view.loc (c : Thread nD τ) ↦{fullShare} f)
      ⊢ (iprop(someP c (lslot M 0) ∗ someP c (lslot M 1)) : sProp 𝕄) := by
  have e (s : Fin 2) : (lslot M s).view.set = (M.view.slice (Rect.unit (s := S2x1x8x512) (so4 s) S1x1x8x512.size (so4l_inb s))).set := View.set_reshape _ _
  refine (parts_split (F := F) c M hM (fun s => Rect.unit (s := S2x1x8x512) (so4 s) S1x1x8x512.size (so4l_inb s)) lslot_disjoint lslot_cover).trans ?_
  unfold someP heldP
  rw [e 0, e 1]
  exact .rfl
omit [FloatOps F] in
/-- and back. -/
theorem lring_join (c : Dev nD) (M : Memref sig .tc .vmem S2x1x8x512 .f32) (hM : M.IsWhole) :
    (iprop(someP c (lslot M 0) ∗ someP c (lslot M 1)) : sProp 𝕄)
      ⊢ iprop(∃ f : Buf (Elt F) (M.view.loc (c : Thread nD τ)), M.view.loc (c : Thread nD τ) ↦{fullShare} f) := by
  have e (s : Fin 2) : (lslot M s).view.set = (M.view.slice (Rect.unit (s := S2x1x8x512) (so4 s) S1x1x8x512.size (so4l_inb s))).set := View.set_reshape _ _
  refine .trans ?_ (parts_join (F := F) c M hM (fun s => Rect.unit (s := S2x1x8x512) (so4 s) S1x1x8x512.size (so4l_inb s)) lslot_disjoint lslot_cover)
  unfold someP heldP
  rw [e 0, e 1]
  exact .rfl

omit [FloatOps F] in
/-- A whole ring buffer of this shape, as its two slots; -/
theorem wring_split (c : Dev nD) {t : EltTy} (M : Memref sig .tc .vmem S2x1x2x512 t) (hM : M.IsWhole) :
    iprop(∃ f : Buf (Elt F) (M.view.loc (c : Thread nD τ)), M.view.loc (c : Thread nD τ) ↦{fullShare} f)
      ⊢ (iprop(someP c (wslot M 0) ∗ someP c (wslot M 1)) : sProp 𝕄) := by
  have e (s : Fin 2) : (wslot M s).view.set = (M.view.slice (Rect.unit (s := S2x1x2x512) (so4 s) S1x1x2x512.size (so4w_inb s))).set := View.set_reshape _ _
  refine (parts_split (F := F) c M hM (fun s => Rect.unit (s := S2x1x2x512) (so4 s) S1x1x2x512.size (so4w_inb s)) wslot_disjoint wslot_cover).trans ?_
  unfold someP heldP
  rw [e 0, e 1]
  exact .rfl
omit [FloatOps F] in
/-- and back. -/
theorem wring_join (c : Dev nD) {t : EltTy} (M : Memref sig .tc .vmem S2x1x2x512 t) (hM : M.IsWhole) :
    (iprop(someP c (wslot M 0) ∗ someP c (wslot M 1)) : sProp 𝕄)
      ⊢ iprop(∃ f : Buf (Elt F) (M.view.loc (c : Thread nD τ)), M.view.loc (c : Thread nD τ) ↦{fullShare} f) := by
  have e (s : Fin 2) : (wslot M s).view.set = (M.view.slice (Rect.unit (s := S2x1x2x512) (so4 s) S1x1x2x512.size (so4w_inb s))).set := View.set_reshape _ _
  refine .trans ?_ (parts_join (F := F) c M hM (fun s => Rect.unit (s := S2x1x2x512) (so4 s) S1x1x2x512.size (so4w_inb s)) wslot_disjoint wslot_cover)
  unfold someP heldP
  rw [e 0, e 1]
  exact .rfl

/-! ## The arrays as their blocks, point by point, step by step, stream by stream -/

/-- Grid point `a`. -/
abbrev co (a : Fin 2) : grid0.Coords := grid0.coords (a.cast N_0.symm)
/-- A point, a step and a stream. -/
abbrev TT := Fin 2 × Fin 8 × Fin 4
/-- Their block. -/
def pt (p : TT) : Fin 4 × Fin 16 := (stB (co p.1) p.2.1.val, stQ p.2.2 p.2.1.val)
/-- A block's point, step and stream. -/
def tp (r : Fin 4 × Fin 16) : TT := (Fin.ofNat 2 (r.1.val / 2), Fin.ofNat 8 (4 * (r.1.val % 2) + r.2.val % 4), Fin.ofNat 4 (r.2.val / 4))
theorem pt_tp : ∀ r, pt (tp r) = r := by decide +kernel
theorem tp_pt : ∀ p, tp (pt p) = p := by decide +kernel
theorem pt_inj {p p' : TT} (h : pt p = pt p') : p = p' := by rw [← tp_pt p, h, tp_pt]

theorem xblk_mem (b : Fin 4) (q : Fin 16) (y : S4x8192x1024.Idx) : y ∈ (Rect.unit (s := S4x8192x1024) (xo b q) S1x512x1024.size (xo_inb b q)).set ↔ (y 0).val = b.val ∧ (y 1).val / 512 = q.val := by
  rw [Rect.mem_set_unit]
  have h1 : (y 2).val < 1024 := (y 2).isLt
  constructor
  · intro H
    have a0 : b.val ≤ (y 0).val ∧ (y 0).val < b.val + 1 := H 0
    have a1 : 512 * q.val ≤ (y 1).val ∧ (y 1).val < 512 * q.val + 512 := H 1
    omega
  · intro H i; fin_cases i
    · show b.val ≤ (y 0).val ∧ (y 0).val < b.val + 1; omega
    · show 512 * q.val ≤ (y 1).val ∧ (y 1).val < 512 * q.val + 512; omega
    · show 0 ≤ (y 2).val ∧ (y 2).val < 0 + 1024; omega
/-- The elements of block `p`. -/
abbrev xset (p : TT) : Finset S4x8192x1024.Idx := (Rect.unit (s := S4x8192x1024) (xo (pt p).1 (pt p).2) S1x512x1024.size (xo_inb (pt p).1 (pt p).2)).set
theorem xset_disjoint (p p' : TT) (h : p ≠ p') : Disjoint (xset p) (xset p') := by
  rw [Finset.disjoint_left]; intro y hy hy'; rw [xblk_mem] at hy hy'
  exact h (pt_inj (Prod.ext (Fin.ext (hy.1.symm.trans hy'.1)) (Fin.ext (hy.2.symm.trans hy'.2))))
theorem xset_cover : Finset.univ.biUnion xset = Finset.univ := by
  rw [Finset.eq_univ_iff_forall]
  intro y
  have h0 : (y 0).val < 4 := (y 0).isLt
  have h1 : (y 1).val < 8192 := (y 1).isLt
  refine Finset.mem_biUnion.mpr ⟨tp (⟨(y 0).val, h0⟩, ⟨(y 1).val / 512, by omega⟩), Finset.mem_univ _, ?_⟩
  rw [xblk_mem, pt_tp]
  exact ⟨rfl, rfl⟩

theorem lblk_mem (b : Fin 4) (q : Fin 16) (y : S4x8x8192.Idx) : y ∈ (Rect.unit (s := S4x8x8192) (oo b q) S1x8x512.size (ool_inb b q)).set ↔ (y 0).val = b.val ∧ (y 2).val / 512 = q.val := by
  rw [Rect.mem_set_unit]
  have h1 : (y 1).val < 8 := (y 1).isLt
  constructor
  · intro H
    have a0 : b.val ≤ (y 0).val ∧ (y 0).val < b.val + 1 := H 0
    have a1 : 512 * q.val ≤ (y 2).val ∧ (y 2).val < 512 * q.val + 512 := H 2
    omega
  · intro H i; fin_cases i
    · show b.val ≤ (y 0).val ∧ (y 0).val < b.val + 1; omega
    · show 0 ≤ (y 1).val ∧ (y 1).val < 0 + 8; omega
    · show 512 * q.val ≤ (y 2).val ∧ (y 2).val < 512 * q.val + 512; omega
/-- The elements of block `p`. -/
abbrev lset (p : TT) : Finset S4x8x8192.Idx := (Rect.unit (s := S4x8x8192) (oo (pt p).1 (pt p).2) S1x8x512.size (ool_inb (pt p).1 (pt p).2)).set
theorem lset_disjoint (p p' : TT) (h : p ≠ p') : Disjoint (lset p) (lset p') := by
  rw [Finset.disjoint_left]; intro y hy hy'; rw [lblk_mem] at hy hy'
  exact h (pt_inj (Prod.ext (Fin.ext (hy.1.symm.trans hy'.1)) (Fin.ext (hy.2.symm.trans hy'.2))))
theorem lset_cover : Finset.univ.biUnion lset = Finset.univ := by
  rw [Finset.eq_univ_iff_forall]
  intro y
  have h0 : (y 0).val < 4 := (y 0).isLt
  have h1 : (y 2).val < 8192 := (y 2).isLt
  refine Finset.mem_biUnion.mpr ⟨tp (⟨(y 0).val, h0⟩, ⟨(y 2).val / 512, by omega⟩), Finset.mem_univ _, ?_⟩
  rw [lblk_mem, pt_tp]
  exact ⟨rfl, rfl⟩

theorem wblk_mem (b : Fin 4) (q : Fin 16) (y : S4x2x8192.Idx) : y ∈ (Rect.unit (s := S4x2x8192) (oo b q) S1x2x512.size (oow_inb b q)).set ↔ (y 0).val = b.val ∧ (y 2).val / 512 = q.val := by
  rw [Rect.mem_set_unit]
  have h1 : (y 1).val < 2 := (y 1).isLt
  constructor
  · intro H
    have a0 : b.val ≤ (y 0).val ∧ (y 0).val < b.val + 1 := H 0
    have a1 : 512 * q.val ≤ (y 2).val ∧ (y 2).val < 512 * q.val + 512 := H 2
    omega
  · intro H i; fin_cases i
    · show b.val ≤ (y 0).val ∧ (y 0).val < b.val + 1; omega
    · show 0 ≤ (y 1).val ∧ (y 1).val < 0 + 2; omega
    · show 512 * q.val ≤ (y 2).val ∧ (y 2).val < 512 * q.val + 512; omega
/-- The elements of block `p`. -/
abbrev wset (p : TT) : Finset S4x2x8192.Idx := (Rect.unit (s := S4x2x8192) (oo (pt p).1 (pt p).2) S1x2x512.size (oow_inb (pt p).1 (pt p).2)).set
theorem wset_disjoint (p p' : TT) (h : p ≠ p') : Disjoint (wset p) (wset p') := by
  rw [Finset.disjoint_left]; intro y hy hy'; rw [wblk_mem] at hy hy'
  exact h (pt_inj (Prod.ext (Fin.ext (hy.1.symm.trans hy'.1)) (Fin.ext (hy.2.symm.trans hy'.2))))
theorem wset_cover : Finset.univ.biUnion wset = Finset.univ := by
  rw [Finset.eq_univ_iff_forall]
  intro y
  have h0 : (y 0).val < 4 := (y 0).isLt
  have h1 : (y 2).val < 8192 := (y 2).isLt
  refine Finset.mem_biUnion.mpr ⟨tp (⟨(y 0).val, h0⟩, ⟨(y 2).val / 512, by omega⟩), Finset.mem_univ _, ?_⟩
  rw [wblk_mem, pt_tp]
  exact ⟨rfl, rfl⟩

omit [FloatOps F] in
theorem sep_points (Φ : TT → sProp 𝕄) : bigSep Finset.univ Φ
    = iprop((bigSep (Finset.univ : Finset (Fin 8)) fun u => iprop(Φ (0, u, 0) ∗ Φ (0, u, 1) ∗ Φ (0, u, 2) ∗ Φ (0, u, 3)))
      ∗ bigSep (Finset.univ : Finset (Fin 8)) fun u => iprop(Φ (1, u, 0) ∗ Φ (1, u, 1) ∗ Φ (1, u, 2) ∗ Φ (1, u, 3))) := by
  rw [bigSep_univ_prod, bigSep_fin2, bigSep_univ_prod, bigSep_univ_prod]
  have e (a : Fin 2) (u : Fin 8) : bigSep (Finset.univ : Finset (Fin 4)) (fun w => Φ (a, u, w)) = iprop(Φ (a, u, 0) ∗ Φ (a, u, 1) ∗ Φ (a, u, 2) ∗ Φ (a, u, 3)) :=
    bigSep_univ_eq_bigSepL [(0 : Fin 4), 1, 2, 3] (by decide) (by decide) _
  rw [bigSep_congr fun u _ => e 0 u, bigSep_congr fun u _ => e 1 u]

omit [FloatOps F] in
theorem xarr_eq (c : Dev nD) (f : Buf (Elt F) ((c : Thread nD τ).loc main_arg0)) :
    (((c : Thread nD τ).loc main_arg0) ↦{fullShare} f : sProp 𝕄)
      = bigSep Finset.univ fun p : TT => heldP c (xblk (Memref.whole main_arg0 : Memref sig .tc .hbm S4x8192x1024 .f32) (pt p).1 (pt p).2) f := by
  rw [Ring.pointsTo_blocks (ℓ := (c : Thread nD τ).loc main_arg0) xset xset_disjoint xset_cover]
  refine bigSep_congr fun p _ => ?_
  have e : (xblk (Memref.whole main_arg0 : Memref sig .tc .hbm S4x8192x1024 .f32) (pt p).1 (pt p).2).view.set = xset p := View.set_slice_whole _ _
  unfold heldP
  rw [e]
  rfl

omit [FloatOps F] in
theorem larr_eq (c : Dev nD) (f : Buf (Elt F) ((c : Thread nD τ).loc main_v0_0)) :
    (((c : Thread nD τ).loc main_v0_0) ↦{fullShare} f : sProp 𝕄)
      = bigSep Finset.univ fun p : TT => heldP c (lblk (Memref.whole main_v0_0 : Memref sig .tc .hbm S4x8x8192 .f32) (pt p).1 (pt p).2) f := by
  rw [Ring.pointsTo_blocks (ℓ := (c : Thread nD τ).loc main_v0_0) lset lset_disjoint lset_cover]
  refine bigSep_congr fun p _ => ?_
  have e : (lblk (Memref.whole main_v0_0 : Memref sig .tc .hbm S4x8x8192 .f32) (pt p).1 (pt p).2).view.set = lset p := View.set_slice_whole _ _
  unfold heldP
  rw [e]
  rfl

omit [FloatOps F] in
theorem warr_eq (c : Dev nD) (f : Buf (Elt F) ((c : Thread nD τ).loc main_v0_1)) :
    (((c : Thread nD τ).loc main_v0_1) ↦{fullShare} f : sProp 𝕄)
      = bigSep Finset.univ fun p : TT => heldP c (wblk (Memref.whole main_v0_1 : Memref sig .tc .hbm S4x2x8192 .f32) (pt p).1 (pt p).2) f := by
  rw [Ring.pointsTo_blocks (ℓ := (c : Thread nD τ).loc main_v0_1) wset wset_disjoint wset_cover]
  refine bigSep_congr fun p _ => ?_
  have e : (wblk (Memref.whole main_v0_1 : Memref sig .tc .hbm S4x2x8192 .f32) (pt p).1 (pt p).2).view.set = wset p := View.set_slice_whole _ _
  unfold heldP
  rw [e]
  rfl

omit [FloatOps F] in
theorem earr_eq (c : Dev nD) (f : Buf (Elt F) ((c : Thread nD τ).loc main_v0_2)) :
    (((c : Thread nD τ).loc main_v0_2) ↦{fullShare} f : sProp 𝕄)
      = bigSep Finset.univ fun p : TT => heldP c (wblk (Memref.whole main_v0_2 : Memref sig .tc .hbm S4x2x8192 .i32) (pt p).1 (pt p).2) f := by
  rw [Ring.pointsTo_blocks (ℓ := (c : Thread nD τ).loc main_v0_2) wset wset_disjoint wset_cover]
  refine bigSep_congr fun p _ => ?_
  have e : (wblk (Memref.whole main_v0_2 : Memref sig .tc .hbm S4x2x8192 .i32) (pt p).1 (pt p).2).view.set = wset p := View.set_slice_whole _ _
  unfold heldP
  rw [e]
  rfl

/-- The input array is every step's input blocks at both points. -/
theorem home_eq (c : Dev nD) (X : Buf (Elt F) ((c : Thread nD τ).loc main_arg0)) :
    (((c : Thread nD τ).loc main_arg0) ↦{fullShare} X : sProp 𝕄)
      = iprop((bigSep (Finset.univ : Finset (Fin 8)) fun u => homeI c (co 0) X u.val) ∗ bigSep (Finset.univ : Finset (Fin 8)) fun u => homeI c (co 1) X u.val) := by
  rw [xarr_eq, sep_points]; rfl

/-- Every step's output blocks at point `a`, held at one contents of each array. -/
def atO (c : Dev nD) (a : Fin 2) (gl : Buf (Elt F) ((c : Thread nD τ).loc main_v0_0)) (gw : Buf (Elt F) ((c : Thread nD τ).loc main_v0_1))
    (ge : Buf (Elt F) ((c : Thread nD τ).loc main_v0_2)) (n : ℕ) : sProp 𝕄 :=
  let i := co a
  iprop((heldP c (lblk (Memref.whole main_v0_0) (stB i n) (stQ 0 n)) gl
      ∗ heldP c (lblk (Memref.whole main_v0_0) (stB i n) (stQ 1 n)) gl
      ∗ heldP c (lblk (Memref.whole main_v0_0) (stB i n) (stQ 2 n)) gl
      ∗ heldP c (lblk (Memref.whole main_v0_0) (stB i n) (stQ 3 n)) gl)
    ∗ (heldP c (wblk (Memref.whole main_v0_1) (stB i n) (stQ 0 n)) gw
      ∗ heldP c (wblk (Memref.whole main_v0_1) (stB i n) (stQ 1 n)) gw
      ∗ heldP c (wblk (Memref.whole main_v0_1) (stB i n) (stQ 2 n)) gw
      ∗ heldP c (wblk (Memref.whole main_v0_1) (stB i n) (stQ 3 n)) gw)
    ∗ (heldP c (wblk (Memref.whole main_v0_2) (stB i n) (stQ 0 n)) ge
      ∗ heldP c (wblk (Memref.whole main_v0_2) (stB i n) (stQ 1 n)) ge
      ∗ heldP c (wblk (Memref.whole main_v0_2) (stB i n) (stQ 2 n)) ge
      ∗ heldP c (wblk (Memref.whole main_v0_2) (stB i n) (stQ 3 n)) ge))

/-- The three output arrays are every step's output blocks at both points. -/
theorem out_eq (c : Dev nD) (gl : Buf (Elt F) ((c : Thread nD τ).loc main_v0_0)) (gw : Buf (Elt F) ((c : Thread nD τ).loc main_v0_1))
    (ge : Buf (Elt F) ((c : Thread nD τ).loc main_v0_2)) :
    (iprop((((c : Thread nD τ).loc main_v0_0) ↦{fullShare} gl) ∗ (((c : Thread nD τ).loc main_v0_1) ↦{fullShare} gw) ∗ (((c : Thread nD τ).loc main_v0_2) ↦{fullShare} ge)) : sProp 𝕄)
      ⊣⊢ iprop((bigSep (Finset.univ : Finset (Fin 8)) fun u => atO c 0 gl gw ge u.val) ∗ bigSep (Finset.univ : Finset (Fin 8)) fun u => atO c 1 gl gw ge u.val) := by
  unfold atO
  dsimp only
  rw [larr_eq, warr_eq, earr_eq, sep_points, sep_points, sep_points]
  simp only [bigSep_sep']
  constructor
  · iintro ⟨⟨A0, A1⟩, ⟨B0, B1⟩, ⟨C0, C1⟩⟩
    isplitl [A0 B0 C0]
    · isplitl [A0]
      · iexact A0
      isplitl [B0]
      · iexact B0
      · iexact C0
    isplitl [A1]
    · iexact A1
    isplitl [B1]
    · iexact B1
    · iexact C1
  · iintro ⟨⟨A0, B0, C0⟩, ⟨A1, B1, C1⟩⟩
    isplitl [A0 A1]
    · isplitl [A0]
      · iexact A0
      · iexact A1
    isplitl [B0 B1]
    · isplitl [B0]
      · iexact B0
      · iexact B1
    isplitl [C0]
    · iexact C0
    · iexact C1

theorem ahead_of (c : Dev nD) (a : Fin 2) (gl : Buf (Elt F) ((c : Thread nD τ).loc main_v0_0)) (gw : Buf (Elt F) ((c : Thread nD τ).loc main_v0_1))
    (ge : Buf (Elt F) ((c : Thread nD τ).loc main_v0_2)) (n : ℕ) : atO c a gl gw ge n ⊢ aheadO c (co a) n := by
  unfold atO aheadO
  iintro ⟨⟨A0, A1, A2, A3⟩, ⟨B0, B1, B2, B3⟩, C0, C1, C2, C3⟩
  isplitl [A0]
  · iexists _; iexact A0
  isplitl [A1]
  · iexists _; iexact A1
  isplitl [A2]
  · iexists _; iexact A2
  isplitl [A3]
  · iexists _; iexact A3
  isplitl [B0]
  · iexists _; iexact B0
  isplitl [B1]
  · iexists _; iexact B1
  isplitl [B2]
  · iexists _; iexact B2
  isplitl [B3]
  · iexists _; iexact B3
  isplitl [C0]
  · iexists _; iexact C0
  isplitl [C1]
  · iexists _; iexact C1
  isplitl [C2]
  · iexists _; iexact C2
  iexists _; iexact C3

omit [FloatOps F] in
/-- A block that reads what `G` reads there is held at `G`. -/
theorem done_held {c : Dev nD} {sp : Space} {sh : Shape} {e : EltTy} {B : Memref sig .tc sp sh e} {P : sh.Idx → Elt F e}
    {G : Buf (Elt F) (B.view.loc (c : Thread nD τ))} (h : B.view.read (Elt F) G = P) : doneP c B P ⊢ (heldP c B G : sProp 𝕄) := by
  iintro ⟨%g, %hg, H⟩
  have e : ∀ j ∈ B.view.set, g j = G j := by
    intro j hj
    obtain ⟨x, -, rfl⟩ := Finset.mem_map.mp hj
    have hx := congrFun (hg.trans h.symm) x
    rw [View.read_apply, View.read_apply] at hx
    exact (cast_inj _).mp hx
  iapply (entails_of_eq (pointsTo_congr e))
  iexact H

end Cert.Proof.Split

end
-- ==== Proof.Rings.lean ====
/-
  The sixteen ring buffers and their cells, gathered into the free slots of the loop.
-/
module

public import proofs.«01_k».proof.Proof.Split

@[expose] public section

set_option maxRecDepth 16384

noncomputable section

namespace Cert.Proof.Rings

open Cert.KernelIdeal Cert.KernelIdeal.Gen Cert.Proof.Words Cert.Proof.Held Cert.Proof.Split
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (c : Dev nD)

/-- A whole buffer at some contents. -/
abbrev bufP (r : Ref sig .tc) : sProp 𝕄 := iprop(∃ f : Buf (Elt F) ((c : Thread nD τ).loc r), ((c : Thread nD τ).loc r) ↦{fullShare} f)

/-- A whole ring with both its cells is both its slots free; -/
theorem free_in {sh : Shape} {e : EltTy} (A B : Memref sig .tc .vmem sh e) (S : DmaSems sig S2) (P : sProp 𝕄)
    (h : P ⊢ iprop(someP c A ∗ someP c B)) :
    iprop(P ∗ cellP (F := F) c S 0 ∗ cellP c S 1) ⊢ iprop(freeP c A S 0 ∗ freeP c B S 1) := by
  iintro ⟨H, C0, C1⟩
  ihave H2 := h $$ H
  icases H2 with ⟨H0, H1⟩
  iframe H0 C0 H1 C1
/-- and back. -/
theorem free_out {sh : Shape} {e : EltTy} (A B : Memref sig .tc .vmem sh e) (S : DmaSems sig S2) (P : sProp 𝕄)
    (h : iprop(someP c A ∗ someP c B) ⊢ P) :
    iprop(freeP (F := F) c A S 0 ∗ freeP c B S 1) ⊢ iprop(P ∗ cellP c S 0 ∗ cellP c S 1) := by
  iintro ⟨⟨H0, C0⟩, H1, C1⟩
  isplitl [H0 H1]
  · iapply h
    iframe H0 H1
  · iframe C0 C1

/-- The sixteen rings whole, each with its two cells. -/
def rings : sProp 𝕄 :=
  iprop((bufP c cc0_scoped0 ∗ cellP c cc0_scoped1 0 ∗ cellP c cc0_scoped1 1)
    ∗ (bufP c cc0_scoped2 ∗ cellP c cc0_scoped3 0 ∗ cellP c cc0_scoped3 1)
    ∗ (bufP c cc0_scoped4 ∗ cellP c cc0_scoped5 0 ∗ cellP c cc0_scoped5 1)
    ∗ (bufP c cc0_scoped6 ∗ cellP c cc0_scoped7 0 ∗ cellP c cc0_scoped7 1)
    ∗ (bufP c cc0_scoped8 ∗ cellP c cc0_scoped9 0 ∗ cellP c cc0_scoped9 1)
    ∗ (bufP c cc0_scoped10 ∗ cellP c cc0_scoped11 0 ∗ cellP c cc0_scoped11 1)
    ∗ (bufP c cc0_scoped12 ∗ cellP c cc0_scoped13 0 ∗ cellP c cc0_scoped13 1)
    ∗ (bufP c cc0_scoped14 ∗ cellP c cc0_scoped15 0 ∗ cellP c cc0_scoped15 1)
    ∗ (bufP c cc0_scoped16 ∗ cellP c cc0_scoped17 0 ∗ cellP c cc0_scoped17 1)
    ∗ (bufP c cc0_scoped18 ∗ cellP c cc0_scoped19 0 ∗ cellP c cc0_scoped19 1)
    ∗ (bufP c cc0_scoped20 ∗ cellP c cc0_scoped21 0 ∗ cellP c cc0_scoped21 1)
    ∗ (bufP c cc0_scoped22 ∗ cellP c cc0_scoped23 0 ∗ cellP c cc0_scoped23 1)
    ∗ (bufP c cc0_scoped24 ∗ cellP c cc0_scoped25 0 ∗ cellP c cc0_scoped25 1)
    ∗ (bufP c cc0_scoped26 ∗ cellP c cc0_scoped27 0 ∗ cellP c cc0_scoped27 1)
    ∗ (bufP c cc0_scoped28 ∗ cellP c cc0_scoped29 0 ∗ cellP c cc0_scoped29 1)
    ∗ (bufP c cc0_scoped30 ∗ cellP c cc0_scoped31 0 ∗ cellP c cc0_scoped31 1))
/-- All their slots free. -/
def frees : sProp 𝕄 := iprop((freeI (F := F) c 0 ∗ freeI (F := F) c 1) ∗ (freeO (F := F) c 0 ∗ freeO (F := F) c 1))

theorem rings_in : rings (F := F) c ⊢ frees c := by
  unfold rings frees freeI freeO
  iintro ⟨R0, R1, R2, R3, R4, R5, R6, R7, R8, R9, R10, R11, R12, R13, R14, R15⟩
  ihave H0 := (free_in c _ _ _ _ (xring_split c (Memref.whole cc0_scoped0) (Memref.isWhole_whole _))) $$ R0
  ihave H1 := (free_in c _ _ _ _ (xring_split c (Memref.whole cc0_scoped2) (Memref.isWhole_whole _))) $$ R1
  ihave H2 := (free_in c _ _ _ _ (xring_split c (Memref.whole cc0_scoped4) (Memref.isWhole_whole _))) $$ R2
  ihave H3 := (free_in c _ _ _ _ (xring_split c (Memref.whole cc0_scoped6) (Memref.isWhole_whole _))) $$ R3
  ihave H4 := (free_in c _ _ _ _ (lring_split c (Memref.whole cc0_scoped8) (Memref.isWhole_whole _))) $$ R4
  ihave H5 := (free_in c _ _ _ _ (lring_split c (Memref.whole cc0_scoped10) (Memref.isWhole_whole _))) $$ R5
  ihave H6 := (free_in c _ _ _ _ (lring_split c (Memref.whole cc0_scoped12) (Memref.isWhole_whole _))) $$ R6
  ihave H7 := (free_in c _ _ _ _ (lring_split c (Memref.whole cc0_scoped14) (Memref.isWhole_whole _))) $$ R7
  ihave H8 := (free_in c _ _ _ _ (wring_split c (Memref.whole cc0_scoped16) (Memref.isWhole_whole _))) $$ R8
  ihave H9 := (free_in c _ _ _ _ (wring_split c (Memref.whole cc0_scoped18) (Memref.isWhole_whole _))) $$ R9
  ihave H10 := (free_in c _ _ _ _ (wring_split c (Memref.whole cc0_scoped20) (Memref.isWhole_whole _))) $$ R10
  ihave H11 := (free_in c _ _ _ _ (wring_split c (Memref.whole cc0_scoped22) (Memref.isWhole_whole _))) $$ R11
  ihave H12 := (free_in c _ _ _ _ (wring_split c (Memref.whole cc0_scoped24) (Memref.isWhole_whole _))) $$ R12
  ihave H13 := (free_in c _ _ _ _ (wring_split c (Memref.whole cc0_scoped26) (Memref.isWhole_whole _))) $$ R13
  ihave H14 := (free_in c _ _ _ _ (wring_split c (Memref.whole cc0_scoped28) (Memref.isWhole_whole _))) $$ R14
  ihave H15 := (free_in c _ _ _ _ (wring_split c (Memref.whole cc0_scoped30) (Memref.isWhole_whole _))) $$ R15
  icases H0 with ⟨A0, B0⟩
  icases H1 with ⟨A1, B1⟩
  icases H2 with ⟨A2, B2⟩
  icases H3 with ⟨A3, B3⟩
  icases H4 with ⟨A4, B4⟩
  icases H5 with ⟨A5, B5⟩
  icases H6 with ⟨A6, B6⟩
  icases H7 with ⟨A7, B7⟩
  icases H8 with ⟨A8, B8⟩
  icases H9 with ⟨A9, B9⟩
  icases H10 with ⟨A10, B10⟩
  icases H11 with ⟨A11, B11⟩
  icases H12 with ⟨A12, B12⟩
  icases H13 with ⟨A13, B13⟩
  icases H14 with ⟨A14, B14⟩
  icases H15 with ⟨A15, B15⟩
  isplitl [A0 A1 A2 A3 B0 B1 B2 B3]
  · isplitl [A0 A1 A2 A3]
    · isplitl [A0]
      · iexact A0
      isplitl [A1]
      · iexact A1
      isplitl [A2]
      · iexact A2
      iexact A3
    · isplitl [B0]
      · iexact B0
      isplitl [B1]
      · iexact B1
      isplitl [B2]
      · iexact B2
      iexact B3
  isplitl [A4 A5 A6 A7 A8 A9 A10 A11 A12 A13 A14 A15]
  · isplitl [A4]
    · iexact A4
    isplitl [A5]
    · iexact A5
    isplitl [A6]
    · iexact A6
    isplitl [A7]
    · iexact A7
    isplitl [A8]
    · iexact A8
    isplitl [A9]
    · iexact A9
    isplitl [A10]
    · iexact A10
    isplitl [A11]
    · iexact A11
    isplitl [A12]
    · iexact A12
    isplitl [A13]
    · iexact A13
    isplitl [A14]
    · iexact A14
    iexact A15
  · isplitl [B4]
    · iexact B4
    isplitl [B5]
    · iexact B5
    isplitl [B6]
    · iexact B6
    isplitl [B7]
    · iexact B7
    isplitl [B8]
    · iexact B8
    isplitl [B9]
    · iexact B9
    isplitl [B10]
    · iexact B10
    isplitl [B11]
    · iexact B11
    isplitl [B12]
    · iexact B12
    isplitl [B13]
    · iexact B13
    isplitl [B14]
    · iexact B14
    iexact B15

theorem rings_out : frees (F := F) c ⊢ rings c := by
  unfold rings frees freeI freeO
  iintro ⟨⟨⟨A0, A1, A2, A3⟩, ⟨B0, B1, B2, B3⟩⟩, ⟨A4, A5, A6, A7, A8, A9, A10, A11, A12, A13, A14, A15⟩, ⟨B4, B5, B6, B7, B8, B9, B10, B11, B12, B13, B14, B15⟩⟩
  isplitl [A0 B0]
  · iapply (free_out c _ _ _ _ (xring_join c (Memref.whole cc0_scoped0) (Memref.isWhole_whole _)))
    iframe A0 B0
  isplitl [A1 B1]
  · iapply (free_out c _ _ _ _ (xring_join c (Memref.whole cc0_scoped2) (Memref.isWhole_whole _)))
    iframe A1 B1
  isplitl [A2 B2]
  · iapply (free_out c _ _ _ _ (xring_join c (Memref.whole cc0_scoped4) (Memref.isWhole_whole _)))
    iframe A2 B2
  isplitl [A3 B3]
  · iapply (free_out c _ _ _ _ (xring_join c (Memref.whole cc0_scoped6) (Memref.isWhole_whole _)))
    iframe A3 B3
  isplitl [A4 B4]
  · iapply (free_out c _ _ _ _ (lring_join c (Memref.whole cc0_scoped8) (Memref.isWhole_whole _)))
    iframe A4 B4
  isplitl [A5 B5]
  · iapply (free_out c _ _ _ _ (lring_join c (Memref.whole cc0_scoped10) (Memref.isWhole_whole _)))
    iframe A5 B5
  isplitl [A6 B6]
  · iapply (free_out c _ _ _ _ (lring_join c (Memref.whole cc0_scoped12) (Memref.isWhole_whole _)))
    iframe A6 B6
  isplitl [A7 B7]
  · iapply (free_out c _ _ _ _ (lring_join c (Memref.whole cc0_scoped14) (Memref.isWhole_whole _)))
    iframe A7 B7
  isplitl [A8 B8]
  · iapply (free_out c _ _ _ _ (wring_join c (Memref.whole cc0_scoped16) (Memref.isWhole_whole _)))
    iframe A8 B8
  isplitl [A9 B9]
  · iapply (free_out c _ _ _ _ (wring_join c (Memref.whole cc0_scoped18) (Memref.isWhole_whole _)))
    iframe A9 B9
  isplitl [A10 B10]
  · iapply (free_out c _ _ _ _ (wring_join c (Memref.whole cc0_scoped20) (Memref.isWhole_whole _)))
    iframe A10 B10
  isplitl [A11 B11]
  · iapply (free_out c _ _ _ _ (wring_join c (Memref.whole cc0_scoped22) (Memref.isWhole_whole _)))
    iframe A11 B11
  isplitl [A12 B12]
  · iapply (free_out c _ _ _ _ (wring_join c (Memref.whole cc0_scoped24) (Memref.isWhole_whole _)))
    iframe A12 B12
  isplitl [A13 B13]
  · iapply (free_out c _ _ _ _ (wring_join c (Memref.whole cc0_scoped26) (Memref.isWhole_whole _)))
    iframe A13 B13
  isplitl [A14 B14]
  · iapply (free_out c _ _ _ _ (wring_join c (Memref.whole cc0_scoped28) (Memref.isWhole_whole _)))
    iframe A14 B14
  iapply (free_out c _ _ _ _ (wring_join c (Memref.whole cc0_scoped30) (Memref.isWhole_whole _)))
  iframe A15 B15

/-- The kernel's own cells: the weights' copy's, then two per ring. -/
abbrev osem : Fin 33 → SemLoc sig := fun k => .dma ⟨k.val, k.isLt⟩
theorem ownSemFacts : Pipeline.OwnSemFacts spec0 osem := by decide

omit [FloatOps F] in
theorem own_eq : (Pipeline.ownSems0 (Ix := Unit) (Name := ℕ) (U := UU) (Lvl := ℕ) (Val := Elt F) (τ := τ) osem c : sProp 𝕄)
    = iprop(semVal ((c : Thread nD τ), SemLoc.dma cc0_scratch1.sem) 0
      ∗ cellP c cc0_scoped1 0 ∗ cellP c cc0_scoped1 1
      ∗ cellP c cc0_scoped3 0 ∗ cellP c cc0_scoped3 1
      ∗ cellP c cc0_scoped5 0 ∗ cellP c cc0_scoped5 1
      ∗ cellP c cc0_scoped7 0 ∗ cellP c cc0_scoped7 1
      ∗ cellP c cc0_scoped9 0 ∗ cellP c cc0_scoped9 1
      ∗ cellP c cc0_scoped11 0 ∗ cellP c cc0_scoped11 1
      ∗ cellP c cc0_scoped13 0 ∗ cellP c cc0_scoped13 1
      ∗ cellP c cc0_scoped15 0 ∗ cellP c cc0_scoped15 1
      ∗ cellP c cc0_scoped17 0 ∗ cellP c cc0_scoped17 1
      ∗ cellP c cc0_scoped19 0 ∗ cellP c cc0_scoped19 1
      ∗ cellP c cc0_scoped21 0 ∗ cellP c cc0_scoped21 1
      ∗ cellP c cc0_scoped23 0 ∗ cellP c cc0_scoped23 1
      ∗ cellP c cc0_scoped25 0 ∗ cellP c cc0_scoped25 1
      ∗ cellP c cc0_scoped27 0 ∗ cellP c cc0_scoped27 1
      ∗ cellP c cc0_scoped29 0 ∗ cellP c cc0_scoped29 1
      ∗ cellP c cc0_scoped31 0 ∗ cellP c cc0_scoped31 1) := by
  unfold Pipeline.ownSems0
  rw [bigSep_univ_eq_bigSepL (List.finRange 33) (by decide) (by decide)]
  rfl

/-- The kernel's scratch, rings and cells at the start and at the end. -/
theorem rest_eq : iprop(Pipeline.scopedRest (Ix := Unit) (Name := ℕ) (U := UU) (Lvl := ℕ) (Val := Elt F) (cfg0.spec) c
      ∗ Pipeline.ownSems0 (Ix := Unit) (Name := ℕ) (U := UU) (Lvl := ℕ) (Val := Elt F) (τ := τ) osem c)
    ⊣⊢ (iprop((bufP c cc0_scratch0 ∗ semVal ((c : Thread nD τ), SemLoc.dma cc0_scratch1.sem) 0) ∗ frees c) : sProp 𝕄) := by
  rw [own_eq, scopedRest0_eq]
  constructor
  · iintro ⟨⟨S, R0, R1, R2, R3, R4, R5, R6, R7, R8, R9, R10, R11, R12, R13, R14, R15⟩, C, P0, Q0, P1, Q1, P2, Q2, P3, Q3, P4, Q4, P5, Q5, P6, Q6, P7, Q7, P8, Q8, P9, Q9, P10, Q10, P11, Q11, P12, Q12, P13, Q13, P14, Q14, P15, Q15⟩
    isplitl [S C]
    · iframe S C
    iapply (rings_in c)
    unfold rings
    isplitl [R0 P0 Q0]
    · iframe R0 P0 Q0
    isplitl [R1 P1 Q1]
    · iframe R1 P1 Q1
    isplitl [R2 P2 Q2]
    · iframe R2 P2 Q2
    isplitl [R3 P3 Q3]
    · iframe R3 P3 Q3
    isplitl [R4 P4 Q4]
    · iframe R4 P4 Q4
    isplitl [R5 P5 Q5]
    · iframe R5 P5 Q5
    isplitl [R6 P6 Q6]
    · iframe R6 P6 Q6
    isplitl [R7 P7 Q7]
    · iframe R7 P7 Q7
    isplitl [R8 P8 Q8]
    · iframe R8 P8 Q8
    isplitl [R9 P9 Q9]
    · iframe R9 P9 Q9
    isplitl [R10 P10 Q10]
    · iframe R10 P10 Q10
    isplitl [R11 P11 Q11]
    · iframe R11 P11 Q11
    isplitl [R12 P12 Q12]
    · iframe R12 P12 Q12
    isplitl [R13 P13 Q13]
    · iframe R13 P13 Q13
    isplitl [R14 P14 Q14]
    · iframe R14 P14 Q14
    iframe R15 P15 Q15
  · iintro ⟨⟨S, C⟩, H⟩
    ihave H := (rings_out c) $$ H
    unfold rings
    icases H with ⟨⟨R0, P0, Q0⟩, ⟨R1, P1, Q1⟩, ⟨R2, P2, Q2⟩, ⟨R3, P3, Q3⟩, ⟨R4, P4, Q4⟩, ⟨R5, P5, Q5⟩, ⟨R6, P6, Q6⟩, ⟨R7, P7, Q7⟩, ⟨R8, P8, Q8⟩, ⟨R9, P9, Q9⟩, ⟨R10, P10, Q10⟩, ⟨R11, P11, Q11⟩, ⟨R12, P12, Q12⟩, ⟨R13, P13, Q13⟩, ⟨R14, P14, Q14⟩, ⟨R15, P15, Q15⟩⟩
    isplitl [S R0 R1 R2 R3 R4 R5 R6 R7 R8 R9 R10 R11 R12 R13 R14 R15]
    · iframe S R0 R1 R2 R3 R4 R5 R6 R7 R8 R9 R10 R11 R12 R13 R14 R15
    · iframe C P0 Q0 P1 Q1 P2 Q2 P3 Q3 P4 Q4 P5 Q5 P6 Q6 P7 Q7 P8 Q8 P9 Q9 P10 Q10 P11 Q11 P12 Q12 P13 Q13 P14 Q14 P15 Q15

end Cert.Proof.Rings

end
-- ==== Proof.Moves.lean ====
/-
  What the loop's copies and stores leave: a slot filled by a copy reads the block, a slot filled by a store reads the
  stored value, and the four streams compute the same three values.
-/
module

public import proofs.«01_k».proof.Proof.Held
public import Idealize.ShloMosaic.Lib.VecWindow

@[expose] public section

set_option maxRecDepth 16384

noncomputable section

namespace Cert.Proof.Moves

open Cert.KernelIdeal Cert.KernelIdeal.Gen Cert.Proof.Words Cert.Proof.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]
local notation "𝕄" => MT nD τ sig Unit (Elt F) ℕ UU ℕ

omit [FloatOps F] in
/-- A view filled by one whole copy reads the copied elements. -/
theorem filled {sp : Space} {s : Shape} {e : EltTy} (v : View sig .tc sp s e) (f : v.ty.Contents (Elt F)) (w : s.Idx → Elt F e) :
    v.read (Elt F) (v.writes (Elt F) f [⟨Rect.whole s, w⟩]) = w :=
  View.read_writes_full v f (off := fun _ => 0) (fun a => by omega) w []

/-- A load of all of a slot filled by one whole copy reads the copied elements. -/
theorem taken {sp : Space} {s : Shape} {e : EltTy} (v : View sig .tc sp s e) {off : Fin s.rank → ℕ} (inb : ∀ a, off a + s.size a ≤ s.size a)
    (w : s.Idx → Elt F e) :
    v.readCov [⟨Rect.whole s, ReadAs.same.apply w⟩] (Rect.unit off s.size inb).toLoadRect = w :=
  View.readCov_full v (off' := fun _ => 0) inb (fun a => by omega) w []

omit [FloatOps F] in
/-- A copy out of a slot filled by one whole store carries the stored elements. -/
theorem stored {sp : Space} {s : Shape} {e : EltTy} (v : View sig .tc sp s e) (f : v.ty.Contents (Elt F)) {off : Fin s.rank → ℕ}
    (inb : ∀ a, off a + s.size a ≤ s.size a) (w : s.Idx → Elt F e) :
    ReadAs.same.apply (v.read (Elt F) (v.writes (Elt F) f [⟨Rect.unit off s.size inb, w⟩])) = w :=
  View.read_writes_full v f inb w []

/-- A copy in flight that carries `P` is a block on its way to reading `P`. -/
theorem gone_mk {c : Dev nD} {sp sp' : Space} {sh : Shape} {e : EltTy} {B : Memref sig .tc sp sh e} {Sl : Memref sig .tc sp' sh e}
    {S : DmaSems sig S2} {s : Fin 2} {N : ℕ} {P : sh.Idx → Elt F e} {fa : Buf (Elt F) (B.view.loc (c : Thread nD τ))}
    {fs : Buf (Elt F) (Sl.view.loc (c : Thread nD τ))} {w : sh.Idx → Elt F e} (h : w = P) :
    (Transfers.Flight countersEmb (c : Thread nD τ) (SemLoc.dma (csm S s).sem) default N
      iprop(heldP c B (B.view.writes (Elt F) fa [⟨Rect.whole sh, w⟩]) ∗ heldP c Sl fs) : sProp 𝕄) ⊢ goneP c B Sl S s N P := by
  subst h
  iintro H
  iexists _, _
  isplitr
  · ipureintro; exact filled B.view fa w
  · iexact H

section Pays
variable (W : Vec F S8x1024 .f32) {x y : Vec F S1x512x1024 .f32} (h : x = y)
include h
theorem pl0 : k0_pay2 W x = logV W y := h ▸ rfl
theorem pl1 : k0_pay11 (k0_pay10 W x) = logV W y := h ▸ rfl
theorem pl2 : k0_pay20 W x = logV W y := h ▸ rfl
theorem pl3 : k0_pay29 (k0_pay28 W x) = logV W y := h ▸ rfl
theorem pw0 : k0_pay8 (k0_pay3 W x) (k0_pay6 W x) = wtV W y := h ▸ rfl
theorem pw1 : k0_pay17 (k0_pay10 W x) = wtV W y := h ▸ rfl
theorem pw2 : k0_pay26 (k0_pay21 W x) (k0_pay24 W x) = wtV W y := h ▸ rfl
theorem pw3 : k0_pay34 (k0_pay28 W x) = wtV W y := h ▸ rfl
theorem pe0 : k0_pay9 (iota .tc S8x512 32 [0] iota_S8x512_d0_w32) (k0_pay4 W x) (k0_pay5 W x) (k0_pay7 W x) = exV W y := h ▸ rfl
theorem pe1 : k0_pay18 (k0_pay13 (k0_pay10 W x)) (k0_pay16 (k0_pay10 W x)) = exV W y := h ▸ rfl
theorem pe2 : k0_pay27 (iota .tc S8x512 32 [0] iota_S8x512_d0_w32) (k0_pay22 W x) (k0_pay25 W x) 8#32 = exV W y := h ▸ rfl
theorem pe3 : k0_pay36 (k0_pay35 (k0_pay28 W x)) = exV W y := h ▸ rfl
end Pays

end Cert.Proof.Moves

end
-- ==== Proof.Trip.lean ====
/-
  One trip of the pipelined loop: the next step's input copies start, the current step's blocks are waited for, routed
  into the output slots, their copies start, and the previous step's copies are waited for.
-/
module

public import proofs.«01_k».proof.Proof.Moves

@[expose] public section

set_option maxRecDepth 16384

noncomputable section

namespace Cert.Proof.Trip

open Cert.KernelIdeal Cert.KernelIdeal.Gen Cert.Proof.Words Cert.Proof.Held Cert.Proof.Moves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]
local notation "𝕄" => MT nD τ sig Unit (Elt F) ℕ UU ℕ

section Trip
variable (c : Dev nD) (i : grid0.Coords) (W : Vec F S8x1024 .f32)
  (X : Buf (Elt F) ((Memref.whole main_arg0 : Memref sig .tc .hbm S4x8192x1024 .f32).view.loc (c : Thread nD τ)))
  (v18 v52 v60 z65 o66 : BitVec 32)

/-- The loop's trip on the kernel's own memrefs. -/
abbrev tripG (k : Fin k0_t1_loop.trips) (n : ℕ) :=
  k0_t1_body (F := F) i (Memref.whole main_arg0) (Memref.isWhole_whole _) (Memref.whole main_arg1) (Memref.isWhole_whole _) (Memref.whole main_v0_0) (Memref.isWhole_whole _) (Memref.whole main_v0_1) (Memref.isWhole_whole _) (Memref.whole main_v0_2) (Memref.isWhole_whole _) (Memref.whole cc0_scratch0) (Memref.isWhole_whole _) cc0_scratch1 (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (Memref.whole cc0_scoped18) (Memref.isWhole_whole _) cc0_scoped19 (Memref.whole cc0_scoped20) (Memref.isWhole_whole _) cc0_scoped21 (Memref.whole cc0_scoped22) (Memref.isWhole_whole _) cc0_scoped23 (Memref.whole cc0_scoped24) (Memref.isWhole_whole _) cc0_scoped25 (Memref.whole cc0_scoped26) (Memref.isWhole_whole _) cc0_scoped27 (Memref.whole cc0_scoped28) (Memref.isWhole_whole _) cc0_scoped29 (Memref.whole cc0_scoped30) (Memref.isWhole_whole _) cc0_scoped31
    W (Scalar.muli (BitVec.ofNat 32 (i 0).val) 2#32) v18 v52 v60 z65 o66 k (accAt n k.val)

set_option maxHeartbeats 0 in
theorem trip_mid (k : Fin k0_t1_loop.trips) (h1 : 1 ≤ k.val) (h7 : k.val < 7) :
    resAt c i W X k.val ⊢ wp frame (wpE (defs₀ (F := F)) 𝒱₀ (c : Thread nD τ) none) Set.univ (tripG i W v18 v52 v60 z65 o66 k (k.val + 1))
      (fun acc => iprop(⌜acc = accAt (k.val + 2) (k.val + 1)⌝ ∗ resAt c i W X (k.val + 1))) := by
    obtain ⟨a0, a1, a2, a3, a4, a5, a6, a7, a8, a9, a10, a11, a12, a13, a14, a15⟩ := always i k
    obtain ⟨b0, b1, b2, b3⟩ := issues i k h7
    obtain ⟨d0, d1, d2, d3, d4, d5, d6, d7, d8, d9, d10, d11⟩ := waits i k h1
    obtain ⟨s0, s1, s2, s3, s4, s5, s6, s7, s8, s9, s10, s11, s12, s13, s14, s15⟩ := checks_slots k
    have ct := checks_trip i k
    conv_lhs => unfold resAt
    rw [resI_here c i X k.val h7, resO_here c i W X k.val h1 (by omega)]
    simp only [homeI, freeI, comeI, aheadO, freeO, goneO, doneO]
    iintro ⟨⟨%O, HO⟩, ⟨⟨⟨X0, X1, X2, X3⟩, XR⟩, ⟨⟨⟨%fi0, SI0⟩, CI0⟩, ⟨⟨%fi1, SI1⟩, CI1⟩, ⟨⟨%fi2, SI2⟩, CI2⟩, ⟨⟨%fi3, SI3⟩, CI3⟩⟩, ⟨⟨%fl0, FI0⟩, ⟨%fl1, FI1⟩, ⟨%fl2, FI2⟩, ⟨%fl3, FI3⟩⟩⟩, ⟨⟨⟨⟨%fa0, A0⟩, ⟨%fa1, A1⟩, ⟨%fa2, A2⟩, ⟨%fa3, A3⟩, ⟨%fa4, A4⟩, ⟨%fa5, A5⟩, ⟨%fa6, A6⟩, ⟨%fa7, A7⟩, ⟨%fa8, A8⟩, ⟨%fa9, A9⟩, ⟨%fa10, A10⟩, ⟨%fa11, A11⟩⟩, AR⟩, BR, ⟨⟨⟨%fo0, SO0⟩, CO0⟩, ⟨⟨%fo1, SO1⟩, CO1⟩, ⟨⟨%fo2, SO2⟩, CO2⟩, ⟨⟨%fo3, SO3⟩, CO3⟩, ⟨⟨%fo4, SO4⟩, CO4⟩, ⟨⟨%fo5, SO5⟩, CO5⟩, ⟨⟨%fo6, SO6⟩, CO6⟩, ⟨⟨%fo7, SO7⟩, CO7⟩, ⟨⟨%fo8, SO8⟩, CO8⟩, ⟨⟨%fo9, SO9⟩, CO9⟩, ⟨⟨%fo10, SO10⟩, CO10⟩, ⟨⟨%fo11, SO11⟩, CO11⟩⟩, ⟨⟨%g0, %fs0, %hg0, FO0⟩, ⟨%g1, %fs1, %hg1, FO1⟩, ⟨%g2, %fs2, %hg2, FO2⟩, ⟨%g3, %fs3, %hg3, FO3⟩, ⟨%g4, %fs4, %hg4, FO4⟩, ⟨%g5, %fs5, %hg5, FO5⟩, ⟨%g6, %fs6, %hg6, FO6⟩, ⟨%g7, %fs7, %hg7, FO7⟩, ⟨%g8, %fs8, %hg8, FO8⟩, ⟨%g9, %fs9, %hg9, FO9⟩, ⟨%g10, %fs10, %hg10, FO10⟩, ⟨%g11, %fs11, %hg11, FO11⟩⟩⟩⟩
    dsimp only [tripG, accAt]
    sl_unfold [k0_t1_body]
    sl_exec
    sl_step
    have hy : ∀ (i : grid0.Coords) (k : Fin k0_t1_loop.trips), 1 ≤ k.val → k.val < 7 →
        trip_mid.sl.v274_r0 i k = wn (k.val + 2) ∧ trip_mid.sl.v1070_r0 i k = wn (k.val + 1) ∧ trip_mid.sl.v813_r0 i k = wn (k.val + 1)
        ∧ trip_mid.sl.v954_r0 i k = wn (k.val + 1 - 1) ∧ trip_mid.sl.v248_r0 k = wb (k.val + 1) ∧ trip_mid.sl.v244_r0 k = wj (k.val + 1) := by
      decide +kernel
    isplitr
    · ipureintro
      obtain ⟨e1, e2, e3, e4, e5, e6⟩ := hy i k h1 h7
      rw [e1, e2, e3, e4, e5, e6]
    unfold resAt
    rw [resI_next c i X k.val h7, resO_next c i W X k.val h1 (by omega)]
    unfold homeI freeI comeI aheadO freeO goneO doneO
    isplitl [HO]
    · iexists _; iexact HO
    isplitl [FI0_src FI1_src FI2_src FI3_src XR FI0_dst FI0 FI1_dst FI1 FI2_dst FI2 FI3_dst FI3 CI0 CI1 CI2 CI3]
    · isplitl [FI0_src FI1_src FI2_src FI3_src XR]
      · iframe FI0_src FI1_src FI2_src FI3_src XR
      isplitl [FI0_dst FI0 FI1_dst FI1 FI2_dst FI2 FI3_dst FI3]
      · isplitl [FI0_dst FI0]
        · isplitl [FI0_dst]
          · iexists _; iexact FI0_dst
          · iexact FI0
        isplitl [FI1_dst FI1]
        · isplitl [FI1_dst]
          · iexists _; iexact FI1_dst
          · iexact FI1
        isplitl [FI2_dst FI2]
        · isplitl [FI2_dst]
          · iexists _; iexact FI2_dst
          · iexact FI2
        · isplitl [FI3_dst]
          · iexists _; iexact FI3_dst
          · iexact FI3
      · isplitl [CI0]
        · iexists _; iexact CI0
        isplitl [CI1]
        · iexists _; iexact CI1
        isplitl [CI2]
        · iexists _; iexact CI2
        · iexists _; iexact CI3
    isplitl [AR]
    · iexact AR
    isplitl [FO0_dst FO1_dst FO2_dst FO3_dst FO4_dst FO5_dst FO6_dst FO7_dst FO8_dst FO9_dst FO10_dst FO11_dst BR]
    · isplitl [FO0_dst FO1_dst FO2_dst FO3_dst FO4_dst FO5_dst FO6_dst FO7_dst FO8_dst FO9_dst FO10_dst FO11_dst]
      · isplitl [FO0_dst]
        · iexists g0; isplitr
          · ipureintro; exact hg0
          · iexact FO0_dst
        isplitl [FO1_dst]
        · iexists g1; isplitr
          · ipureintro; exact hg1
          · iexact FO1_dst
        isplitl [FO2_dst]
        · iexists g2; isplitr
          · ipureintro; exact hg2
          · iexact FO2_dst
        isplitl [FO3_dst]
        · iexists g3; isplitr
          · ipureintro; exact hg3
          · iexact FO3_dst
        isplitl [FO4_dst]
        · iexists g4; isplitr
          · ipureintro; exact hg4
          · iexact FO4_dst
        isplitl [FO5_dst]
        · iexists g5; isplitr
          · ipureintro; exact hg5
          · iexact FO5_dst
        isplitl [FO6_dst]
        · iexists g6; isplitr
          · ipureintro; exact hg6
          · iexact FO6_dst
        isplitl [FO7_dst]
        · iexists g7; isplitr
          · ipureintro; exact hg7
          · iexact FO7_dst
        isplitl [FO8_dst]
        · iexists g8; isplitr
          · ipureintro; exact hg8
          · iexact FO8_dst
        isplitl [FO9_dst]
        · iexists g9; isplitr
          · ipureintro; exact hg9
          · iexact FO9_dst
        isplitl [FO10_dst]
        · iexists g10; isplitr
          · ipureintro; exact hg10
          · iexact FO10_dst
        · iexists g11; isplitr
          · ipureintro; exact hg11
          · iexact FO11_dst
      iexact BR
    isplitl [FO0_src FO0 FO1_src FO1 FO2_src FO2 FO3_src FO3 FO4_src FO4 FO5_src FO5 FO6_src FO6 FO7_src FO7 FO8_src FO8 FO9_src FO9 FO10_src FO10 FO11_src FO11]
    · isplitl [FO0_src FO0]
      · isplitl [FO0_src]
        · iexists _; iexact FO0_src
        · iexact FO0
      isplitl [FO1_src FO1]
      · isplitl [FO1_src]
        · iexists _; iexact FO1_src
        · iexact FO1
      isplitl [FO2_src FO2]
      · isplitl [FO2_src]
        · iexists _; iexact FO2_src
        · iexact FO2
      isplitl [FO3_src FO3]
      · isplitl [FO3_src]
        · iexists _; iexact FO3_src
        · iexact FO3
      isplitl [FO4_src FO4]
      · isplitl [FO4_src]
        · iexists _; iexact FO4_src
        · iexact FO4
      isplitl [FO5_src FO5]
      · isplitl [FO5_src]
        · iexists _; iexact FO5_src
        · iexact FO5
      isplitl [FO6_src FO6]
      · isplitl [FO6_src]
        · iexists _; iexact FO6_src
        · iexact FO6
      isplitl [FO7_src FO7]
      · isplitl [FO7_src]
        · iexists _; iexact FO7_src
        · iexact FO7
      isplitl [FO8_src FO8]
      · isplitl [FO8_src]
        · iexists _; iexact FO8_src
        · iexact FO8
      isplitl [FO9_src FO9]
      · isplitl [FO9_src]
        · iexists _; iexact FO9_src
        · iexact FO9
      isplitl [FO10_src FO10]
      · isplitl [FO10_src]
        · iexists _; iexact FO10_src
        · iexact FO10
      · isplitl [FO11_src]
        · iexists _; iexact FO11_src
        · iexact FO11
    isplitl [CO0]
    · have q : trip_mid.sl.dma28 c i W X k fo0 = logV W (xread c i X 0 k.val) := by
        unfold trip_mid.sl.dma28 trip_mid.sl.SO0_1
        rw [stored]
        exact pl0 W (taken _ _ _)
      iapply (gone_mk q) $$ CO0
    isplitl [CO1]
    · have q : trip_mid.sl.dma28_1 c i W X k fo1 = logV W (xread c i X 1 k.val) := by
        unfold trip_mid.sl.dma28_1 trip_mid.sl.SO1_1
        rw [stored]
        exact pl1 W (taken _ _ _)
      iapply (gone_mk q) $$ CO1
    isplitl [CO2]
    · have q : trip_mid.sl.dma28_2 c i W X k fo2 = logV W (xread c i X 2 k.val) := by
        unfold trip_mid.sl.dma28_2 trip_mid.sl.SO2_1
        rw [stored]
        exact pl2 W (taken _ _ _)
      iapply (gone_mk q) $$ CO2
    isplitl [CO3]
    · have q : trip_mid.sl.dma28_3 c i W X k fo3 = logV W (xread c i X 3 k.val) := by
        unfold trip_mid.sl.dma28_3 trip_mid.sl.SO3_1
        rw [stored]
        exact pl3 W (taken _ _ _)
      iapply (gone_mk q) $$ CO3
    isplitl [CO4]
    · have q : trip_mid.sl.dma28_4 c i W X k fo4 = wtV W (xread c i X 0 k.val) := by
        unfold trip_mid.sl.dma28_4 trip_mid.sl.SO4_1
        rw [stored]
        exact pw0 W (taken _ _ _)
      iapply (gone_mk q) $$ CO4
    isplitl [CO5]
    · have q : trip_mid.sl.dma28_5 c i W X k fo5 = wtV W (xread c i X 1 k.val) := by
        unfold trip_mid.sl.dma28_5 trip_mid.sl.SO5_1
        rw [stored]
        exact pw1 W (taken _ _ _)
      iapply (gone_mk q) $$ CO5
    isplitl [CO6]
    · have q : trip_mid.sl.dma28_6 c i W X k fo6 = wtV W (xread c i X 2 k.val) := by
        unfold trip_mid.sl.dma28_6 trip_mid.sl.SO6_1
        rw [stored]
        exact pw2 W (taken _ _ _)
      iapply (gone_mk q) $$ CO6
    isplitl [CO7]
    · have q : trip_mid.sl.dma28_7 c i W X k fo7 = wtV W (xread c i X 3 k.val) := by
        unfold trip_mid.sl.dma28_7 trip_mid.sl.SO7_1
        rw [stored]
        exact pw3 W (taken _ _ _)
      iapply (gone_mk q) $$ CO7
    isplitl [CO8]
    · have q : trip_mid.sl.dma28_8 c i W X k fo8 = exV W (xread c i X 0 k.val) := by
        unfold trip_mid.sl.dma28_8 trip_mid.sl.SO8_1
        rw [stored]
        exact pe0 W (taken _ _ _)
      iapply (gone_mk q) $$ CO8
    isplitl [CO9]
    · have q : trip_mid.sl.dma28_9 c i W X k fo9 = exV W (xread c i X 1 k.val) := by
        unfold trip_mid.sl.dma28_9 trip_mid.sl.SO9_1
        rw [stored]
        exact pe1 W (taken _ _ _)
      iapply (gone_mk q) $$ CO9
    isplitl [CO10]
    · have q : trip_mid.sl.dma28_10 c i W X k fo10 = exV W (xread c i X 2 k.val) := by
        unfold trip_mid.sl.dma28_10 trip_mid.sl.SO10_1
        rw [stored]
        exact pe2 W (taken _ _ _)
      iapply (gone_mk q) $$ CO10
    · have q : trip_mid.sl.dma28_11 c i W X k fo11 = exV W (xread c i X 3 k.val) := by
        unfold trip_mid.sl.dma28_11 trip_mid.sl.SO11_1
        rw [stored]
        exact pe3 W (taken _ _ _)
      iapply (gone_mk q) $$ CO11

end Trip

end Cert.Proof.Trip

end
-- ==== Proof.TripFirst.lean ====
/-
  The first trip of the pipelined loop: the next step's input copies start, the current step's blocks are waited for, routed
  into the output slots, their copies start. No copy of an earlier step is out.
-/
module

public import proofs.«01_k».proof.Proof.Trip

@[expose] public section

set_option maxRecDepth 16384

noncomputable section

namespace Cert.Proof.Trip

open Cert.KernelIdeal Cert.KernelIdeal.Gen Cert.Proof.Words Cert.Proof.Held Cert.Proof.Moves Cert.Proof.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]
local notation "𝕄" => MT nD τ sig Unit (Elt F) ℕ UU ℕ

section Trip
variable (c : Dev nD) (i : grid0.Coords) (W : Vec F S8x1024 .f32)
  (X : Buf (Elt F) ((Memref.whole main_arg0 : Memref sig .tc .hbm S4x8192x1024 .f32).view.loc (c : Thread nD τ)))
  (v18 v52 v60 z65 o66 : BitVec 32)

set_option maxHeartbeats 0 in
theorem trip_first (k : Fin k0_t1_loop.trips) (h0 : k.val = 0) :
    resAt c i W X k.val ⊢ wp frame (wpE (defs₀ (F := F)) 𝒱₀ (c : Thread nD τ) none) Set.univ (tripG i W v18 v52 v60 z65 o66 k (k.val + 1))
      (fun acc => iprop(⌜acc = accAt (k.val + 2) (k.val + 1)⌝ ∗ resAt c i W X (k.val + 1))) := by
    have h7 : k.val < 7 := by omega
    obtain ⟨a0, a1, a2, a3, a4, a5, a6, a7, a8, a9, a10, a11, a12, a13, a14, a15⟩ := always i k
    obtain ⟨b0, b1, b2, b3⟩ := issues i k h7
    obtain ⟨d0, d1, d2, d3, d4, d5, d6, d7, d8, d9, d10, d11⟩ := waits_first i k (by omega)
    obtain ⟨s0, s1, s2, s3, s4, s5, s6, s7, s8, s9, s10, s11, s12, s13, s14, s15⟩ := checks_slots k
    have ct := checks_trip i k
    conv_lhs => unfold resAt
    rw [resI_here c i X k.val h7, resO_here_zero' c i W X k.val h0]
    simp only [homeI, freeI, comeI, aheadO, freeO, goneO, doneO]
    iintro ⟨⟨%O, HO⟩, ⟨⟨⟨X0, X1, X2, X3⟩, XR⟩, ⟨⟨⟨%fi0, SI0⟩, CI0⟩, ⟨⟨%fi1, SI1⟩, CI1⟩, ⟨⟨%fi2, SI2⟩, CI2⟩, ⟨⟨%fi3, SI3⟩, CI3⟩⟩, ⟨⟨%fl0, FI0⟩, ⟨%fl1, FI1⟩, ⟨%fl2, FI2⟩, ⟨%fl3, FI3⟩⟩⟩, ⟨⟨⟨⟨%fa0, A0⟩, ⟨%fa1, A1⟩, ⟨%fa2, A2⟩, ⟨%fa3, A3⟩, ⟨%fa4, A4⟩, ⟨%fa5, A5⟩, ⟨%fa6, A6⟩, ⟨%fa7, A7⟩, ⟨%fa8, A8⟩, ⟨%fa9, A9⟩, ⟨%fa10, A10⟩, ⟨%fa11, A11⟩⟩, AR⟩, ⟨⟨⟨%fo0, SO0⟩, CO0⟩, ⟨⟨%fo1, SO1⟩, CO1⟩, ⟨⟨%fo2, SO2⟩, CO2⟩, ⟨⟨%fo3, SO3⟩, CO3⟩, ⟨⟨%fo4, SO4⟩, CO4⟩, ⟨⟨%fo5, SO5⟩, CO5⟩, ⟨⟨%fo6, SO6⟩, CO6⟩, ⟨⟨%fo7, SO7⟩, CO7⟩, ⟨⟨%fo8, SO8⟩, CO8⟩, ⟨⟨%fo9, SO9⟩, CO9⟩, ⟨⟨%fo10, SO10⟩, CO10⟩, ⟨⟨%fo11, SO11⟩, CO11⟩⟩, FR⟩⟩
    dsimp only [tripG, accAt]
    sl_unfold [k0_t1_body]
    sl_exec
    sl_step
    have hy : ∀ (i : grid0.Coords) (k : Fin k0_t1_loop.trips), k.val = 0 →
        trip_first.sl.v274_r0 i k = wn (k.val + 2) ∧ trip_first.sl.v1070_r0 i k = wn (k.val + 1) ∧ trip_first.sl.v813_r0 i k = wn (k.val + 1)
        ∧ trip_first.sl.v954_r0 i k = wn (k.val + 1 - 1) ∧ trip_first.sl.v248_r0 k = wb (k.val + 1) ∧ trip_first.sl.v244_r0 k = wj (k.val + 1) := by
      decide +kernel
    isplitr
    · ipureintro
      obtain ⟨e1, e2, e3, e4, e5, e6⟩ := hy i k h0
      rw [e1, e2, e3, e4, e5, e6]
    unfold resAt
    rw [resI_next c i X k.val h7, resO_next_zero' c i W X k.val h0]
    unfold homeI freeI comeI aheadO freeO goneO
    isplitl [HO]
    · iexists _; iexact HO
    isplitl [FI0_src FI1_src FI2_src FI3_src XR FI0_dst FI0 FI1_dst FI1 FI2_dst FI2 FI3_dst FI3 CI0 CI1 CI2 CI3]
    · isplitl [FI0_src FI1_src FI2_src FI3_src XR]
      · iframe FI0_src FI1_src FI2_src FI3_src XR
      isplitl [FI0_dst FI0 FI1_dst FI1 FI2_dst FI2 FI3_dst FI3]
      · isplitl [FI0_dst FI0]
        · isplitl [FI0_dst]
          · iexists _; iexact FI0_dst
          · iexact FI0
        isplitl [FI1_dst FI1]
        · isplitl [FI1_dst]
          · iexists _; iexact FI1_dst
          · iexact FI1
        isplitl [FI2_dst FI2]
        · isplitl [FI2_dst]
          · iexists _; iexact FI2_dst
          · iexact FI2
        · isplitl [FI3_dst]
          · iexists _; iexact FI3_dst
          · iexact FI3
      · isplitl [CI0]
        · iexists _; iexact CI0
        isplitl [CI1]
        · iexists _; iexact CI1
        isplitl [CI2]
        · iexists _; iexact CI2
        · iexists _; iexact CI3
    isplitl [AR]
    · iexact AR
    isplitl [FR]
    · iexact FR
    isplitl [CO0]
    · have q : trip_first.sl.dma28 c i W X k fo0 = logV W (xread c i X 0 k.val) := by
        unfold trip_first.sl.dma28 trip_first.sl.SO0_1
        rw [stored]
        exact pl0 W (taken _ _ _)
      iapply (gone_mk q) $$ CO0
    isplitl [CO1]
    · have q : trip_first.sl.dma28_1 c i W X k fo1 = logV W (xread c i X 1 k.val) := by
        unfold trip_first.sl.dma28_1 trip_first.sl.SO1_1
        rw [stored]
        exact pl1 W (taken _ _ _)
      iapply (gone_mk q) $$ CO1
    isplitl [CO2]
    · have q : trip_first.sl.dma28_2 c i W X k fo2 = logV W (xread c i X 2 k.val) := by
        unfold trip_first.sl.dma28_2 trip_first.sl.SO2_1
        rw [stored]
        exact pl2 W (taken _ _ _)
      iapply (gone_mk q) $$ CO2
    isplitl [CO3]
    · have q : trip_first.sl.dma28_3 c i W X k fo3 = logV W (xread c i X 3 k.val) := by
        unfold trip_first.sl.dma28_3 trip_first.sl.SO3_1
        rw [stored]
        exact pl3 W (taken _ _ _)
      iapply (gone_mk q) $$ CO3
    isplitl [CO4]
    · have q : trip_first.sl.dma28_4 c i W X k fo4 = wtV W (xread c i X 0 k.val) := by
        unfold trip_first.sl.dma28_4 trip_first.sl.SO4_1
        rw [stored]
        exact pw0 W (taken _ _ _)
      iapply (gone_mk q) $$ CO4
    isplitl [CO5]
    · have q : trip_first.sl.dma28_5 c i W X k fo5 = wtV W (xread c i X 1 k.val) := by
        unfold trip_first.sl.dma28_5 trip_first.sl.SO5_1
        rw [stored]
        exact pw1 W (taken _ _ _)
      iapply (gone_mk q) $$ CO5
    isplitl [CO6]
    · have q : trip_first.sl.dma28_6 c i W X k fo6 = wtV W (xread c i X 2 k.val) := by
        unfold trip_first.sl.dma28_6 trip_first.sl.SO6_1
        rw [stored]
        exact pw2 W (taken _ _ _)
      iapply (gone_mk q) $$ CO6
    isplitl [CO7]
    · have q : trip_first.sl.dma28_7 c i W X k fo7 = wtV W (xread c i X 3 k.val) := by
        unfold trip_first.sl.dma28_7 trip_first.sl.SO7_1
        rw [stored]
        exact pw3 W (taken _ _ _)
      iapply (gone_mk q) $$ CO7
    isplitl [CO8]
    · have q : trip_first.sl.dma28_8 c i W X k fo8 = exV W (xread c i X 0 k.val) := by
        unfold trip_first.sl.dma28_8 trip_first.sl.SO8_1
        rw [stored]
        exact pe0 W (taken _ _ _)
      iapply (gone_mk q) $$ CO8
    isplitl [CO9]
    · have q : trip_first.sl.dma28_9 c i W X k fo9 = exV W (xread c i X 1 k.val) := by
        unfold trip_first.sl.dma28_9 trip_first.sl.SO9_1
        rw [stored]
        exact pe1 W (taken _ _ _)
      iapply (gone_mk q) $$ CO9
    isplitl [CO10]
    · have q : trip_first.sl.dma28_10 c i W X k fo10 = exV W (xread c i X 2 k.val) := by
        unfold trip_first.sl.dma28_10 trip_first.sl.SO10_1
        rw [stored]
        exact pe2 W (taken _ _ _)
      iapply (gone_mk q) $$ CO10
    · have q : trip_first.sl.dma28_11 c i W X k fo11 = exV W (xread c i X 3 k.val) := by
        unfold trip_first.sl.dma28_11 trip_first.sl.SO11_1
        rw [stored]
        exact pe3 W (taken _ _ _)
      iapply (gone_mk q) $$ CO11

end Trip

end Cert.Proof.Trip

end
-- ==== Proof.TripLast.lean ====
/-
  The last trip of the pipelined loop: no input copy starts, the current step's blocks are waited for, routed
  into the output slots, their copies start, and the previous step's copies are waited for.
-/
module

public import proofs.«01_k».proof.Proof.Trip

@[expose] public section

set_option maxRecDepth 16384

noncomputable section

namespace Cert.Proof.Trip

open Cert.KernelIdeal Cert.KernelIdeal.Gen Cert.Proof.Words Cert.Proof.Held Cert.Proof.Moves Cert.Proof.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]
local notation "𝕄" => MT nD τ sig Unit (Elt F) ℕ UU ℕ

section Trip
variable (c : Dev nD) (i : grid0.Coords) (W : Vec F S8x1024 .f32)
  (X : Buf (Elt F) ((Memref.whole main_arg0 : Memref sig .tc .hbm S4x8192x1024 .f32).view.loc (c : Thread nD τ)))
  (v18 v52 v60 z65 o66 : BitVec 32)

set_option maxHeartbeats 0 in
theorem trip_last (k : Fin k0_t1_loop.trips) (h7 : k.val = 7) :
    resAt c i W X k.val ⊢ wp frame (wpE (defs₀ (F := F)) 𝒱₀ (c : Thread nD τ) none) Set.univ (tripG i W v18 v52 v60 z65 o66 k (k.val + 1))
      (fun acc => iprop(⌜acc = accAt (k.val + 1) (k.val + 1)⌝ ∗ resAt c i W X (k.val + 1))) := by
    have h1 : 1 ≤ k.val := by omega
    obtain ⟨a0, a1, a2, a3, a4, a5, a6, a7, a8, a9, a10, a11, a12, a13, a14, a15⟩ := always i k
    obtain ⟨b0, b1, b2, b3⟩ := issues_last i k (by omega)
    obtain ⟨d0, d1, d2, d3, d4, d5, d6, d7, d8, d9, d10, d11⟩ := waits i k h1
    obtain ⟨s0, s1, s2, s3, s4, s5, s6, s7, s8, s9, s10, s11, s12, s13, s14, s15⟩ := checks_slots k
    have ct := checks_trip i k
    conv_lhs => unfold resAt
    rw [resI_here_last' c i X k.val h7, resO_here c i W X k.val h1 (by omega)]
    simp only [homeI, freeI, comeI, aheadO, freeO, goneO, doneO]
    iintro ⟨⟨%O, HO⟩, ⟨XR, FRI, ⟨⟨%fl0, FI0⟩, ⟨%fl1, FI1⟩, ⟨%fl2, FI2⟩, ⟨%fl3, FI3⟩⟩⟩, ⟨⟨⟨⟨%fa0, A0⟩, ⟨%fa1, A1⟩, ⟨%fa2, A2⟩, ⟨%fa3, A3⟩, ⟨%fa4, A4⟩, ⟨%fa5, A5⟩, ⟨%fa6, A6⟩, ⟨%fa7, A7⟩, ⟨%fa8, A8⟩, ⟨%fa9, A9⟩, ⟨%fa10, A10⟩, ⟨%fa11, A11⟩⟩, AR⟩, BR, ⟨⟨⟨%fo0, SO0⟩, CO0⟩, ⟨⟨%fo1, SO1⟩, CO1⟩, ⟨⟨%fo2, SO2⟩, CO2⟩, ⟨⟨%fo3, SO3⟩, CO3⟩, ⟨⟨%fo4, SO4⟩, CO4⟩, ⟨⟨%fo5, SO5⟩, CO5⟩, ⟨⟨%fo6, SO6⟩, CO6⟩, ⟨⟨%fo7, SO7⟩, CO7⟩, ⟨⟨%fo8, SO8⟩, CO8⟩, ⟨⟨%fo9, SO9⟩, CO9⟩, ⟨⟨%fo10, SO10⟩, CO10⟩, ⟨⟨%fo11, SO11⟩, CO11⟩⟩, ⟨⟨%g0, %fs0, %hg0, FO0⟩, ⟨%g1, %fs1, %hg1, FO1⟩, ⟨%g2, %fs2, %hg2, FO2⟩, ⟨%g3, %fs3, %hg3, FO3⟩, ⟨%g4, %fs4, %hg4, FO4⟩, ⟨%g5, %fs5, %hg5, FO5⟩, ⟨%g6, %fs6, %hg6, FO6⟩, ⟨%g7, %fs7, %hg7, FO7⟩, ⟨%g8, %fs8, %hg8, FO8⟩, ⟨%g9, %fs9, %hg9, FO9⟩, ⟨%g10, %fs10, %hg10, FO10⟩, ⟨%g11, %fs11, %hg11, FO11⟩⟩⟩⟩
    dsimp only [tripG, accAt]
    sl_unfold [k0_t1_body]
    sl_exec
    sl_step
    have hy : ∀ (i : grid0.Coords) (k : Fin k0_t1_loop.trips), k.val = 7 →
        trip_last.sl.v274_r0 i k = wn (k.val + 1) ∧ trip_last.sl.v1070_r0 i k = wn (k.val + 1) ∧ trip_last.sl.v813_r0 i k = wn (k.val + 1)
        ∧ trip_last.sl.v954_r0 i k = wn (k.val + 1 - 1) ∧ trip_last.sl.v248_r0 k = wb (k.val + 1) ∧ trip_last.sl.v244_r0 k = wj (k.val + 1) := by
      decide +kernel
    isplitr
    · ipureintro
      obtain ⟨e1, e2, e3, e4, e5, e6⟩ := hy i k h7
      rw [e1, e2, e3, e4, e5, e6]
    unfold resAt
    rw [resI_next_last' c i X k.val h7, resO_next c i W X k.val h1 (by omega)]
    unfold homeI freeI aheadO freeO goneO doneO
    isplitl [HO]
    · iexists _; iexact HO
    isplitl [FI0_src FI1_src FI2_src FI3_src XR FI0_dst FI0 FI1_dst FI1 FI2_dst FI2 FI3_dst FI3 FRI]
    · isplitl [FI0_src FI1_src FI2_src FI3_src XR]
      · iframe FI0_src FI1_src FI2_src FI3_src XR
      isplitl [FI0_dst FI0 FI1_dst FI1 FI2_dst FI2 FI3_dst FI3]
      · isplitl [FI0_dst FI0]
        · isplitl [FI0_dst]
          · iexists _; iexact FI0_dst
          · iexact FI0
        isplitl [FI1_dst FI1]
        · isplitl [FI1_dst]
          · iexists _; iexact FI1_dst
          · iexact FI1
        isplitl [FI2_dst FI2]
        · isplitl [FI2_dst]
          · iexists _; iexact FI2_dst
          · iexact FI2
        · isplitl [FI3_dst]
          · iexists _; iexact FI3_dst
          · iexact FI3
      iexact FRI
    isplitl [AR]
    · iexact AR
    isplitl [FO0_dst FO1_dst FO2_dst FO3_dst FO4_dst FO5_dst FO6_dst FO7_dst FO8_dst FO9_dst FO10_dst FO11_dst BR]
    · isplitl [FO0_dst FO1_dst FO2_dst FO3_dst FO4_dst FO5_dst FO6_dst FO7_dst FO8_dst FO9_dst FO10_dst FO11_dst]
      · isplitl [FO0_dst]
        · iexists g0; isplitr
          · ipureintro; exact hg0
          · iexact FO0_dst
        isplitl [FO1_dst]
        · iexists g1; isplitr
          · ipureintro; exact hg1
          · iexact FO1_dst
        isplitl [FO2_dst]
        · iexists g2; isplitr
          · ipureintro; exact hg2
          · iexact FO2_dst
        isplitl [FO3_dst]
        · iexists g3; isplitr
          · ipureintro; exact hg3
          · iexact FO3_dst
        isplitl [FO4_dst]
        · iexists g4; isplitr
          · ipureintro; exact hg4
          · iexact FO4_dst
        isplitl [FO5_dst]
        · iexists g5; isplitr
          · ipureintro; exact hg5
          · iexact FO5_dst
        isplitl [FO6_dst]
        · iexists g6; isplitr
          · ipureintro; exact hg6
          · iexact FO6_dst
        isplitl [FO7_dst]
        · iexists g7; isplitr
          · ipureintro; exact hg7
          · iexact FO7_dst
        isplitl [FO8_dst]
        · iexists g8; isplitr
          · ipureintro; exact hg8
          · iexact FO8_dst
        isplitl [FO9_dst]
        · iexists g9; isplitr
          · ipureintro; exact hg9
          · iexact FO9_dst
        isplitl [FO10_dst]
        · iexists g10; isplitr
          · ipureintro; exact hg10
          · iexact FO10_dst
        · iexists g11; isplitr
          · ipureintro; exact hg11
          · iexact FO11_dst
      iexact BR
    isplitl [FO0_src FO0 FO1_src FO1 FO2_src FO2 FO3_src FO3 FO4_src FO4 FO5_src FO5 FO6_src FO6 FO7_src FO7 FO8_src FO8 FO9_src FO9 FO10_src FO10 FO11_src FO11]
    · isplitl [FO0_src FO0]
      · isplitl [FO0_src]
        · iexists _; iexact FO0_src
        · iexact FO0
      isplitl [FO1_src FO1]
      · isplitl [FO1_src]
        · iexists _; iexact FO1_src
        · iexact FO1
      isplitl [FO2_src FO2]
      · isplitl [FO2_src]
        · iexists _; iexact FO2_src
        · iexact FO2
      isplitl [FO3_src FO3]
      · isplitl [FO3_src]
        · iexists _; iexact FO3_src
        · iexact FO3
      isplitl [FO4_src FO4]
      · isplitl [FO4_src]
        · iexists _; iexact FO4_src
        · iexact FO4
      isplitl [FO5_src FO5]
      · isplitl [FO5_src]
        · iexists _; iexact FO5_src
        · iexact FO5
      isplitl [FO6_src FO6]
      · isplitl [FO6_src]
        · iexists _; iexact FO6_src
        · iexact FO6
      isplitl [FO7_src FO7]
      · isplitl [FO7_src]
        · iexists _; iexact FO7_src
        · iexact FO7
      isplitl [FO8_src FO8]
      · isplitl [FO8_src]
        · iexists _; iexact FO8_src
        · iexact FO8
      isplitl [FO9_src FO9]
      · isplitl [FO9_src]
        · iexists _; iexact FO9_src
        · iexact FO9
      isplitl [FO10_src FO10]
      · isplitl [FO10_src]
        · iexists _; iexact FO10_src
        · iexact FO10
      · isplitl [FO11_src]
        · iexists _; iexact FO11_src
        · iexact FO11
    isplitl [CO0]
    · have q : trip_last.sl.dma28 c i W X k fo0 = logV W (xread c i X 0 k.val) := by
        unfold trip_last.sl.dma28 trip_last.sl.SO0_1
        rw [stored]
        exact pl0 W (taken _ _ _)
      iapply (gone_mk q) $$ CO0
    isplitl [CO1]
    · have q : trip_last.sl.dma28_1 c i W X k fo1 = logV W (xread c i X 1 k.val) := by
        unfold trip_last.sl.dma28_1 trip_last.sl.SO1_1
        rw [stored]
        exact pl1 W (taken _ _ _)
      iapply (gone_mk q) $$ CO1
    isplitl [CO2]
    · have q : trip_last.sl.dma28_2 c i W X k fo2 = logV W (xread c i X 2 k.val) := by
        unfold trip_last.sl.dma28_2 trip_last.sl.SO2_1
        rw [stored]
        exact pl2 W (taken _ _ _)
      iapply (gone_mk q) $$ CO2
    isplitl [CO3]
    · have q : trip_last.sl.dma28_3 c i W X k fo3 = logV W (xread c i X 3 k.val) := by
        unfold trip_last.sl.dma28_3 trip_last.sl.SO3_1
        rw [stored]
        exact pl3 W (taken _ _ _)
      iapply (gone_mk q) $$ CO3
    isplitl [CO4]
    · have q : trip_last.sl.dma28_4 c i W X k fo4 = wtV W (xread c i X 0 k.val) := by
        unfold trip_last.sl.dma28_4 trip_last.sl.SO4_1
        rw [stored]
        exact pw0 W (taken _ _ _)
      iapply (gone_mk q) $$ CO4
    isplitl [CO5]
    · have q : trip_last.sl.dma28_5 c i W X k fo5 = wtV W (xread c i X 1 k.val) := by
        unfold trip_last.sl.dma28_5 trip_last.sl.SO5_1
        rw [stored]
        exact pw1 W (taken _ _ _)
      iapply (gone_mk q) $$ CO5
    isplitl [CO6]
    · have q : trip_last.sl.dma28_6 c i W X k fo6 = wtV W (xread c i X 2 k.val) := by
        unfold trip_last.sl.dma28_6 trip_last.sl.SO6_1
        rw [stored]
        exact pw2 W (taken _ _ _)
      iapply (gone_mk q) $$ CO6
    isplitl [CO7]
    · have q : trip_last.sl.dma28_7 c i W X k fo7 = wtV W (xread c i X 3 k.val) := by
        unfold trip_last.sl.dma28_7 trip_last.sl.SO7_1
        rw [stored]
        exact pw3 W (taken _ _ _)
      iapply (gone_mk q) $$ CO7
    isplitl [CO8]
    · have q : trip_last.sl.dma28_8 c i W X k fo8 = exV W (xread c i X 0 k.val) := by
        unfold trip_last.sl.dma28_8 trip_last.sl.SO8_1
        rw [stored]
        exact pe0 W (taken _ _ _)
      iapply (gone_mk q) $$ CO8
    isplitl [CO9]
    · have q : trip_last.sl.dma28_9 c i W X k fo9 = exV W (xread c i X 1 k.val) := by
        unfold trip_last.sl.dma28_9 trip_last.sl.SO9_1
        rw [stored]
        exact pe1 W (taken _ _ _)
      iapply (gone_mk q) $$ CO9
    isplitl [CO10]
    · have q : trip_last.sl.dma28_10 c i W X k fo10 = exV W (xread c i X 2 k.val) := by
        unfold trip_last.sl.dma28_10 trip_last.sl.SO10_1
        rw [stored]
        exact pe2 W (taken _ _ _)
      iapply (gone_mk q) $$ CO10
    · have q : trip_last.sl.dma28_11 c i W X k fo11 = exV W (xread c i X 3 k.val) := by
        unfold trip_last.sl.dma28_11 trip_last.sl.SO11_1
        rw [stored]
        exact pe3 W (taken _ _ _)
      iapply (gone_mk q) $$ CO11

end Trip

end Cert.Proof.Trip

end
-- ==== Proof.Loop.lean ====
/-
  The pipelined loop: before trip `k` the words carried are those of step `k`, and what is held is `resAt k`.
-/
module

public import proofs.«01_k».proof.Proof.Trip
public import proofs.«01_k».proof.Proof.TripFirst
public import proofs.«01_k».proof.Proof.TripLast

@[expose] public section

set_option maxRecDepth 16384

noncomputable section

namespace Cert.Proof.Loop

open Cert.KernelIdeal Cert.KernelIdeal.Gen Cert.Proof.Words Cert.Proof.Held Cert.Proof.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]
local notation "𝕄" => MT nD τ sig Unit (Elt F) ℕ UU ℕ

variable (c : Dev nD) (i : grid0.Coords) (W : Vec F S8x1024 .f32)
  (X : Buf (Elt F) ((Memref.whole main_arg0 : Memref sig .tc .hbm S4x8192x1024 .f32).view.loc (c : Thread nD τ)))
  (v18 v52 v60 z65 o66 : BitVec 32)

/-- Before trip `k`. -/
def inv (k : ℕ) (acc : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32) : sProp 𝕄 :=
  iprop(⌜acc = accAt (min (k + 1) 8) k⌝ ∗ resAt c i W X k)

theorem trips_eq : k0_t1_loop.trips = 8 := by decide +kernel

/-- One trip keeps the invariant. -/
theorem step (k : Fin k0_t1_loop.trips) (acc) :
    inv c i W X k.val acc ⊢ wp frame (wpE (defs₀ (F := F)) 𝒱₀ (c : Thread nD τ) none) Set.univ
      (k0_t1_body (F := F) i (Memref.whole main_arg0) (Memref.isWhole_whole _) (Memref.whole main_arg1) (Memref.isWhole_whole _) (Memref.whole main_v0_0) (Memref.isWhole_whole _) (Memref.whole main_v0_1) (Memref.isWhole_whole _) (Memref.whole main_v0_2) (Memref.isWhole_whole _) (Memref.whole cc0_scratch0) (Memref.isWhole_whole _) cc0_scratch1 (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (Memref.whole cc0_scoped18) (Memref.isWhole_whole _) cc0_scoped19 (Memref.whole cc0_scoped20) (Memref.isWhole_whole _) cc0_scoped21 (Memref.whole cc0_scoped22) (Memref.isWhole_whole _) cc0_scoped23 (Memref.whole cc0_scoped24) (Memref.isWhole_whole _) cc0_scoped25 (Memref.whole cc0_scoped26) (Memref.isWhole_whole _) cc0_scoped27 (Memref.whole cc0_scoped28) (Memref.isWhole_whole _) cc0_scoped29 (Memref.whole cc0_scoped30) (Memref.isWhole_whole _) cc0_scoped31
        W (Scalar.muli (BitVec.ofNat 32 (i 0).val) 2#32) v18 v52 v60 z65 o66 k acc) (inv c i W X (k.val + 1)) := by
  have hk : k.val < 8 := trips_eq ▸ k.isLt
  unfold inv
  iintro ⟨%e, H⟩
  subst e
  rcases Nat.lt_or_ge k.val 7 with h7 | h7
  · rw [show min (k.val + 1) 8 = k.val + 1 by omega, show min (k.val + 1 + 1) 8 = k.val + 2 by omega]
    rcases Nat.eq_zero_or_pos k.val with h0 | h1
    · iapply (trip_first c i W X v18 v52 v60 z65 o66 k h0)
      iexact H
    · iapply (trip_mid c i W X v18 v52 v60 z65 o66 k h1 h7)
      iexact H
  · have h : k.val = 7 := by omega
    rw [show min (k.val + 1) 8 = k.val + 1 by omega, show min (k.val + 1 + 1) 8 = k.val + 1 by omega]
    iapply (trip_last c i W X v18 v52 v60 z65 o66 k h)
    iexact H

end Cert.Proof.Loop

end
-- ==== Proof.Body.lean ====
/-
  The kernel's body at one grid point: the weights are fetched, the first step's input copies start, the loop runs, and
  the last step's output copies are waited for.
-/
module

public import proofs.«01_k».proof.Proof.Loop

@[expose] public section

set_option maxRecDepth 16384

noncomputable section

namespace Cert.Proof.Body

open Cert.KernelIdeal Cert.KernelIdeal.Gen Cert.Proof.Words Cert.Proof.Held Cert.Proof.Moves Cert.Proof.Loop
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]
local notation "𝕄" => MT nD τ sig Unit (Elt F) ℕ UU ℕ

section Body
variable (c : Dev nD) (i : grid0.Coords)
  (X : Buf (Elt F) ((Memref.whole main_arg0 : Memref sig .tc .hbm S4x8192x1024 .f32).view.loc (c : Thread nD τ)))
  (fw : Buf (Elt F) ((Memref.whole main_arg1 : Memref sig .tc .hbm S8x1024 .f32).view.loc (c : Thread nD τ)))

/-- The weights the body works with. -/
abbrev wts : Vec F S8x1024 .f32 := (Memref.whole main_arg1 : Memref sig .tc .hbm S8x1024 .f32).view.read (Elt F) fw

/-- What the body uses and leaves as it found it, up to the contents of its scratch and slots. -/
def keep : sProp 𝕄 :=
  iprop((∃ O, owes (c : Thread nD τ) 0 O) ∗ heldP c (Memref.whole main_arg1) fw ∗ someP (F := F) c (Memref.whole cc0_scratch0)
    ∗ semVal ((c : Thread nD τ), SemLoc.dma cc0_scratch1.sem) 0
    ∗ bigSep (Finset.univ : Finset (Fin 8)) (fun u => homeI c i X u.val) ∗ (freeI (F := F) c 0 ∗ freeI (F := F) c 1)
    ∗ (freeO (F := F) c 0 ∗ freeO (F := F) c 1))

theorem home_first : bigSep (Finset.univ : Finset (Fin 8)) (fun u => homeI c i X u.val)
    = iprop(homeI c i X 0 ∗ bigSep (homeSet (NB := 8) 1 0) (fun u => homeI c i X u.val)) := by
  have e : (Finset.univ : Finset (Fin 8)) = insert 0 (homeSet (NB := 8) 1 0) := by decide +kernel
  rw [e, bigSep_insert (by decide +kernel)]; rfl
theorem ahead_first : bigSep (Finset.univ : Finset (Fin 8)) (fun u => aheadO (F := F) c i u.val)
    = iprop(aheadO c i 0 ∗ bigSep (aheadSet (NB := 8) (0 + 1)) (fun u => aheadO c i u.val)) := by
  have e : (Finset.univ : Finset (Fin 8)) = insert 0 (aheadSet (NB := 8) (0 + 1)) := by decide +kernel
  rw [e, bigSep_insert (by decide +kernel)]; rfl
theorem done_last (W : Vec F S8x1024 .f32) : bigSep (Finset.univ : Finset (Fin 8)) (fun u => doneO c i W X u.val)
    = iprop(doneO c i W X 7 ∗ bigSep (behindSet (NB := 8) 1 8) (fun u => doneO c i W X u.val)) := by
  have e : (Finset.univ : Finset (Fin 8)) = insert 7 (behindSet (NB := 8) 1 8) := by decide +kernel
  rw [e, bigSep_insert (by decide +kernel)]; rfl
theorem resI_end : resI c i X 8
    = iprop(bigSep (Finset.univ : Finset (Fin 8)) (fun u => homeI c i X u.val) ∗ freeI c 1 ∗ freeI c 0) := by
  unfold resI
  rw [if_neg (by decide), show homeSet (NB := 8) 1 8 = Finset.univ by decide +kernel]; rfl
theorem resO_end (W : Vec F S8x1024 .f32) : resO c i W X 8
    = iprop(bigSep (behindSet (NB := 8) 1 8) (fun u => doneO c i W X u.val) ∗ freeO c 0 ∗ goneO c i W X (sl 2 7) 7) := by
  unfold resO
  rw [AtB21_end' _ _ _ _ 8 rfl (by decide)]; rfl

set_option maxHeartbeats 0 in
theorem body_run :
    iprop(keep c i X fw ∗ bigSep (Finset.univ : Finset (Fin 8)) (fun u => aheadO (F := F) c i u.val))
    ⊢ wp frame (wpE (defs₀ (F := F)) 𝒱₀ (c : Thread nD τ) none) Set.univ
      (cc0__core_body (F := F) i (Memref.whole main_arg0) (Memref.isWhole_whole _) (Memref.whole main_arg1) (Memref.isWhole_whole _) (Memref.whole main_v0_0) (Memref.isWhole_whole _) (Memref.whole main_v0_1) (Memref.isWhole_whole _) (Memref.whole main_v0_2) (Memref.isWhole_whole _) (Memref.whole cc0_scratch0) (Memref.isWhole_whole _) cc0_scratch1 (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (Memref.whole cc0_scoped18) (Memref.isWhole_whole _) cc0_scoped19 (Memref.whole cc0_scoped20) (Memref.isWhole_whole _) cc0_scoped21 (Memref.whole cc0_scoped22) (Memref.isWhole_whole _) cc0_scoped23 (Memref.whole cc0_scoped24) (Memref.isWhole_whole _) cc0_scoped25 (Memref.whole cc0_scoped26) (Memref.isWhole_whole _) cc0_scoped27 (Memref.whole cc0_scoped28) (Memref.isWhole_whole _) cc0_scoped29 (Memref.whole cc0_scoped30) (Memref.isWhole_whole _) cc0_scoped31)
      (fun _ => iprop(keep c i X fw ∗ bigSep (Finset.univ : Finset (Fin 8)) (fun u => doneO c i (wts c fw) X u.val))) := by
    conv_lhs => unfold keep
    rw [home_first c i X, ahead_first c i]
    conv_lhs => rw [homeI, show freeI (F := F) c 0 = freeI c (sl 2 0) from rfl, freeI]
    iintro ⟨⟨⟨%O, HO⟩, HW, ⟨%f6, H6⟩, C6, ⟨⟨X0, X1, X2, X3⟩, XR⟩, ⟨⟨⟨⟨%fi0, SI0⟩, CI0⟩, ⟨⟨%fi1, SI1⟩, CI1⟩, ⟨⟨%fi2, SI2⟩, CI2⟩, ⟨⟨%fi3, SI3⟩, CI3⟩⟩, FI1⟩, FO0, FO1⟩, A0, AR⟩
    sl_unfold [cc0__core_body]
    sl_exec
    have e0 : body_run.sl.v0 c fw = wts c fw := by
      unfold body_run.sl.v0
      exact taken _ _ _
    sl_for (Loop.inv c i (body_run.sl.v0 c fw) X) $$ [HO XR CI0 CI1 CI2 CI3 FI1 FO0 FO1 A0 AR]
    case region =>
      intro k acc
      exact step c i _ X _ _ _ _ _ k acc
    · unfold Loop.inv resAt resI
      rw [resO_here_zero, if_pos (by decide)]
      isplitr
      · ipureintro; rfl
      isplitl [HO]
      · iexists _; iexact HO
      isplitl [XR CI0 CI1 CI2 CI3 FI1]
      · isplitl [XR]
        · iexact XR
        isplitl [FI1]
        · iexact FI1
        unfold comeI
        isplitl [CI0]
        · iexists _; iexact CI0
        isplitl [CI1]
        · iexists _; iexact CI1
        isplitl [CI2]
        · iexists _; iexact CI2
        · iexists _; iexact CI3
      isplitl [A0 AR]
      · iframe A0 AR
      isplitl [FO0]
      · iexact FO0
      · iexact FO1
    iintro %acc H
    have et : Scf.trips k0_t1_loop.lb k0_t1_loop.ub k0_t1_loop.st = 8 := trips_eq
    rw [et, e0]
    unfold Loop.inv resAt
    obtain ⟨z0, z1, z2, z3, z4, z5, z6, z7, z8, z9, z10, z11⟩ := checks_end
    have z12 := checks_last i
    ihave H := (entails_of_eq (congrArg (fun R => iprop(⌜acc = accAt (min (8 + 1) 8) 8⌝ ∗ (∃ O, owes (c : Thread nD τ) 0 O) ∗ R))
      (congrArg₂ (fun A B => iprop(A ∗ B)) (resI_end c i X) (resO_end c i X (wts c fw))))) $$ [H]
    · iexact H
    unfold goneO
    icases H with ⟨%e, ⟨%O', HO⟩, ⟨HH, FI1, FI0⟩, BD, FO0, ⟨%g0, %s0, %p0, G0⟩, ⟨%g1, %s1, %p1, G1⟩, ⟨%g2, %s2, %p2, G2⟩, ⟨%g3, %s3, %p3, G3⟩, ⟨%g4, %s4, %p4, G4⟩, ⟨%g5, %s5, %p5, G5⟩, ⟨%g6, %s6, %p6, G6⟩, ⟨%g7, %s7, %p7, G7⟩, ⟨%g8, %s8, %p8, G8⟩, ⟨%g9, %s9, %p9, G9⟩, ⟨%g10, %s10, %p10, G10⟩, ⟨%g11, %s11, %p11, G11⟩⟩
    subst e
    dsimp only [accAt, Nat.reduceSub, Nat.reduceAdd, Nat.reduceLeDiff, Nat.min_self]
    sl_exec
    sl_step
    unfold keep
    rw [done_last c i X (wts c fw)]
    isplitl [HO HW H6 C6 HH FI0 FI1 FO0 G0_src G0 G1_src G1 G2_src G2 G3_src G3 G4_src G4 G5_src G5 G6_src G6 G7_src G7 G8_src G8 G9_src G9 G10_src G10 G11_src G11]
    · isplitl [HO]
      · iexists _; iexact HO
      isplitl [HW]
      · iexact HW
      isplitl [H6]
      · iexists _; iexact H6
      isplitl [C6]
      · iexact C6
      isplitl [HH]
      · iexact HH
      isplitl [FI0 FI1]
      · iframe FI0 FI1
      isplitl [FO0]
      · iexact FO0
      irw [show freeO (F := F) c 1 = freeO c (sl 2 7) from rfl]
      unfold freeO
      isplitl [G0_src G0]
      · isplitl [G0_src]
        · iexists _; iexact G0_src
        · iexact G0
      isplitl [G1_src G1]
      · isplitl [G1_src]
        · iexists _; iexact G1_src
        · iexact G1
      isplitl [G2_src G2]
      · isplitl [G2_src]
        · iexists _; iexact G2_src
        · iexact G2
      isplitl [G3_src G3]
      · isplitl [G3_src]
        · iexists _; iexact G3_src
        · iexact G3
      isplitl [G4_src G4]
      · isplitl [G4_src]
        · iexists _; iexact G4_src
        · iexact G4
      isplitl [G5_src G5]
      · isplitl [G5_src]
        · iexists _; iexact G5_src
        · iexact G5
      isplitl [G6_src G6]
      · isplitl [G6_src]
        · iexists _; iexact G6_src
        · iexact G6
      isplitl [G7_src G7]
      · isplitl [G7_src]
        · iexists _; iexact G7_src
        · iexact G7
      isplitl [G8_src G8]
      · isplitl [G8_src]
        · iexists _; iexact G8_src
        · iexact G8
      isplitl [G9_src G9]
      · isplitl [G9_src]
        · iexists _; iexact G9_src
        · iexact G9
      isplitl [G10_src G10]
      · isplitl [G10_src]
        · iexists _; iexact G10_src
        · iexact G10
      · isplitl [G11_src]
        · iexists _; iexact G11_src
        · iexact G11
    unfold doneO
    isplitr [BD]
    · isplitl [G0_dst]
      · iexists _; isplitr; · ipureintro; exact p0
        iexact G0_dst
      isplitl [G1_dst]
      · iexists _; isplitr; · ipureintro; exact p1
        iexact G1_dst
      isplitl [G2_dst]
      · iexists _; isplitr; · ipureintro; exact p2
        iexact G2_dst
      isplitl [G3_dst]
      · iexists _; isplitr; · ipureintro; exact p3
        iexact G3_dst
      isplitl [G4_dst]
      · iexists _; isplitr; · ipureintro; exact p4
        iexact G4_dst
      isplitl [G5_dst]
      · iexists _; isplitr; · ipureintro; exact p5
        iexact G5_dst
      isplitl [G6_dst]
      · iexists _; isplitr; · ipureintro; exact p6
        iexact G6_dst
      isplitl [G7_dst]
      · iexists _; isplitr; · ipureintro; exact p7
        iexact G7_dst
      isplitl [G8_dst]
      · iexists _; isplitr; · ipureintro; exact p8
        iexact G8_dst
      isplitl [G9_dst]
      · iexists _; isplitr; · ipureintro; exact p9
        iexact G9_dst
      isplitl [G10_dst]
      · iexists _; isplitr; · ipureintro; exact p10
        iexact G10_dst
      · iexists _; isplitr; · ipureintro; exact p11
        iexact G11_dst
    · iexact BD

end Body

end Cert.Proof.Body

end
-- ==== Proof.Launch.lean ====
/-
  The launch: the two grid points in order, the arrays they share, and what the results hold at the end.
-/
module

public import proofs.«01_k».proof.Proof.Rings
public import proofs.«01_k».proof.Proof.Body

@[expose] public section

set_option maxRecDepth 16384

noncomputable section

namespace Cert.Proof.Launch

open Cert.KernelIdeal Cert.KernelIdeal.Gen Cert.Proof.Words Cert.Proof.Held Cert.Proof.Split Cert.Proof.Rings Cert.Proof.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-! ## What the three output arrays hold at the end -/

section Target
variable (c : Dev nD) (X : Buf (Elt F) ((c : Thread nD τ).loc main_arg0)) (W : Vec F S8x1024 .f32)

/-- The block of tokens holding token `n` of batch `b`. -/
def blkOf (b : Fin 4) (n : Fin 8192) : Vec F S1x512x1024 .f32 :=
  (xblk (Memref.whole main_arg0) b ⟨n.val / 512, by have := n.isLt; omega⟩).view.read (Elt F) X
/-- Token `n`'s place in its block. -/
def inB (n : Fin 8192) : Fin 512 := ⟨n.val % 512, Nat.mod_lt _ (by decide)⟩

/-- An index by its three coordinates. -/
abbrev i8b (e : Fin 8) (n : Fin 512) : S1x8x512.Idx := fun | 0 => (0 : Fin 1) | 1 => e | 2 => n
abbrev i2b (e : Fin 2) (n : Fin 512) : S1x2x512.Idx := fun | 0 => (0 : Fin 1) | 1 => e | 2 => n
abbrev i8a (b : Fin 4) (e : Fin 8) (n : Fin 8192) : S4x8x8192.Idx := fun | 0 => b | 1 => e | 2 => n
abbrev i2a (b : Fin 4) (e : Fin 2) (n : Fin 8192) : S4x2x8192.Idx := fun | 0 => b | 1 => e | 2 => n

def GL : Buf (Elt F) ((c : Thread nD τ).loc main_v0_0) := fun (y : S4x8x8192.Idx) =>
  logV W (blkOf c X (y 0) (y 2)) (i8b (y 1) (inB (y 2)))
def GW : Buf (Elt F) ((c : Thread nD τ).loc main_v0_1) := fun (y : S4x2x8192.Idx) =>
  wtV W (blkOf c X (y 0) (y 2)) (i2b (y 1) (inB (y 2)))
def GE : Buf (Elt F) ((c : Thread nD τ).loc main_v0_2) := fun (y : S4x2x8192.Idx) =>
  exV W (blkOf c X (y 0) (y 2)) (i2b (y 1) (inB (y 2)))

/-- A block read at its own place in an array that is given block by block. -/
theorem blk_coords (b : Fin 4) (q : Fin 16) (z2 : Fin 512) (h : 512 * q.val + z2.val < 8192) :
    blkOf c X b ⟨512 * q.val + z2.val, h⟩ = (xblk (Memref.whole main_arg0) b q).view.read (Elt F) X ∧ inB ⟨512 * q.val + z2.val, h⟩ = z2 := by
  have e : (⟨(512 * q.val + z2.val) / 512, by omega⟩ : Fin 16) = q := Fin.ext (by have := z2.isLt; show (512 * q.val + z2.val) / 512 = _; omega)
  refine ⟨?_, Fin.ext (by have := z2.isLt; show (512 * q.val + z2.val) % 512 = _; omega)⟩
  unfold blkOf
  rw [e]

theorem GL_read (b : Fin 4) (q : Fin 16) :
    (lblk (Memref.whole main_v0_0 : Memref sig .tc .hbm S4x8x8192 .f32) b q).view.read (Elt F) (GL c X W) = logV W ((xblk (Memref.whole main_arg0) b q).view.read (Elt F) X) := by
  funext z
  have h2 : (z 2).val < 512 := (z 2).isLt
  have hq : 512 * q.val + (z 2).val < 8192 := by have := q.isLt; omega
  obtain ⟨e1, e2⟩ := blk_coords c X b q (z 2) hq
  have em : (lblk (Memref.whole main_v0_0 : Memref sig .tc .hbm S4x8x8192 .f32) b q).view.emb z = (i8a b (z 1) ⟨512 * q.val + (z 2).val, hq⟩) := by
    funext a
    apply Fin.ext
    fin_cases a
    · show b.val + 1 * (z 0).val = b.val
      have : (z 0).val < 1 := (z 0).isLt
      omega
    · show 0 + 1 * (z 1).val = (z 1).val
      omega
    · show 512 * q.val + 1 * (z 2).val = 512 * q.val + (z 2).val
      omega
  refine (View.read_apply ..).trans ((congrArg (GL c X W) em).trans ?_)
  show logV W (blkOf c X b ⟨512 * q.val + (z 2).val, hq⟩) (i8b (z 1) (inB ⟨512 * q.val + (z 2).val, hq⟩)) = _
  rw [e1, e2]
  congr 1
  funext a
  fin_cases a
  · exact Fin.ext (by have : (z 0).val < 1 := (z 0).isLt; show 0 = (z 0).val; omega)
  · rfl
  · rfl

theorem GW_read (b : Fin 4) (q : Fin 16) :
    (wblk (Memref.whole main_v0_1 : Memref sig .tc .hbm S4x2x8192 .f32) b q).view.read (Elt F) (GW c X W) = wtV W ((xblk (Memref.whole main_arg0) b q).view.read (Elt F) X) := by
  funext z
  have h2 : (z 2).val < 512 := (z 2).isLt
  have hq : 512 * q.val + (z 2).val < 8192 := by have := q.isLt; omega
  obtain ⟨e1, e2⟩ := blk_coords c X b q (z 2) hq
  have em : (wblk (Memref.whole main_v0_1 : Memref sig .tc .hbm S4x2x8192 .f32) b q).view.emb z = (i2a b (z 1) ⟨512 * q.val + (z 2).val, hq⟩) := by
    funext a
    apply Fin.ext
    fin_cases a
    · show b.val + 1 * (z 0).val = b.val
      have : (z 0).val < 1 := (z 0).isLt
      omega
    · show 0 + 1 * (z 1).val = (z 1).val
      omega
    · show 512 * q.val + 1 * (z 2).val = 512 * q.val + (z 2).val
      omega
  refine (View.read_apply ..).trans ((congrArg (GW c X W) em).trans ?_)
  show wtV W (blkOf c X b ⟨512 * q.val + (z 2).val, hq⟩) (i2b (z 1) (inB ⟨512 * q.val + (z 2).val, hq⟩)) = _
  rw [e1, e2]
  congr 1
  funext a
  fin_cases a
  · exact Fin.ext (by have : (z 0).val < 1 := (z 0).isLt; show 0 = (z 0).val; omega)
  · rfl
  · rfl

theorem GE_read (b : Fin 4) (q : Fin 16) :
    (wblk (Memref.whole main_v0_2 : Memref sig .tc .hbm S4x2x8192 .i32) b q).view.read (Elt F) (GE c X W) = exV W ((xblk (Memref.whole main_arg0) b q).view.read (Elt F) X) := by
  funext z
  have h2 : (z 2).val < 512 := (z 2).isLt
  have hq : 512 * q.val + (z 2).val < 8192 := by have := q.isLt; omega
  obtain ⟨e1, e2⟩ := blk_coords c X b q (z 2) hq
  have em : (wblk (Memref.whole main_v0_2 : Memref sig .tc .hbm S4x2x8192 .i32) b q).view.emb z = (i2a b (z 1) ⟨512 * q.val + (z 2).val, hq⟩) := by
    funext a
    apply Fin.ext
    fin_cases a
    · show b.val + 1 * (z 0).val = b.val
      have : (z 0).val < 1 := (z 0).isLt
      omega
    · show 0 + 1 * (z 1).val = (z 1).val
      omega
    · show 512 * q.val + 1 * (z 2).val = 512 * q.val + (z 2).val
      omega
  refine (View.read_apply ..).trans ((congrArg (GE c X W) em).trans ?_)
  show exV W (blkOf c X b ⟨512 * q.val + (z 2).val, hq⟩) (i2b (z 1) (inB ⟨512 * q.val + (z 2).val, hq⟩)) = _
  rw [e1, e2]
  congr 1
  funext a
  fin_cases a
  · exact Fin.ext (by have : (z 0).val < 1 := (z 0).isLt; show 0 = (z 0).val; omega)
  · rfl
  · rfl

theorem GL_done (i : grid0.Coords) (k : Fin 4) (n : ℕ) :
    doneP c (lblk (Memref.whole main_v0_0) (stB i n) (stQ k n)) (logV W (xread c i X k n))
      ⊢ (heldP c (lblk (Memref.whole main_v0_0) (stB i n) (stQ k n)) (GL c X W) : sProp 𝕄) :=
  done_held (c := c) (B := lblk (Memref.whole main_v0_0) (stB i n) (stQ k n)) (P := logV W (xread c i X k n)) (G := GL c X W) (GL_read c X W (stB i n) (stQ k n))

theorem GW_done (i : grid0.Coords) (k : Fin 4) (n : ℕ) :
    doneP c (wblk (Memref.whole main_v0_1) (stB i n) (stQ k n)) (wtV W (xread c i X k n))
      ⊢ (heldP c (wblk (Memref.whole main_v0_1) (stB i n) (stQ k n)) (GW c X W) : sProp 𝕄) :=
  done_held (c := c) (B := wblk (Memref.whole main_v0_1) (stB i n) (stQ k n)) (P := wtV W (xread c i X k n)) (G := GW c X W) (GW_read c X W (stB i n) (stQ k n))

theorem GE_done (i : grid0.Coords) (k : Fin 4) (n : ℕ) :
    doneP c (wblk (Memref.whole main_v0_2) (stB i n) (stQ k n)) (exV W (xread c i X k n))
      ⊢ (heldP c (wblk (Memref.whole main_v0_2) (stB i n) (stQ k n)) (GE c X W) : sProp 𝕄) :=
  done_held (c := c) (B := wblk (Memref.whole main_v0_2) (stB i n) (stQ k n)) (P := exV W (xread c i X k n)) (G := GE c X W) (GE_read c X W (stB i n) (stQ k n))

/-- A written step's blocks, held at the final arrays. -/
theorem done_at (a : Fin 2) (n : ℕ) : doneO c (co a) W X n ⊢ atO c a (GL c X W) (GW c X W) (GE c X W) n := by
  unfold doneO atO
  iintro ⟨D0, D1, D2, D3, D4, D5, D6, D7, D8, D9, D10, D11⟩
  ihave D0' := (GL_done c X W (co a) 0 n) $$ D0
  ihave D1' := (GL_done c X W (co a) 1 n) $$ D1
  ihave D2' := (GL_done c X W (co a) 2 n) $$ D2
  ihave D3' := (GL_done c X W (co a) 3 n) $$ D3
  ihave D4' := (GW_done c X W (co a) 0 n) $$ D4
  ihave D5' := (GW_done c X W (co a) 1 n) $$ D5
  ihave D6' := (GW_done c X W (co a) 2 n) $$ D6
  ihave D7' := (GW_done c X W (co a) 3 n) $$ D7
  ihave D8' := (GE_done c X W (co a) 0 n) $$ D8
  ihave D9' := (GE_done c X W (co a) 1 n) $$ D9
  ihave D10' := (GE_done c X W (co a) 2 n) $$ D10
  ihave D11' := (GE_done c X W (co a) 3 n) $$ D11
  iframe D0' D1' D2' D3' D4' D5' D6' D7' D8' D9' D10' D11'

end Target

/-! ## Between the grid points -/

section Between
variable (c : Dev nD) (X : Buf (Elt F) ((c : Thread nD τ).loc main_arg0)) (fw : Buf (Elt F) ((c : Thread nD τ).loc main_arg1))

abbrev homes (a : Fin 2) : sProp 𝕄 := bigSep (Finset.univ : Finset (Fin 8)) fun u => homeI c (co a) X u.val
abbrev aheads (a : Fin 2) : sProp 𝕄 := bigSep (Finset.univ : Finset (Fin 8)) fun u => aheadO (F := F) c (co a) u.val
abbrev dones (a : Fin 2) : sProp 𝕄 := bigSep (Finset.univ : Finset (Fin 8)) fun u => doneO c (co a) (wts c fw) X u.val

/-- What is held before point `t`: the outputs of the points before it written. -/
def held (t : ℕ) : sProp 𝕄 :=
  iprop((heldP c (Memref.whole main_arg1) fw ∗ bufP (F := F) c cc0_scratch0 ∗ semVal ((c : Thread nD τ), SemLoc.dma cc0_scratch1.sem) 0 ∗ frees (F := F) c)
    ∗ (homes c X 0 ∗ homes c X 1) ∗ (if t = 0 then aheads (F := F) c 0 else dones c X fw 0) ∗ (if t ≤ 1 then aheads (F := F) c 1 else dones c X fw 1))

theorem held_0 : held c X fw 0 = iprop((heldP c (Memref.whole main_arg1) fw ∗ bufP (F := F) c cc0_scratch0 ∗ semVal ((c : Thread nD τ), SemLoc.dma cc0_scratch1.sem) 0 ∗ frees (F := F) c)
    ∗ (homes c X 0 ∗ homes c X 1) ∗ aheads (F := F) c 0 ∗ aheads (F := F) c 1) := rfl
theorem held_1 : held c X fw 1 = iprop((heldP c (Memref.whole main_arg1) fw ∗ bufP (F := F) c cc0_scratch0 ∗ semVal ((c : Thread nD τ), SemLoc.dma cc0_scratch1.sem) 0 ∗ frees (F := F) c)
    ∗ (homes c X 0 ∗ homes c X 1) ∗ dones c X fw 0 ∗ aheads (F := F) c 1) := rfl
theorem held_2 : held c X fw 2 = iprop((heldP c (Memref.whole main_arg1) fw ∗ bufP (F := F) c cc0_scratch0 ∗ semVal ((c : Thread nD τ), SemLoc.dma cc0_scratch1.sem) 0 ∗ frees (F := F) c)
    ∗ (homes c X 0 ∗ homes c X 1) ∗ dones c X fw 0 ∗ dones c X fw 1) := rfl

omit [FloatOps F] in
theorem whole_eq (r : Ref sig .tc) (f : Buf (Elt F) ((c : Thread nD τ).loc r)) :
    ((Memref.whole r).view.loc (c : Thread nD τ) ↦[(Memref.whole r).view.set]{fullShare} f : sProp 𝕄) = (((c : Thread nD τ).loc r) ↦{fullShare} f) := by
  rw [show (Memref.whole r : Memref sig .tc _ _ _).view.set = Finset.univ from View.set_whole r]

/-- What a point uses, out of what is held and back. -/
theorem keep_in (i : grid0.Coords) (O : Waits sig Unit) :
    iprop(owes (c : Thread nD τ) 0 O ∗ (heldP c (Memref.whole main_arg1) fw ∗ bufP (F := F) c cc0_scratch0 ∗ semVal ((c : Thread nD τ), SemLoc.dma cc0_scratch1.sem) 0 ∗ frees (F := F) c)
      ∗ bigSep (Finset.univ : Finset (Fin 8)) (fun u => homeI c i X u.val)) ⊢ keep c i X fw := by
  unfold keep frees
  iintro ⟨HO, ⟨HW, ⟨%f, HS⟩, HC, HI, HF⟩, HH⟩
  isplitl [HO]
  · iexists _; iexact HO
  isplitl [HW]
  · iexact HW
  isplitl [HS]
  · iexists f; iapply (entails_of_eq (whole_eq c cc0_scratch0 f).symm); iexact HS
  iframe HC HH HI HF
theorem keep_out (i : grid0.Coords) :
    keep c i X fw ⊢ iprop((∃ O, owes (c : Thread nD τ) 0 O) ∗ (heldP c (Memref.whole main_arg1) fw ∗ bufP (F := F) c cc0_scratch0 ∗ semVal ((c : Thread nD τ), SemLoc.dma cc0_scratch1.sem) 0 ∗ frees (F := F) c)
      ∗ bigSep (Finset.univ : Finset (Fin 8)) (fun u => homeI c i X u.val)) := by
  unfold keep frees
  iintro ⟨HO, HW, ⟨%f, HS⟩, HC, HH, HI, HF⟩
  isplitl [HO]
  · iexact HO
  isplitr [HH]
  · isplitl [HW]
    · iexact HW
    isplitl [HS]
    · iexists f; iapply (entails_of_eq (whole_eq c cc0_scratch0 f)); iexact HS
    iframe HC HI HF
  · iexact HH

end Between

/-! ## The pipeline's data -/

section Run
variable (m : (ℓ : Loc nD τ sig) → Buf (Elt F) ℓ) (ρ : Dev nD → PrngReg)

abbrev XA (c : Dev nD) : Buf (Elt F) ((c : Thread nD τ).loc main_arg0) := m ((c : Thread nD τ).loc main_arg0)
abbrev WA (c : Dev nD) : Buf (Elt F) ((c : Thread nD τ).loc main_arg1) := m ((c : Thread nD τ).loc main_arg1)

def dats (_ : Fin 1) (c : Dev nD) : Pipeline.Dat τ (Elt F) Unit ℕ UU ℕ cfg0 c where
  A w := w.elim0
  after w _ := w.elim0
  Φ t := held c (XA m c) (WA m c) t.val
  q _ := fullShare
  owed _ := 0

theorem defs_tc : (defs₀ (F := F)) .tc cfg0.body = fun a => bodyAt0 a.1 := rfl
theorem prog_eq (t : Fin cfg0.N) : (defs₀ (F := F)) .tc cfg0.body (cfg0.bodyArgs t (cfg0.slots t)) = bodyAt0 t :=
  (congrFun defs_tc _).trans rfl

/-- One grid point's run, continued. -/
theorem point_run (c : Dev nD) (X : Buf (Elt F) ((c : Thread nD τ).loc main_arg0)) (fw : Buf (Elt F) ((c : Thread nD τ).loc main_arg1)) (a : Fin 2) (Q : PUnit → sProp 𝕄) :
    iprop((keep c (co a) X fw ∗ aheads (F := F) c a) ∗ (∀ x, iprop(keep c (co a) X fw ∗ dones c X fw a) -∗ Q x))
      ⊢ wp frame (wpE (defs₀ (F := F)) 𝒱₀ (c : Thread nD τ) none) Set.univ (bodyAt0 (a.cast N_0.symm)) Q :=
  (sep_mono (body_run c (co a) X fw) .rfl).trans (wp_wand_r _ _ _)

set_option backward.isDefEq.respectTransparency.types false in
theorem body_obligation (c : Dev nD) : Pipeline.BodyObligation (dats (F := F) m 0 c) (defs₀ (F := F)) 𝒱₀ () Set.univ := fun t => by
  rw [show (dats m 0 c).Φ t.castSucc = held c (XA m c) (WA m c) t.val from rfl, show (dats m 0 c).Φ t.succ = held c (XA m c) (WA m c) (t.val + 1) from rfl]
  unfold Pipeline.Dat.owesAt Pipeline.owesWithin
  rw [show (dats m 0 c).owed t.castSucc = 0 from rfl, show (dats m 0 c).owed t.succ = 0 from rfl]
  sl_rw [prog_eq t]
  iintro ⟨H, ⟨%O, -, HO⟩, HE⟩
  rcases fin_N0 t with rfl | rfl
  · rw [show (t0_0 : Fin grid0.N).val = 0 from rfl]
    ihave H' := (entails_of_eq (held_0 c (XA m c) (WA m c))) $$ H
    icases H' with ⟨HK, ⟨HH0, HH1⟩, HA0, HA1⟩
    iapply (point_run c (XA m c) (WA m c) 0 _)
    isplitl [HO HK HH0 HA0]
    · isplitl [HO HK HH0]
      · iapply (keep_in c (XA m c) (WA m c) (co 0) O)
        iframe HO HK HH0
      · iexact HA0
    · iintro %_ ⟨HK, HD⟩
      ihave HK' := (keep_out c (XA m c) (WA m c) (co 0)) $$ HK
      icases HK' with ⟨⟨%O', HO⟩, HK, HH0⟩
      isplitl [HK HH0 HH1 HD HA1]
      · iapply (entails_of_eq (held_1 c (XA m c) (WA m c)).symm)
        isplitl [HK]
        · iexact HK
        isplitl [HH0 HH1]
        · iframe HH0 HH1
        iframe HD HA1
      isplitl [HO]
      · iexists O'; isplitr
        · ipureintro; exact fun _ _ => Or.inl trivial
        iexact HO
      iexact HE
  · rw [show (t0_1 : Fin grid0.N).val = 1 from rfl]
    ihave H' := (entails_of_eq (held_1 c (XA m c) (WA m c))) $$ H
    icases H' with ⟨HK, ⟨HH0, HH1⟩, HA0, HA1⟩
    iapply (point_run c (XA m c) (WA m c) 1 _)
    isplitl [HO HK HH1 HA1]
    · isplitl [HO HK HH1]
      · iapply (keep_in c (XA m c) (WA m c) (co 1) O)
        iframe HO HK HH1
      · iexact HA1
    · iintro %_ ⟨HK, HD⟩
      ihave HK' := (keep_out c (XA m c) (WA m c) (co 1)) $$ HK
      icases HK' with ⟨⟨%O', HO⟩, HK, HH1⟩
      isplitl [HK HH0 HH1 HD HA0]
      · iapply (entails_of_eq (held_2 c (XA m c) (WA m c)).symm)
        isplitl [HK]
        · iexact HK
        isplitl [HH0 HH1]
        · iframe HH0 HH1
        iframe HD HA0
      isplitl [HO]
      · iexists O'; isplitr
        · ipureintro; exact fun _ _ => Or.inl trivial
        iexact HO
      iexact HE

/-! ## The run -/

abbrev GG (c : Dev nD) (b : Ref sig .tc) : Buf (Elt F) ((c : Thread nD τ).loc b) :=
  if h0 : b = main_v0_0 then h0 ▸ GL c (XA m c) (wts c (WA m c))
  else if h1 : b = main_v0_1 then h1 ▸ GW c (XA m c) (wts c (WA m c))
  else if h2 : b = main_v0_2 then h2 ▸ GE c (XA m c) (wts c (WA m c))
  else V m c b
theorem GG_0 (c : Dev nD) : GG m c main_v0_0 = GL c (XA m c) (wts c (WA m c)) := rfl
theorem GG_1 (c : Dev nD) : GG m c main_v0_1 = GW c (XA m c) (wts c (WA m c)) := rfl
theorem GG_2 (c : Dev nD) : GG m c main_v0_2 = GE c (XA m c) (wts c (WA m c)) := rfl

abbrev heldRefs : Finset (Ref sig .tc) := {main_arg0, main_arg1}
abbrev outRefs : Finset (Ref sig .tc) := {main_v0_0, main_v0_1, main_v0_2}

omit [FloatOps F] in
theorem heldRefs_eq (c : Dev nD) (f : (b : Ref sig .tc) → Buf (Elt F) ((c : Thread nD τ).loc b)) :
    (bigSep heldRefs (fun b => (((c : Thread nD τ).loc b) ↦{fullShare} f b)) : sProp 𝕄)
      = iprop((((c : Thread nD τ).loc main_arg0) ↦{fullShare} f main_arg0) ∗ (((c : Thread nD τ).loc main_arg1) ↦{fullShare} f main_arg1)) := by
  rw [bigSep_insert (by decide), bigSep_singleton]; rfl
omit [FloatOps F] in
theorem outRefs_eq (c : Dev nD) (f : (b : Ref sig .tc) → Buf (Elt F) ((c : Thread nD τ).loc b)) :
    (bigSep outRefs (fun b => (((c : Thread nD τ).loc b) ↦{fullShare} f b)) : sProp 𝕄)
      = iprop((((c : Thread nD τ).loc main_v0_0) ↦{fullShare} f main_v0_0) ∗ (((c : Thread nD τ).loc main_v0_1) ↦{fullShare} f main_v0_1) ∗ (((c : Thread nD τ).loc main_v0_2) ↦{fullShare} f main_v0_2)) := by
  rw [bigSep_insert (by decide), bigSep_insert (by decide), bigSep_singleton]; rfl

theorem whole_held (c : Dev nD) (r : Ref sig .tc) (f : Buf (Elt F) ((c : Thread nD τ).loc r)) :
    (((c : Thread nD τ).loc r) ↦{fullShare} f) ⊢ (heldP c (Memref.whole r) f : sProp 𝕄) := entails_of_eq (whole_eq c r f).symm
theorem held_whole (c : Dev nD) (r : Ref sig .tc) (f : Buf (Elt F) ((c : Thread nD τ).loc r)) :
    (heldP c (Memref.whole r) f : sProp 𝕄) ⊢ (((c : Thread nD τ).loc r) ↦{fullShare} f) := entails_of_eq (whole_eq c r f)

/-- At the launch, everything the first point starts from. -/
theorem held_in (c : Dev nD) :
    Pipeline.ΦDRV osem (cfg0.spec) heldRefs outRefs (fun c b => V m c b) (fun c b => V m c b) c ⊢ held c (XA m c) (WA m c) 0 := by
  unfold Pipeline.ΦDRV
  rw [heldRefs_eq, outRefs_eq, held_0]
  iintro ⟨HS, HO, ⟨HX, HW⟩, HOUT⟩
  ihave HR := (rest_eq (F := F) c).1 $$ [HS HO]
  · iframe HS HO
  icases HR with ⟨⟨HB, HC⟩, HF⟩
  ihave HX' := (entails_of_eq (home_eq c (V m c main_arg0))) $$ HX
  ihave HW' := (whole_held c main_arg1 (V m c main_arg1)) $$ HW
  ihave HA := ((out_eq c (V m c main_v0_0) (V m c main_v0_1) (V m c main_v0_2)).1.trans
    (BI.sep_mono (bigSep_mono fun u _ => ahead_of c 0 _ _ _ u.val) (bigSep_mono fun u _ => ahead_of c 1 _ _ _ u.val))) $$ HOUT
  isplitl [HW' HB HC HF]
  · isplitl [HW']
    · iexact HW'
    iframe HB HC HF
  isplitl [HX']
  · iexact HX'
  iexact HA

/-- Every step written: the three output arrays whole, at the final arrays. -/
theorem outs_back (c : Dev nD) :
    iprop(dones c (XA m c) (WA m c) 0 ∗ dones c (XA m c) (WA m c) 1) ⊢ (iprop((((c : Thread nD τ).loc main_v0_0) ↦{fullShare} GL c (XA m c) (wts c (WA m c)))
      ∗ (((c : Thread nD τ).loc main_v0_1) ↦{fullShare} GW c (XA m c) (wts c (WA m c))) ∗ (((c : Thread nD τ).loc main_v0_2) ↦{fullShare} GE c (XA m c) (wts c (WA m c)))) : sProp 𝕄) :=
  (BIClass.sep_mono (bigSep_mono fun u _ => done_at c (XA m c) (wts c (WA m c)) 0 u.val) (bigSep_mono fun u _ => done_at c (XA m c) (wts c (WA m c)) 1 u.val)).trans
    (out_eq c (GL c (XA m c) (wts c (WA m c))) (GW c (XA m c) (wts c (WA m c))) (GE c (XA m c) (wts c (WA m c)))).2

/-- After the last point, everything given back, the outputs at the final arrays. -/
theorem held_out (c : Dev nD) :
    held c (XA m c) (WA m c) 2 ⊢ Pipeline.ΦDRV osem (cfg0.spec) heldRefs outRefs (fun c b => V m c b) (GG m) c := by
  unfold Pipeline.ΦDRV
  rw [heldRefs_eq, outRefs_eq, held_2, GG_0, GG_1, GG_2]
  iintro ⟨⟨HW, HB, HC, HF⟩, HX, HD0, HD1⟩
  ihave HR := (rest_eq (F := F) c).2 $$ [HB HC HF]
  · isplitl [HB HC]
    · iframe HB HC
    · iexact HF
  icases HR with ⟨HS, HO⟩
  ihave HX' := (entails_of_eq (home_eq c (XA m c)).symm) $$ HX
  ihave HW' := (held_whole c main_arg1 (WA m c)) $$ HW
  ihave HA := (outs_back m c) $$ [HD0 HD1]
  · iframe HD0 HD1
  iframe HS HO
  isplitl [HX' HW']
  · iframe HX' HW'
  iexact HA

/-- What the run leaves: both arguments as they were, the three results, every semaphore at zero. -/
def Post (r : PUnit × MemSt nD τ sig (Elt F)) : Prop :=
  (∀ c : Dev nD, (r.2.mem ((c : Thread nD τ).loc main_arg0) = m ((c : Thread nD τ).loc main_arg0) ∧ r.2.mem ((c : Thread nD τ).loc main_arg1) = m ((c : Thread nD τ).loc main_arg1))
    ∧ r.2.mem ((c : Thread nD τ).loc main_v1) = transpose (s := S4x2x8192) S4x8192x2 [0, 2, 1] (GW c (XA m c) (wts c (WA m c))) transposes_S4x2x8192_S4x8192x2_0_2_1
    ∧ r.2.mem ((c : Thread nD τ).loc main_v2) = transpose (s := S4x2x8192) S4x8192x2 [0, 2, 1] (GE c (XA m c) (wts c (WA m c))) transposes_S4x2x8192_S4x8192x2_0_2_1
    ∧ r.2.mem ((c : Thread nD τ).loc main_v3) = transpose (s := S4x8x8192) S4x8192x8 [0, 2, 1] (GL c (XA m c) (wts c (WA m c))) transposes_S4x8x8192_S4x8192x8_0_2_1)
  ∧ r.2.sem = fun _ => 0

/-- What the host lines start from. -/
abbrev VB (c : Dev nD) : Valuation τ sig (Elt F) :=
  Pipeline.withArrays (cfg0.spec) c (Pipeline.withR (V0 m c) outRefs c (GG m c)) fun w => (dats m 0 c).arrAt w cfg0.N

theorem VB_ref (c : Dev nD) (b : Ref sig .tc) : VB m c (Proc.devRef .tc b) = Pipeline.withR (V0 m c) outRefs c (GG m c) (Proc.devRef .tc b) :=
  Pipeline.withArrays_of_ne _ c _ _ b (fun w => w.elim0)
theorem VB_out (c : Dev nD) (b : Ref sig .tc) (h : b ∈ outRefs) : VB m c (Proc.devRef .tc b) = GG m c b :=
  (VB_ref m c b).trans (Pipeline.withR_of_mem (V0 m c) outRefs c (GG m c) b h)

theorem after_arg (c : Dev nD) (b : Ref sig .tc) (h1 : b ≠ main_v1) (h2 : b ≠ main_v2) (h3 : b ≠ main_v3) (ho : b ∉ outRefs) :
    StableHlo.after ([hostOps1 (F := F)] : List (List (HloOp τ sig (Elt F)))).flatten (VB m c) (Proc.devRef .tc b) = m ((c : Thread nD τ).loc b) := by
  rw [StableHlo.after_of_forall_not_mem (b := Proc.devRef .tc b) _ _ (List.forall_iff_forall_mem.mp (by
      simp only [hostOps1, List.flatten_cons, List.flatten_nil, List.append_nil, List.Forall, StableHlo.unary_writes, Finset.mem_singleton]
      exact ⟨StableHlo.devRef_ne_of_ne h1, StableHlo.devRef_ne_of_ne h2, StableHlo.devRef_ne_of_ne h3⟩)), VB_ref,
    Pipeline.withR_of_not_mem (V0 m c) outRefs c (GG m c) b ho]
  rfl

theorem after_v1 (c : Dev nD) :
    StableHlo.after ([hostOps1 (F := F)] : List (List (HloOp τ sig (Elt F)))).flatten (VB m c) (Proc.devRef .tc main_v1)
      = transpose (s := S4x2x8192) S4x8192x2 [0, 2, 1] (GW c (XA m c) (wts c (WA m c))) transposes_S4x2x8192_S4x8192x2_0_2_1 := by
  simp only [hostOps1, List.flatten_cons, List.flatten_nil, List.append_nil, StableHlo.after_cons, StableHlo.after_nil]
  rw [StableHlo.unary_result_ne _ _ _ _ _ _ (by decide), StableHlo.unary_result_ne _ _ _ _ _ _ (by decide)]
  refine (StableHlo.unary_result ..).trans ?_
  rw [VB_out m c main_v0_1 (by decide), GG_1]
theorem after_v2 (c : Dev nD) :
    StableHlo.after ([hostOps1 (F := F)] : List (List (HloOp τ sig (Elt F)))).flatten (VB m c) (Proc.devRef .tc main_v2)
      = transpose (s := S4x2x8192) S4x8192x2 [0, 2, 1] (GE c (XA m c) (wts c (WA m c))) transposes_S4x2x8192_S4x8192x2_0_2_1 := by
  simp only [hostOps1, List.flatten_cons, List.flatten_nil, List.append_nil, StableHlo.after_cons, StableHlo.after_nil]
  rw [StableHlo.unary_result_ne _ _ _ _ _ _ (by decide)]
  refine (StableHlo.unary_result ..).trans ?_
  rw [StableHlo.unary_result_ne _ _ _ _ _ _ (by decide), VB_out m c main_v0_2 (by decide), GG_2]
theorem after_v3 (c : Dev nD) :
    StableHlo.after ([hostOps1 (F := F)] : List (List (HloOp τ sig (Elt F)))).flatten (VB m c) (Proc.devRef .tc main_v3)
      = transpose (s := S4x8x8192) S4x8192x8 [0, 2, 1] (GL c (XA m c) (wts c (WA m c))) transposes_S4x8x8192_S4x8192x8_0_2_1 := by
  simp only [hostOps1, List.flatten_cons, List.flatten_nil, List.append_nil, StableHlo.after_cons, StableHlo.after_nil]
  refine (StableHlo.unary_result ..).trans ?_
  rw [StableHlo.unary_result_ne _ _ _ _ _ _ (by decide), StableHlo.unary_result_ne _ _ _ _ _ _ (by decide), VB_out m c main_v0_0 (by decide), GG_0]

theorem ownFacts : Pipeline.OwnSemFacts (cfgs 0).spec osem := by decide

set_option maxHeartbeats 800000 in
/-- From any memory with zero counters every weakly fair run of `@main` ends as `Post` says. -/
theorem run_main : θ_run defs (onTc (τ := τ) (main (F := F))) (s₀ m ρ) (Post m) :=
  Pipeline.θ_run_frame_dmaR_aroundV cfgs (dats m) 0 launch0 osem defs₀ 𝒱₀ ownFacts heldRefs outRefs
    (by decide) (by decide) m ρ main
    (fun c => (body_obligation m c).loose) (fun _ w => w.elim0) (fun _ _ => rfl)
    (V0 m) [hostOps1] sfx_sub sfx_fresh sfx_keeps (GG m)
    (Pipeline.hmain_around cfgs 0 defs₀ 𝒱₀ m main [] [hostOps1] (by simp only [List.Forall]) (by simp only [List.Forall]) main_chain)
    (fun _ w => w.elim0) (held_in m) (held_out m) (Post m)
    (fun r h => by
      refine ⟨fun c => ?_, h.2⟩
      have hc := fun b hb hs => (h.1 c).2 b (Pipeline.mem_restRefs_of b hb hs)
      have a0 := (hc main_arg0 (by decide) (by decide)).trans (after_arg m c main_arg0 (by decide) (by decide) (by decide) (by decide))
      have a1 := (hc main_arg1 (by decide) (by decide)).trans (after_arg m c main_arg1 (by decide) (by decide) (by decide) (by decide))
      exact ⟨⟨a0, a1⟩, (hc main_v1 (by decide) (by decide)).trans (after_v1 m c), (hc main_v2 (by decide) (by decide)).trans (after_v2 m c), (hc main_v3 (by decide) (by decide)).trans (after_v3 m c)⟩)

end Run

end Cert.Proof.Launch

end
-- ==== Proof.Finite.lean ====
/-
  What the precondition says: every entry of both arguments is a real number.
-/
module

public import proofs.«01_k».proof.Pre_finite_inputs
public import Idealize.ShloMosaic.PureOps.Ideal.Laws
public import Idealize.ShloMosaic.Lib.ValueIdx
public import Idealize.ShloMosaic.Lib.Affine
public import Idealize.ShloMosaic.Lib.ReduceAll
public import Idealize.ShloMosaic.Lib.IdealHost

@[expose] public section

noncomputable section

namespace Cert.Proof.Finite

open Cert.Pre_finite_inputs Idealize.ShloMosaic Idealize.ShloMosaic.ValueIdx

theorem facts : Cert.Pre_finite_inputs.Facts where
  bcast_S_S4x8192x1024 := by decide
  reducesTo_S4x8192x1024_S_d0_1_2 := by decide
  h_S_ := by decide
  bcast_S_S8x1024 := by decide
  reducesTo_S8x1024_S_d0_1 := by decide

theorem bits_inf : Ideal.ofBits .f32 0x7F800000#32 = ⊤ := by simp [Ideal.ofBits, Ideal.ieee]

/-- An extended real whose absolute value is below `+∞` is a real number. -/
theorem real_of_lt (x : EReal) (h : BitVec.ofBool (decide (max x (-x) < Ideal.ofBits .f32 0x7F800000#32)) = 1#1) : ((x.toReal : ℝ) : EReal) = x := by
  rw [bits_inf] at h
  have h : max x (-x) < ⊤ := by
    by_contra hn
    rw [decide_eq_false hn] at h
    exact absurd h (by decide)
  refine EReal.coe_toReal (fun e => ?_) (fun e => ?_)
  · rw [e] at h; exact absurd h (by simp)
  · rw [e] at h; exact absurd h (by simp)

instance : Subsingleton S_.Idx := ⟨fun _ _ => funext fun a => a.elim0⟩

variable [Cert.Pre_finite_inputs.Facts] {X : FVec Ideal S4x8192x1024 .f32} {W : FVec Ideal S8x1024 .f32}
  (h : Cert.Pre_finite_inputs.fn (F := Ideal) X W = fun _ => 1#1)
include h

theorem hidden_real (i : S4x8192x1024.Idx) : (((X i).toReal : ℝ) : EReal) = X i :=
  real_of_lt (X i) (Host.reduce_andi_all _ _ _ _ ix0 (IntOp.andi_eq_one.1 (congrFun h ix0)).1 i)

theorem router_real (i : S8x1024.Idx) : (((W i).toReal : ℝ) : EReal) = W i :=
  real_of_lt (W i) (Host.reduce_andi_all _ _ _ _ ix0 (IntOp.andi_eq_one.1 (congrFun h ix0)).2 i)

end Cert.Proof.Finite

end
-- ==== Proof.TopTwo.lean ====
/-
  Eight values on a line and the two that come first: by value, greater first, and among equal ones by position. A stable
  sort by "greater than" puts these two at its first two places; a maximum and the least position that reaches it, then
  the same with that position struck out, find them too.
-/
module

public import Idealize.ShloMosaic.Lib.SortFacts
public import Idealize.ShloMosaic.PureOps.Reduce
public import Idealize.ShloMosaic.PureOps.Ideal

@[expose] public section

noncomputable section

namespace Cert.Proof.TopTwo

open Idealize.ShloMosaic

/-- Position `a` comes before position `b`: its value is greater, or the values are equal and `a` is the earlier. -/
def Ahead {n : Nat} (q : Fin n → EReal) (a b : Fin n) : Prop := q b < q a ∨ (q a = q b ∧ a < b)

theorem Ahead.trans {n : Nat} {q : Fin n → EReal} {a b c : Fin n} (h : Ahead q a b) (h' : Ahead q b c) : Ahead q a c := by
  rcases h with h | ⟨h, k⟩ <;> rcases h' with h' | ⟨h', k'⟩
  · exact .inl (h'.trans h)
  · exact .inl (h' ▸ h)
  · exact .inl (h ▸ h')
  · exact .inr ⟨h.trans h', k.trans k'⟩

theorem Ahead.le {n : Nat} {q : Fin n → EReal} {a b : Fin n} (h : Ahead q a b) : q b ≤ q a :=
  h.elim le_of_lt fun h => h.1.ge

/-- The order of positions reads the values only through which of two is greater. -/
theorem ahead_congr {n : Nat} {q l : Fin n → EReal} (h : ∀ a b, q b < q a ↔ l b < l a) (a b : Fin n) :
    Ahead q a b ↔ Ahead l a b := by
  have e : q a = q b ↔ l a = l b := by
    rw [eq_iff_le_not_lt, eq_iff_le_not_lt, ← not_lt, ← not_lt, h, h]
  rw [Ahead, Ahead, h, e]

section Sorting

variable {n : Nat} {q : Fin n → EReal} {R : Fin n → Fin n → Bool} (hR : ∀ a b, R a b = decide (q b < q a))
include hR

/-- A position put into a line in order, all of whose positions come later, leaves it in order. -/
theorem pairwise_insert (a : Fin n) (l : List (Fin n)) (hl : l.Pairwise (Ahead q)) (ha : ∀ b ∈ l, a < b) :
    (insertBefore R a l).Pairwise (Ahead q) := by
  induction l with
  | nil => exact List.pairwise_singleton _ _
  | cons b l ih =>
    obtain ⟨hb, hl'⟩ := List.pairwise_cons.1 hl
    have ab := ha b (List.mem_cons_self ..)
    unfold insertBefore
    by_cases g : q a < q b
    · rw [if_pos (by rw [hR]; exact decide_eq_true g)]
      refine List.pairwise_cons.2 ⟨fun c hc => ?_, ih hl' fun c hc => ha c (List.mem_cons_of_mem _ hc)⟩
      rcases List.mem_cons.1 ((perm_insertBefore R a l).mem_iff.1 hc) with rfl | hc
      exacts [.inl g, hb c hc]
    · rw [if_neg (by rw [hR]; simpa using g)]
      have first : Ahead q a b := (lt_or_eq_of_le (not_lt.1 g)).imp id fun e => ⟨e.symm, ab⟩
      refine List.pairwise_cons.2 ⟨fun c hc => ?_, hl⟩
      rcases List.mem_cons.1 hc with rfl | hc
      exacts [first, first.trans (hb c hc)]

/-- The stable sort of positions listed in order puts each before those it comes before. -/
theorem pairwise_sort (l : List (Fin n)) (hl : l.Pairwise (· < ·)) : (stableSort R l).Pairwise (Ahead q) := by
  induction l with
  | nil => exact List.Pairwise.nil
  | cons a l ih =>
    obtain ⟨ha, hl'⟩ := List.pairwise_cons.1 hl
    exact pairwise_insert hR a _ (ih hl') fun b hb => ha b ((perm_stableSort R l).mem_iff.1 hb)

theorem sorted_ahead {i j : Fin n} (h : i < j) : Ahead q (sortedFrom R i) (sortedFrom R j) :=
  List.pairwise_iff_get.1 (pairwise_sort hR (List.finRange n) (List.pairwise_lt_finRange n)) _ _ h

end Sorting

/-- `a` is the first position and `b` the second. -/
structure Two (q : Fin 8 → EReal) (a b : Fin 8) : Prop where
  first : ∀ c, c ≠ a → Ahead q a c
  ne : b ≠ a
  second : ∀ c, c ≠ a → c ≠ b → Ahead q b c

theorem Two.congr {q l : Fin 8 → EReal} (h : ∀ a b, q b < q a ↔ l b < l a) {a b : Fin 8} (t : Two q a b) : Two l a b :=
  ⟨fun c hc => (ahead_congr h a c).1 (t.first c hc), t.ne, fun c hc hc' => (ahead_congr h b c).1 (t.second c hc hc')⟩

/-- The stable sort by "greater than" puts the two first positions first. -/
theorem two_sorted {q : Fin 8 → EReal} {R : Fin 8 → Fin 8 → Bool} (hR : ∀ a b, R a b = decide (q b < q a)) :
    Two q (sortedFrom R 0) (sortedFrom R 1) := by
  refine ⟨fun c hc => ?_, fun e => absurd (sortedFrom_injective R e) (by decide), fun c hc hc' => ?_⟩
  all_goals obtain ⟨k, rfl⟩ := sortedFrom_surjective R c
  · exact sorted_ahead hR (Fin.pos_iff_ne_zero.2 fun e => hc (by rw [e]))
  · refine sorted_ahead hR ?_
    have h0 : k ≠ 0 := fun e => hc (by rw [e])
    have h1 : k ≠ 1 := fun e => hc' (by rw [e])
    have := Fin.val_ne_of_ne h0; have := Fin.val_ne_of_ne h1
    show (1 : Fin 8).val < k.val
    omega

/-! ## Found by maxima and least positions -/

/-- A maximum taken from `-∞` over values none of which is above one of them. -/
theorem fold_max_eq {l : Fin 8 → EReal} (a : Fin 8) (h : ∀ c, l c ≤ l a) : (Finset.univ : Finset (Fin 8)).fold max ⊥ l = l a :=
  le_antisymm (Finset.fold_max_le _ |>.2 ⟨bot_le, fun c _ => h c⟩) (Finset.le_fold_max _ |>.2 (.inr ⟨a, Finset.mem_univ _, le_rfl⟩))

theorem toInt_le_minsi {c x y : BitVec 32} : c.toInt ≤ (IntOp.minsi x y).toInt ↔ c.toInt ≤ x.toInt ∧ c.toInt ≤ y.toInt := by
  unfold IntOp.minsi
  rw [BitVec.slt]
  split <;> rename_i h <;> simp only [decide_eq_true_eq] at h <;> omega

theorem minsi_toInt_le {c x y : BitVec 32} : (IntOp.minsi x y).toInt ≤ c.toInt ↔ x.toInt ≤ c.toInt ∨ y.toInt ≤ c.toInt := by
  unfold IntOp.minsi
  rw [BitVec.slt]
  split <;> rename_i h <;> simp only [decide_eq_true_eq] at h <;> omega

theorem toInt_small {k : Nat} (h : k ≤ 8) : (BitVec.ofNat 32 k).toInt = (k : Int) := by
  interval_cases k <;> decide

/-- The least of eight words, each a small number or the bound eight: the number `a` that one of them is and none is
below. -/
theorem fold_min_eq {g : Fin 8 → BitVec 32} (a : Fin 8) (ha : g a = BitVec.ofNat 32 a.val)
    (h : ∀ c, g c = BitVec.ofNat 32 8 ∨ (a ≤ c ∧ g c = BitVec.ofNat 32 c.val)) :
    (Finset.univ : Finset (Fin 8)).fold IntOp.minsi 2147483647#32 g = BitVec.ofNat 32 a.val := by
  have ea := toInt_small a.isLt.le
  refine BitVec.eq_of_toInt_eq (le_antisymm ?_ ?_)
  · refine (Finset.fold_op_rel_iff_or (r := fun (x y : BitVec 32) => y.toInt ≤ x.toInt) (fun {x y z} => minsi_toInt_le)).2
      (.inr ⟨a, Finset.mem_univ _, by rw [ha]⟩)
  · refine (Finset.fold_op_rel_iff_and (r := fun (x y : BitVec 32) => x.toInt ≤ y.toInt) (fun {x y z} => toInt_le_minsi)).2
      ⟨by rw [ea]; have := a.isLt; show (a.val : Int) ≤ 2147483647; omega, fun c _ => ?_⟩
    have := a.isLt
    rcases h c with e | ⟨l, e⟩ <;> rw [e, ea]
    · rw [toInt_small le_rfl]; omega
    · rw [toInt_small c.isLt.le]; have : a.val ≤ c.val := l; omega

/-- The values with the first position struck out. -/
def strike (l : Fin 8 → EReal) (a : Fin 8) (c : Fin 8) : EReal := if c = a then ⊥ else l c

/-- The positions at which a value is reached, every other replaced by eight. -/
def reach (l : Fin 8 → EReal) (m : EReal) (c : Fin 8) : BitVec 32 := if l c = m then BitVec.ofNat 32 c.val else BitVec.ofNat 32 8

variable {l : Fin 8 → EReal} {a b : Fin 8}

theorem Two.max_eq (t : Two l a b) : (Finset.univ : Finset (Fin 8)).fold max ⊥ l = l a :=
  fold_max_eq a fun c => if h : c = a then h ▸ le_rfl else (t.first c h).le

theorem Two.reach_eq (t : Two l a b) :
    (Finset.univ : Finset (Fin 8)).fold IntOp.minsi 2147483647#32 (reach l (l a)) = BitVec.ofNat 32 a.val := by
  refine fold_min_eq a (if_pos rfl) fun c => ?_
  by_cases e : l c = l a
  · refine .inr ⟨?_, if_pos e⟩
    by_cases h : c = a
    · exact h.ge
    · exact (t.first c h).elim (fun k => absurd e k.ne) fun k => k.2.le
  · exact .inl (if_neg e)

theorem Two.strike_max_eq (t : Two l a b) : (Finset.univ : Finset (Fin 8)).fold max ⊥ (strike l a) = l b := by
  have eb : strike l a b = l b := if_neg t.ne
  rw [← eb]
  refine fold_max_eq b fun c => ?_
  by_cases h : c = a
  · rw [show strike l a c = ⊥ from if_pos h]; exact bot_le
  · rw [eb, show strike l a c = l c from if_neg h]
    by_cases h' : c = b
    · rw [h']
    · exact (t.second c h h').le

theorem Two.strike_reach_eq (t : Two l a b) (hb : l b ≠ ⊥) :
    (Finset.univ : Finset (Fin 8)).fold IntOp.minsi 2147483647#32 (reach (strike l a) (l b)) = BitVec.ofNat 32 b.val := by
  have eb : strike l a b = l b := if_neg t.ne
  refine fold_min_eq b (if_pos eb) fun c => ?_
  by_cases e : strike l a c = l b
  · refine .inr ⟨?_, if_pos e⟩
    by_cases h : c = a
    · exact absurd (((if_pos h : strike l a c = ⊥).symm.trans e).symm) hb
    · have ec : l c = l b := (if_neg h : strike l a c = l c).symm.trans e
      by_cases h' : c = b
      · exact h'.ge
      · exact (t.second c h h').elim (fun k => absurd ec k.ne) fun k => k.2.le
  · exact .inl (if_neg e)

end Cert.Proof.TopTwo

end
-- ==== Proof.Shares.lean ====
/-
  A softmax over eight finite values: it keeps their order, and the shares of two of its values in their sum are a
  logistic of the difference.
-/
module

public import proofs.«01_k».proof.Proof.TopTwo

@[expose] public section

noncomputable section

namespace Cert.Proof.Shares

open Idealize.ShloMosaic
open scoped BigOperators

/-- The softmax of eight values shifted by `m`, at one of them. -/
def soft (l : Fin 8 → EReal) (m : EReal) (c : Fin 8) : EReal :=
  Ideal.div (Ideal.exp (l c - m)) (0 + ∑ e : Fin 8, Ideal.exp (l e - m))

/-- What the greatest value's share is called: `1 / (1 + exp d)`, where the second is `d` above the first. -/
def lead (d : EReal) : EReal := Ideal.div 1 (1 + Ideal.exp d)

theorem div_real (x y : ℝ) (h : y ≠ 0) : Ideal.div (x : EReal) (y : EReal) = ((x / y : ℝ) : EReal) := by
  rw [Ideal.div_coe h, ← EReal.coe_mul, mul_one_div]

variable (l : Fin 8 → ℝ) (m : ℝ)

theorem total_pos : 0 < ∑ e : Fin 8, Real.exp (l e - m) := Finset.sum_pos (fun _ _ => Real.exp_pos _) ⟨0, Finset.mem_univ _⟩

theorem sum_real {n : Nat} (f : Fin n → ℝ) : ∑ e, ((f e : ℝ) : EReal) = ((∑ e, f e : ℝ) : EReal) :=
  (map_sum (⟨⟨Real.toEReal, EReal.coe_zero⟩, EReal.coe_add⟩ : ℝ →+ EReal) f Finset.univ).symm

/-- The softmax of finite values is the real one. -/
theorem soft_real (c : Fin 8) : soft (fun e => (l e : EReal)) m c = ((Real.exp (l c - m) / ∑ e : Fin 8, Real.exp (l e - m) : ℝ) : EReal) := by
  unfold soft
  simp only [← EReal.coe_sub, Ideal.exp_coe, zero_add]
  rw [sum_real, div_real _ _ (total_pos l m).ne']

/-- It keeps the order of the values. -/
theorem soft_lt (a b : Fin 8) : soft (fun e => (l e : EReal)) m b < soft (fun e => (l e : EReal)) m a ↔ (l b : EReal) < (l a : EReal) := by
  rw [soft_real, soft_real, EReal.coe_lt_coe_iff, EReal.coe_lt_coe_iff, div_lt_div_iff_of_pos_right (total_pos l m), Real.exp_lt_exp,
    sub_lt_sub_iff_right]

theorem lead_real (d : ℝ) : lead d = ((1 / (1 + Real.exp d) : ℝ) : EReal) := by
  unfold lead
  rw [Ideal.exp_coe, ← EReal.coe_one, ← EReal.coe_add, div_real _ _ (by have := Real.exp_pos d; positivity)]

/-- The share of the value the softmax is shifted by, among itself and another. -/
theorem share_first (a b : Fin 8) :
    Ideal.div (soft (fun e => (l e : EReal)) (l a) a) (0 + (soft (fun e => (l e : EReal)) (l a) a + soft (fun e => (l e : EReal)) (l a) b))
      = lead ((l b : EReal) - l a) := by
  have hS := total_pos l (l a)
  have hx := Real.exp_pos (l b - l a)
  rw [soft_real, soft_real, ← EReal.coe_sub, lead_real, zero_add, ← EReal.coe_add, sub_self, Real.exp_zero, div_real _ _ (by positivity)]
  congr 1
  field_simp

/-- And the other's. -/
theorem share_second (a b : Fin 8) :
    Ideal.div (soft (fun e => (l e : EReal)) (l a) b) (0 + (soft (fun e => (l e : EReal)) (l a) a + soft (fun e => (l e : EReal)) (l a) b))
      = 1 - lead ((l b : EReal) - l a) := by
  have hS := total_pos l (l a)
  have hx := Real.exp_pos (l b - l a)
  rw [soft_real, soft_real, ← EReal.coe_sub, lead_real, zero_add, ← EReal.coe_add, sub_self, Real.exp_zero, div_real _ _ (by positivity),
    ← EReal.coe_one, ← EReal.coe_sub]
  congr 1
  field_simp
  ring

end Cert.Proof.Shares

end
-- ==== Proof.Columns.lean ====
/-
  One block of the kernel, read token by token over the extended reals: a token's column of logits, its two greatest
  logits and their experts, and the two weights.
-/
module

public import proofs.«01_k».proof.Proof.Held
public import proofs.«01_k».proof.Proof.Shares
public import Idealize.ShloMosaic.PureOps.Ideal.Laws
public import Idealize.ShloMosaic.Lib.ValueIdx
public import Idealize.ShloMosaic.Lib.ValueLayout
public import Idealize.ShloMosaic.Lib.MatmulPlain
public import Idealize.ShloMosaic.Lib.IdealHost

@[expose] public section

set_option maxRecDepth 16384

noncomputable section

namespace Cert.Proof.Columns

open Cert.KernelIdeal Cert.KernelIdeal.Gen Cert.Proof.Held Cert.Proof.TopTwo Cert.Proof.Shares
open Idealize.ShloMosaic Idealize.ShloMosaic.ValueIdx
open scoped BigOperators

theorem ofBits_neg_inf : Ideal.ofBits .f32 0xFF800000#32 = ⊥ := by simp [Ideal.ofBits, Ideal.ieee]

theorem cmp_oeq_select {α : Type} (x y : EReal) (a b : α) :
    Scalar.select (Ideal.cmp .oeq x y) a b = if x = y then a else b := by
  unfold Scalar.select Ideal.cmp
  by_cases h : x = y <;> simp [h]

/-- A maximum down the columns, kept as one row. -/
theorem max_row (v : FVec Ideal S8x512 .f32) (u : Fin 1) (n : Fin 512) :
    shapeCast S1x512 (multiReduction .maximumf [0] S512 v 0xFF800000#32 reduces_S8x512_S512 (.inl rfl) rfl) shapeCasts_S512_S1x512 (ix2 u n)
      = (Finset.univ : Finset (Fin 8)).fold max ⊥ fun e => v (ix2 e n) := by
  refine (shapeCast_a_1a_apply _ _ u n).trans ((Ideal.multiReduction_maximumf_single v _ reduces_S8x512_S512 _ _ (ix1 n)).trans ?_)
  refine (congrArg (fun z => (Finset.univ : Finset (Fin 8)).fold max z _) ofBits_neg_inf).trans ?_
  refine Finset.fold_congr fun e _ => congrArg v ?_
  funext a; apply Fin.ext
  match a with
  | ⟨0, _⟩ => rfl
  | ⟨1, _⟩ => rfl

/-- A least word down the columns, kept as one row. -/
theorem min_row (v : IVec S8x512 32) (u : Fin 1) (n : Fin 512) :
    shapeCast S1x512 (multiReductionI .minsi [0] S512 v 2147483647#32 reduces_S8x512_S512 rfl) shapeCasts_S512_S1x512 (ix2 u n)
      = (Finset.univ : Finset (Fin 8)).fold IntOp.minsi 2147483647#32 fun e => v (ix2 e n) := by
  refine (shapeCast_a_1a_apply _ _ u n).trans ((multiReductionI_eq_fold .minsi v _ reduces_S8x512_S512 rfl (ix1 n)).trans ?_)
  refine (reduces_S8x512_S512.fold_filter_drop_single IntOp.minsi _ v (ix1 n)).trans ?_
  refine Finset.fold_congr fun e _ => congrArg v ?_
  funext a; apply Fin.ext
  match a with
  | ⟨0, _⟩ => rfl
  | ⟨1, _⟩ => rfl

/-- Where a column reaches a row's value: the expert's number there, eight elsewhere. -/
theorem reach_at (v : FVec Ideal S8x512 .f32) (r : FVec Ideal S1x512 .f32) (e : Fin 8) (n : Fin 512) :
    select (cmpf .oeq v (broadcastTo S8x512 r broadcasts_S1x512_S8x512)) (iota .tc S8x512 32 [0] iota_S8x512_d0_w32) (broadcast S8x512 8#32) (ix2 e n)
      = reach (fun e => v (ix2 e n)) (r (ix2 (0 : Fin 1) n)) e := by
  show Scalar.select (Ideal.cmp .oeq (v (ix2 e n)) (broadcastTo S8x512 r broadcasts_S1x512_S8x512 (ix2 e n)))
    (iota .tc S8x512 32 [0] iota_S8x512_d0_w32 (ix2 e n)) 8#32 = _
  rw [broadcastTo_1b_ab_apply, iota_single_apply, cmp_oeq_select]
  rfl

/-- One row put above another. -/
theorem stack_at {α : Type} (p q : S1x512.Idx → α) (k : Fin 2) (n : Fin 512) :
    concatenate S2x512 0 [⟨S1x512, p⟩, ⟨S1x512, q⟩] concatenates_S1x512_S1x512_S2x512_d0 (ix2 k n)
      = if k = 0 then p (ix2 (0 : Fin 1) n) else q (ix2 (0 : Fin 1) n) := by
  match k with
  | ⟨0, _⟩ =>
    refine concatenate_pair_apply_left (t := S2x512) (s₁ := S1x512) (s₂ := S1x512) 0 p q _ _ rfl (ix2 (0 : Fin 1) n) fun c => ?_
    match c with
    | ⟨0, _⟩ => rfl
    | ⟨1, _⟩ => rfl
  | ⟨1, _⟩ =>
    refine concatenate_pair_apply_right (t := S2x512) (s₁ := S1x512) (s₂ := S1x512) 0 p q _ (ix2 (1 : Fin 2) n) rfl rfl (ix2 (0 : Fin 1) n)
      (fun c hc => ?_) rfl
    match c with
    | ⟨0, _⟩ => exact absurd rfl hc
    | ⟨1, _⟩ => rfl

variable (W : Vec Ideal S8x1024 .f32) (x : Vec Ideal S1x512x1024 .f32)

/-- A token's eight logits. -/
def line (n : Fin 512) (e : Fin 8) : EReal := k0_pay1 W x (ix2 e n)

theorem line_eq (n : Fin 512) (e : Fin 8) : line W x n e = ∑ h : Fin 1024, W (ix2 e h) * x (ix3 (0 : Fin 1) n h) := by
  unfold line k0_pay1
  refine (Ideal.matmul_transposedRhs_apply (M := 8) (K := 1024) (N := 512) none W _ _ e n).trans ?_
  refine (congrArg (· + _) Ideal.ofBits_zero_f32).trans ((zero_add _).trans ?_)
  refine Finset.sum_congr rfl fun h _ => congrArg (W (ix2 e h) * ·) ?_
  exact shapeCast_1ab_ab_apply x _ n h

theorem logV_at (e : Fin 8) (n : Fin 512) : k0_pay2 W x (ix3 (0 : Fin 1) e n) = line W x n e := by
  unfold k0_pay2
  exact shapeCast_ab_1ab_apply _ _ _ e n

variable {W x} {n : Fin 512} {a b : Fin 8} (t : Two (line W x n) a b)
include t

theorem pay3_at (u : Fin 1) : k0_pay3 W x (ix2 u n) = line W x n a := (max_row _ u n).trans t.max_eq

theorem pay4_at (u : Fin 1) : k0_pay4 W x (ix2 u n) = BitVec.ofNat 32 a.val := by
  refine (min_row _ u n).trans ((Finset.fold_congr fun e _ => reach_at _ _ e n).trans ?_)
  rw [pay3_at t]
  exact t.reach_eq

theorem pay5_at (e : Fin 8) : k0_pay5 W x (ix2 e n) = strike (line W x n) a e := by
  show Scalar.select (IntOp.cmpi .eq (iota .tc S8x512 32 [0] iota_S8x512_d0_w32 (ix2 e n))
    (broadcastTo S8x512 (k0_pay4 W x) broadcasts_S1x512_S8x512 (ix2 e n))) (Ideal.ofBits .f32 0xFF800000#32) (line W x n e) = _
  rw [broadcastTo_1b_ab_apply, iota_single_apply, pay4_at t, ofBits_neg_inf]
  show Scalar.select (IntOp.cmpi .eq (BitVec.ofNat 32 e.val) (BitVec.ofNat 32 a.val)) _ _ = if e = a then ⊥ else line W x n e
  by_cases h : e = a
  · rw [h, if_pos rfl]; simp [Scalar.select, IntOp.cmpi]
  · have k : BitVec.ofNat 32 e.val ≠ BitVec.ofNat 32 a.val := fun k => h (Fin.ext (by
      have := congrArg BitVec.toNat k; simp only [BitVec.toNat_ofNat] at this; have := e.isLt; have := a.isLt; omega))
    rw [if_neg h]; simp [Scalar.select, IntOp.cmpi, beq_eq_false_iff_ne.2 k]

theorem pay6_at (u : Fin 1) : k0_pay6 W x (ix2 u n) = line W x n b :=
  (max_row _ u n).trans ((Finset.fold_congr fun e _ => pay5_at t e).trans t.strike_max_eq)

/-- The two weights of a token. -/
theorem weights_at (k : Fin 2) : k0_pay8 (k0_pay3 W x) (k0_pay6 W x) (ix3 (0 : Fin 1) k n)
    = if k = 0 then lead (line W x n b - line W x n a) else 1 - lead (line W x n b - line W x n a) := by
  have e1 : ∀ u : Fin 1, Ideal.div (Ideal.ofBits .f32 0x3F800000#32) (Ideal.ofBits .f32 0x3F800000#32
      + Ideal.exp (k0_pay6 W x (ix2 u n) - k0_pay3 W x (ix2 u n))) = lead (line W x n b - line W x n a) := fun u => by
    rw [pay3_at t, pay6_at t, Ideal.ofBits_one_f32]; rfl
  unfold k0_pay8
  refine (shapeCast_ab_1ab_apply _ _ _ k n).trans ((stack_at _ _ k n).trans ?_)
  exact congrArg₂ (fun y z : EReal => if k = 0 then y else z) (e1 0) (congrArg₂ (fun y z : EReal => y - z) Ideal.ofBits_one_f32 (e1 0))

/-- The two experts of a token. -/
theorem experts_at (hb : line W x n b ≠ ⊥) (k : Fin 2) :
    k0_pay9 (iota .tc S8x512 32 [0] iota_S8x512_d0_w32) (k0_pay4 W x) (k0_pay5 W x) (k0_pay7 W x) (ix3 (0 : Fin 1) k n)
      = BitVec.ofNat 32 (if k = 0 then a else b).val := by
  unfold k0_pay9
  refine (shapeCast_ab_1ab_apply _ _ _ k n).trans ((stack_at _ _ k n).trans ?_)
  rw [pay4_at t 0, apply_ite Fin.val, apply_ite (BitVec.ofNat 32)]
  refine congrArg (fun z => if k = 0 then BitVec.ofNat 32 a.val else z) ?_
  refine (min_row _ 0 n).trans ((Finset.fold_congr fun e _ => reach_at _ _ e n).trans ?_)
  rw [pay6_at t, show (fun e => k0_pay5 W x (ix2 e n)) = strike (line W x n) a from funext (pay5_at t)]
  exact t.strike_reach_eq hb

end Cert.Proof.Columns

end
-- ==== Proof.Tokens.lean ====
/-
  The reference read token by token over the extended reals: a token's eight logits, its softmax, the two experts the
  stable top-k takes, and the two shares.
-/
module

public import proofs.«01_k».proof.Proof.Gen.ReferenceIdeal
public import proofs.«01_k».proof.Proof.Shares
public import Idealize.ShloMosaic.PureOps.Ideal.Laws
public import Idealize.ShloMosaic.Lib.ValueIdx
public import Idealize.ShloMosaic.Lib.ValueLayout
public import Idealize.ShloMosaic.Lib.MatmulPlain
public import Idealize.ShloMosaic.Lib.IdealHost

@[expose] public section

set_option maxRecDepth 16384

noncomputable section

namespace Cert.Proof.Tokens

open Cert.ReferenceIdeal Cert.ReferenceIdeal.Gen Cert.Proof.TopTwo Cert.Proof.Shares
open Idealize.ShloMosaic Idealize.ShloMosaic.ValueIdx
open scoped BigOperators

theorem bits_neg_inf : Ideal.ofBits .f32 0xFF800000#32 = ⊥ := by simp [Ideal.ofBits, Ideal.ieee]

/-! ## The reference's arrays, in its order -/

/-- The logits. -/
def logits (X : FVec Ideal S4x8192x1024 .f32) (W : FVec Ideal S8x1024 .f32) : FVec Ideal S4x8192x8 .f32 :=
  Host.dotGeneral dot_S4x8192x1024_S8x1024_S4x8192x8_2_1_01_0_n_n none X W

/-- The greatest logit of each token. -/
def peak (L : FVec Ideal S4x8192x8 .f32) : FVec Ideal S4x8192 .f32 :=
  maximumf (broadcastInDim S4x8192 ![] bcast_S_S4x8192 (constant S_ .f32 0xFF800000#32))
    (Host.reduce FloatOps.maximumf L (constant S_ .f32 0xFF800000#32) reducesTo_S4x8192x8_S4x8192_d2 h_S_)

/-- One value per token laid along the experts. -/
def along8 (v : FVec Ideal S4x8192 .f32) : FVec Ideal S4x8192x8 .f32 :=
  broadcastInDim S4x8192x8 ![0, 1, 2] bcast_S4x8192x1_S4x8192x8_0_1_2 (broadcastInDim S4x8192x1 ![0, 1] bcast_S4x8192_S4x8192x1_0_1 v)

/-- One value per token laid along the two places. -/
def along2 (v : FVec Ideal S4x8192 .f32) : FVec Ideal S4x8192x2 .f32 :=
  broadcastInDim S4x8192x2 ![0, 1, 2] bcast_S4x8192x1_S4x8192x2_0_1_2 (broadcastInDim S4x8192x1 ![0, 1] bcast_S4x8192_S4x8192x1_0_1 v)

/-- The exponentials of the logits below their greatest. -/
def powers (L : FVec Ideal S4x8192x8 .f32) : FVec Ideal S4x8192x8 .f32 := Host.exp (subf L (along8 (peak L)))

/-- The softmax. -/
def chances (L : FVec Ideal S4x8192x8 .f32) : FVec Ideal S4x8192x8 .f32 :=
  Host.divf (powers L) (along8 (Host.reduceAdd (powers L) (constant S_ .f32 0x00000000#32) reducesTo_S4x8192x8_S4x8192_d2 h_S_))

/-- The two greatest chances. -/
def best (Q : FVec Ideal S4x8192x8 .f32) : FVec Ideal S4x8192x2 .f32 :=
  (Host.topK S4x8192x2 2 (FloatOps.cmpfTotal .gt) Q sliceFits_S4x8192x8_S4x8192x2).1

/-- Their experts. -/
def who (Q : FVec Ideal S4x8192x8 .f32) : IVec S4x8192x2 32 :=
  (Host.topK S4x8192x2 2 (FloatOps.cmpfTotal .gt) Q sliceFits_S4x8192x8_S4x8192x2).2

/-- The two chances as shares of their sum. -/
def shares (T : FVec Ideal S4x8192x2 .f32) : FVec Ideal S4x8192x2 .f32 :=
  Host.divf T (along2 (Host.reduceAdd T (constant S_ .f32 0x00000000#32) reducesTo_S4x8192x2_S4x8192_d2 h_S_))

/-! ## Each read at a token -/

theorem logits_at (X : FVec Ideal S4x8192x1024 .f32) (W : FVec Ideal S8x1024 .f32) (b : Fin 4) (n : Fin 8192) (e : Fin 8) :
    logits X W (ix3 b n e) = ∑ h : Fin 1024, X (ix3 b n h) * W (ix2 e h) := by
  let d := dot_S4x8192x1024_S8x1024_S4x8192x8_2_1_01_0_n_n
  let q : d.contr.Idx ≃ Fin 1024 := contrEquiv1 d 1024 rfl rfl
  refine (Ideal.dotGeneral_apply d none _ X W (ix3 b n e)).trans ?_
  rw [← Equiv.sum_comp q.symm]
  refine Finset.sum_congr rfl fun h _ => ?_
  have hk := contrEquiv1_symm_val d 1024 rfl rfl h
  have el : d.lhsIdx (ix3 b n e) (q.symm h) = ix3 b n h := by
    funext a; apply Fin.ext
    match a with
    | ⟨0, _⟩ => rfl
    | ⟨1, _⟩ => rfl
    | ⟨2, _⟩ => exact hk
  have er : d.rhsIdx (ix3 b n e) (q.symm h) = ix2 e h := by
    funext a; apply Fin.ext
    match a with
    | ⟨0, _⟩ => rfl
    | ⟨1, _⟩ => exact hk
  rw [el, er]

theorem lift8 (h : S4x8192x8.Reduces [2] S4x8192) (b : Fin 4) (n : Fin 8192) (k : Fin 8) : h.lift (ix2 b n) k = ix3 b n k := by
  funext a; apply Fin.ext
  match a with
  | ⟨0, _⟩ => rfl
  | ⟨1, _⟩ => rfl
  | ⟨2, _⟩ => rfl

theorem lift2 (h : S4x8192x2.Reduces [2] S4x8192) (b : Fin 4) (n : Fin 8192) (k : Fin 2) : h.lift (ix2 b n) k = ix3 b n k := by
  funext a; apply Fin.ext
  match a with
  | ⟨0, _⟩ => rfl
  | ⟨1, _⟩ => rfl
  | ⟨2, _⟩ => rfl

theorem peak_at (L : FVec Ideal S4x8192x8 .f32) (b : Fin 4) (n : Fin 8192) :
    peak L (ix2 b n) = (Finset.univ : Finset (Fin 8)).fold max ⊥ fun e => L (ix3 b n e) := by
  have h : S4x8192x8.Reduces [2] S4x8192 := by decide
  have e1 := Host.reduce_eq_fold_single (FloatOps.maximumf (F := Ideal) (φ := .f32)) L (constant S_ .f32 0xFF800000#32)
    reducesTo_S4x8192x8_S4x8192_d2 h h_S_ (ix2 b n)
  refine (congrArg (max (Ideal.ofBits .f32 0xFF800000#32)) e1).trans ?_
  rw [bits_neg_inf, max_eq_right bot_le]
  refine (congrArg (fun z => (Finset.univ : Finset (Fin 8)).fold max z _) bits_neg_inf).trans ?_
  exact Finset.fold_congr fun e _ => congrArg L (lift8 h b n e)

theorem along8_at (v : FVec Ideal S4x8192 .f32) (b : Fin 4) (n : Fin 8192) (e : Fin 8) : along8 v (ix3 b n e) = v (ix2 b n) := by
  refine (broadcastInDim_apply _ _ _ _ (ix3 b n (0 : Fin 1)) fun a => ?_).trans
    (broadcastInDim_apply _ _ _ _ (ix2 b n) fun a => ?_)
  · match a with
    | ⟨0, _⟩ => rfl
    | ⟨1, _⟩ => rfl
    | ⟨2, _⟩ => rfl
  · match a with
    | ⟨0, _⟩ => rfl
    | ⟨1, _⟩ => rfl

theorem along2_at (v : FVec Ideal S4x8192 .f32) (b : Fin 4) (n : Fin 8192) (k : Fin 2) : along2 v (ix3 b n k) = v (ix2 b n) := by
  refine (broadcastInDim_apply _ _ _ _ (ix3 b n (0 : Fin 1)) fun a => ?_).trans
    (broadcastInDim_apply _ _ _ _ (ix2 b n) fun a => ?_)
  · match a with
    | ⟨0, _⟩ => rfl
    | ⟨1, _⟩ => rfl
    | ⟨2, _⟩ => rfl
  · match a with
    | ⟨0, _⟩ => rfl
    | ⟨1, _⟩ => rfl

theorem powers_at (L : FVec Ideal S4x8192x8 .f32) (b : Fin 4) (n : Fin 8192) (e : Fin 8) :
    powers L (ix3 b n e) = Ideal.exp (L (ix3 b n e) - peak L (ix2 b n)) :=
  congrArg (fun z => Ideal.exp (L (ix3 b n e) - z)) (along8_at _ b n e)

theorem chances_at (L : FVec Ideal S4x8192x8 .f32) (b : Fin 4) (n : Fin 8192) (e : Fin 8) :
    chances L (ix3 b n e) = soft (fun e => L (ix3 b n e)) (peak L (ix2 b n)) e := by
  have h : S4x8192x8.Reduces [2] S4x8192 := by decide
  refine congrArg₂ Ideal.div (powers_at L b n e) ((along8_at _ b n e).trans ?_)
  refine (Ideal.hostReduceAdd_single reducesTo_S4x8192x8_S4x8192_d2 h (powers L) _ (ix2 b n)).trans ?_
  refine congrArg₂ (· + ·) Ideal.ofBits_zero_f32 (Finset.sum_congr rfl fun k _ => ?_)
  exact (congrArg (powers L) (lift8 h b n k)).trans (powers_at L b n k)

/-- The order the top-k sorts a token's chances by. -/
abbrev before (q : Fin 8 → EReal) (i j : Fin 8) : Bool := FloatOps.cmpfTotal (F := Ideal) (φ := .f32) .gt (q i) (q j) == 1#1

theorem before_eq (q : Fin 8 → EReal) (i j : Fin 8) : before q i j = decide (q j < q i) := by
  unfold before
  rw [Ideal.cmpfTotal_def]
  by_cases h : q j < q i <;> simp [Ideal.cmp, CmpDirection.ordered, h]

/-- The expert at a place of the sorted order. -/
abbrev pick (q : Fin 8 → EReal) (k : Fin 2) : Fin 8 := sortedFrom (before q) (Fin.castLE (by decide) k)

theorem along_ix3 (b : Fin 4) (n : Fin 8192) (k c : Fin 8) :
    Shape.Idx.along (s := S4x8192x8) (ix3 b n k) (2 : Fin 3) c = ix3 b n c := by
  funext a
  match a with
  | ⟨0, _⟩ => rfl
  | ⟨1, _⟩ => rfl
  | ⟨2, _⟩ => rfl

variable (Q : FVec Ideal S4x8192x8 .f32) (b : Fin 4) (n : Fin 8192) (k : Fin 2)

theorem place_eq : (sortedFrom (fun i j : Fin 8 => (FloatOps.cmpfTotal .gt (Q (Shape.Idx.along (s := S4x8192x8) (ix3 b n (Fin.castLE (by decide) k : Fin 8)) (2 : Fin 3) i))
      (Q (Shape.Idx.along (s := S4x8192x8) (ix3 b n (Fin.castLE (by decide) k : Fin 8)) (2 : Fin 3) j)) : BitVec 1) == 1#1) (Fin.castLE (by decide) k : Fin 8))
    = pick (fun e => Q (ix3 b n e)) k := by
  simp only [along_ix3]

theorem best_at : best Q (ix3 b n k) = Q (ix3 b n (pick (fun e => Q (ix3 b n e)) k)) := by
  unfold best Host.topK
  dsimp only
  refine (extractStridedSlice_apply _ _ _ _ (ix3 b n (Fin.castLE (by decide) k : Fin 8)) fun a => ?_).trans ?_
  · match a with
    | ⟨0, _⟩ => exact (Nat.zero_add _).symm
    | ⟨1, _⟩ => exact (Nat.zero_add _).symm
    | ⟨2, _⟩ => exact (Nat.zero_add _).symm
  · refine (congrArg (fun c : Fin 8 => Q (Shape.Idx.along (s := S4x8192x8) (ix3 b n (Fin.castLE (by decide) k : Fin 8)) (2 : Fin 3) c)) (place_eq Q b n k)).trans ?_
    exact congrArg Q (along_ix3 b n _ _)

theorem who_at : who Q (ix3 b n k) = BitVec.ofNat 32 (pick (fun e => Q (ix3 b n e)) k).val := by
  unfold who Host.topK
  dsimp only
  refine (extractStridedSlice_apply _ _ _ _ (ix3 b n (Fin.castLE (by decide) k : Fin 8)) fun a => ?_).trans ?_
  · match a with
    | ⟨0, _⟩ => exact (Nat.zero_add _).symm
    | ⟨1, _⟩ => exact (Nat.zero_add _).symm
    | ⟨2, _⟩ => exact (Nat.zero_add _).symm
  · refine (congrArg (fun c : Fin 8 => iotaInDim S4x8192x8 32 2 (Shape.Idx.along (s := S4x8192x8) (ix3 b n (Fin.castLE (by decide) k : Fin 8)) (2 : Fin 3) c)) (place_eq Q b n k)).trans ?_
    exact congrArg (iotaInDim S4x8192x8 32 2) (along_ix3 b n _ _)

theorem shares_at (T : FVec Ideal S4x8192x2 .f32) :
    shares T (ix3 b n k) = Ideal.div (T (ix3 b n k)) (0 + (T (ix3 b n (0 : Fin 2)) + T (ix3 b n (1 : Fin 2)))) := by
  have h : S4x8192x2.Reduces [2] S4x8192 := by decide
  refine congrArg (Ideal.div _) ((along2_at _ b n k).trans ?_)
  refine (Ideal.hostReduceAdd_single reducesTo_S4x8192x2_S4x8192_d2 h T _ (ix2 b n)).trans ?_
  refine congrArg₂ (· + ·) Ideal.ofBits_zero_f32 (Eq.trans (Finset.sum_congr rfl fun k _ => congrArg T (lift2 h b n k)) ?_)
  exact Fin.sum_univ_two _

/-! ## A token whose logits are finite -/

variable {L : FVec Ideal S4x8192x8 .f32} {l : Fin 8 → ℝ} {b : Fin 4} {n : Fin 8192} (hL : ∀ e, L (ix3 b n e) = (l e : EReal))
include hL

/-- The two experts the softmax's order puts first are the logits' first two. -/
theorem picked : Two (fun e => (l e : EReal)) (pick (fun e => chances L (ix3 b n e)) 0) (pick (fun e => chances L (ix3 b n e)) 1) := by
  obtain ⟨c, hc⟩ := Finite.exists_max l
  have hp : peak L (ix2 b n) = (l c : EReal) := by
    rw [peak_at, show (fun e => L (ix3 b n e)) = fun e => (l e : EReal) from funext hL]
    exact fold_max_eq c fun e => EReal.coe_le_coe_iff.2 (hc e)
  have hq : (fun e => chances L (ix3 b n e)) = soft (fun e => (l e : EReal)) (l c : EReal) := by
    funext e
    rw [chances_at, hp, show (fun e => L (ix3 b n e)) = fun e => (l e : EReal) from funext hL]
  have h2 := two_sorted (q := fun e => chances L (ix3 b n e)) (before_eq _)
  refine Two.congr (fun i j => ?_) h2
  exact (iff_of_eq (congrArg (fun q : Fin 8 → EReal => q j < q i) hq)).trans (soft_lt l (l c) i j)

theorem chance_eq (e : Fin 8) {a b' : Fin 8} (t : Two (fun e => (l e : EReal)) a b') :
    chances L (ix3 b n e) = soft (fun e => (l e : EReal)) (l a : EReal) e := by
  rw [chances_at, peak_at, show (fun e => L (ix3 b n e)) = fun e => (l e : EReal) from funext hL, t.max_eq]

/-- The reference's two weights: the first is the logistic of the gap between the two logits, the second the rest. -/
theorem shares_lead (k : Fin 2) {a d : Fin 8} (ha : pick (fun e => chances L (ix3 b n e)) 0 = a) (hd : pick (fun e => chances L (ix3 b n e)) 1 = d) :
    shares (best (chances L)) (ix3 b n k) = if k = 0 then lead ((l d : EReal) - l a) else 1 - lead ((l d : EReal) - l a) := by
  have t := picked hL
  rw [ha, hd] at t
  have e0 : best (chances L) (ix3 b n (0 : Fin 2)) = soft (fun e => (l e : EReal)) (l a : EReal) a := by
    rw [best_at, ha, chance_eq hL _ t]
  have e1 : best (chances L) (ix3 b n (1 : Fin 2)) = soft (fun e => (l e : EReal)) (l a : EReal) d := by
    rw [best_at, hd, chance_eq hL _ t]
  rw [shares_at, e0, e1]
  rcases (show k = 0 ∨ k = 1 by omega) with rfl | rfl
  · rw [e0, if_pos rfl]
    exact share_first l a d
  · rw [e1, if_neg (by decide)]
    exact share_second l a d

end Cert.Proof.Tokens

end
-- ==== Proof.Meet.lean ====
/-
  The kernel's three results are the reference's, over finite arguments: both read token by token.
-/
module

public import proofs.«01_k».proof.Proof.Launch
public import proofs.«01_k».proof.Proof.Columns
public import proofs.«01_k».proof.Proof.Tokens
public import Idealize.ShloMosaic.Lib.ValueLayout

@[expose] public section

set_option maxRecDepth 16384

noncomputable section

namespace Cert.Proof.Meet

open Cert.KernelIdeal Cert.KernelIdeal.Gen Cert.Proof.Held Cert.Proof.Launch Cert.Proof.Body Cert.Proof.Words Cert.Proof.TopTwo Cert.Proof.Shares
open Cert.Proof.Columns (line line_eq logV_at weights_at experts_at)
open Cert.Proof.Tokens (logits logits_at chances best who shares)
open Idealize.ShloMosaic Idealize.ShloMosaic.ValueIdx Idealize.ShloMosaic.TcCoe Idealize.SL.Sem
open scoped BigOperators

variable (c : Dev nD) (X : FVec Ideal S4x8192x1024 .f32) (W : FVec Ideal S8x1024 .f32)

/-- The router's weights are read whole. -/
theorem wts_eq : wts (F := Ideal) c W = W := by
  funext z
  refine (View.read_apply ..).trans (congrArg W ?_)
  funext a
  rfl

/-- A token's row in its block is its row of the argument. -/
theorem blkOf_at (b : Fin 4) (n : Fin 8192) (h : Fin 1024) : blkOf (F := Ideal) c X b n (ix3 (0 : Fin 1) (inB n) h) = X (ix3 b n h) := by
  refine (View.read_apply ..).trans (congrArg X ?_)
  funext a
  apply Fin.ext
  fin_cases a
  · show b.val + 1 * 0 = b.val
    omega
  · show 512 * (n.val / 512) + 1 * (n.val % 512) = n.val
    omega
  · show 0 + 1 * h.val = h.val
    omega

/-- The kernel's logits of a token are the reference's. -/
theorem line_logits (b : Fin 4) (n : Fin 8192) (e : Fin 8) : line (wts (F := Ideal) c W) (blkOf (F := Ideal) c X b n) (inB n) e = logits X W (ix3 b n e) := by
  rw [line_eq, wts_eq]
  refine (Finset.sum_congr rfl fun h _ => ?_).trans (logits_at X W b n e).symm
  rw [blkOf_at]
  exact mul_comm _ _

/-- The third result: the logits. It needs no finiteness. -/
theorem out_logits : transpose (s := S4x8x8192) S4x8192x8 [0, 2, 1] (Launch.GL (F := Ideal) c X (wts (F := Ideal) c W)) transposes_S4x8x8192_S4x8192x8_0_2_1 = logits X W := by
  funext y
  obtain ⟨b, n, e, rfl⟩ : ∃ (b : Fin 4) (n : Fin 8192) (e : Fin 8), y = ix3 b n e := ⟨y 0, y 1, y 2, by funext a; fin_cases a <;> rfl⟩
  refine (transpose_ix3_021_apply _ _ b n e).trans (Eq.trans ?_ (line_logits c X W b n e))
  refine Eq.trans (congrArg (k0_pay2 (wts (F := Ideal) c W) (blkOf (F := Ideal) c X b n)) ?_) (logV_at _ _ e (inB n))
  funext a
  fin_cases a <;> rfl

variable (hX : ∀ i : S4x8192x1024.Idx, (((X i).toReal : ℝ) : EReal) = X i)
  (hW : ∀ i : S8x1024.Idx, (((W i).toReal : ℝ) : EReal) = W i)
include hX hW

/-- The logits of finite arguments are real numbers. -/
theorem logits_real (b : Fin 4) (n : Fin 8192) : ∃ l : Fin 8 → ℝ, ∀ e, logits X W (ix3 b n e) = (l e : EReal) := by
  refine ⟨fun e => ∑ h : Fin 1024, (X (ix3 b n h)).toReal * (W (ix2 e h)).toReal, fun e => ?_⟩
  refine (logits_at X W b n e).trans (Eq.trans (Finset.sum_congr rfl fun h _ => ?_) (sum_real _))
  rw [EReal.coe_mul, hX, hW]

/-- At each token: the two places of the reference's order are the kernel's, whose column is real. -/
theorem token (b : Fin 4) (n : Fin 8192) : ∃ (l : Fin 8 → ℝ) (a d : Fin 8), (∀ e, logits X W (ix3 b n e) = (l e : EReal))
    ∧ Tokens.pick (fun e => chances (logits X W) (ix3 b n e)) 0 = a ∧ Tokens.pick (fun e => chances (logits X W) (ix3 b n e)) 1 = d
    ∧ line (wts (F := Ideal) c W) (blkOf (F := Ideal) c X b n) (inB n) = (fun e => (l e : EReal)) ∧ Two (line (wts (F := Ideal) c W) (blkOf (F := Ideal) c X b n) (inB n)) a d := by
  obtain ⟨l, hl⟩ := logits_real X W hX hW b n
  have e : line (wts (F := Ideal) c W) (blkOf (F := Ideal) c X b n) (inB n) = fun e => (l e : EReal) := funext fun e => (line_logits c X W b n e).trans (hl e)
  exact ⟨l, _, _, hl, rfl, rfl, e, e ▸ Tokens.picked hl⟩

/-- The first result: the two weights. -/
theorem out_weights : transpose (s := S4x2x8192) S4x8192x2 [0, 2, 1] (GW (F := Ideal) c X (wts (F := Ideal) c W)) transposes_S4x2x8192_S4x8192x2_0_2_1
    = shares (best (chances (logits X W))) := by
  funext y
  obtain ⟨b, n, k, rfl⟩ : ∃ (b : Fin 4) (n : Fin 8192) (k : Fin 2), y = ix3 b n k := ⟨y 0, y 1, y 2, by funext a; fin_cases a <;> rfl⟩
  obtain ⟨l, a, d, hl, ha, hd, e, t⟩ := token c X W hX hW b n
  refine (transpose_ix3_021_apply _ _ b n k).trans (Eq.trans ?_ (Tokens.shares_lead hl k ha hd).symm)
  refine Eq.trans (congrArg (wtV (wts (F := Ideal) c W) (blkOf (F := Ideal) c X b n)) ?_) ((weights_at t k).trans ?_)
  · funext a
    fin_cases a <;> rfl
  · rw [e]

/-- The second result: the two experts. -/
theorem out_experts : transpose (s := S4x2x8192) S4x8192x2 [0, 2, 1] (GE (F := Ideal) c X (wts (F := Ideal) c W)) transposes_S4x2x8192_S4x8192x2_0_2_1
    = who (chances (logits X W)) := by
  funext y
  obtain ⟨b, n, k, rfl⟩ : ∃ (b : Fin 4) (n : Fin 8192) (k : Fin 2), y = ix3 b n k := ⟨y 0, y 1, y 2, by funext a; fin_cases a <;> rfl⟩
  obtain ⟨l, a, d, hl, ha, hd, e, t⟩ := token c X W hX hW b n
  refine (transpose_ix3_021_apply _ _ b n k).trans (Eq.trans ?_ (Tokens.who_at _ b n k).symm)
  refine Eq.trans (congrArg (exV (wts (F := Ideal) c W) (blkOf (F := Ideal) c X b n)) ?_) ((experts_at t (by rw [e]; exact EReal.coe_ne_bot _) k).trans ?_)
  · funext a
    fin_cases a <;> rfl
  · rcases (show k = 0 ∨ k = 1 by omega) with rfl | rfl
    · rw [if_pos rfl, ha]
    · rw [if_neg (by decide), hd]

end Cert.Proof.Meet

end
-- ==== Proof.lean ====
/-
  The certificate: the two kernel frames from one run, the reference's run, and the two programs' results compared.
-/
module

public import proofs.«01_k».proof.Defs
public import proofs.«01_k».proof.Proof.Gen.Kernel
public import proofs.«01_k».proof.Proof.Gen.ReferenceIdeal.Run
public import proofs.«01_k».proof.Proof.Launch
public import proofs.«01_k».proof.Proof.Finite
public import proofs.«01_k».proof.Proof.Meet
public import Idealize.ShloMosaic.Adequacy
public import Idealize.ShloMosaic.Init

@[expose] public section

noncomputable section

namespace Cert.Proof

open Idealize.ShloMosaic Idealize.SL.Sem

theorem frame_ideal : Cert.quiescent_KernelIdeal := fun m ρ _ =>
  (θ_run Cert.KernelIdeal.defs _ _).mono (fun _ h => ⟨fun c => (h.1 c).1, h.2⟩) (Launch.run_main (F := Ideal) m ρ)

set_option maxHeartbeats 0 in
/-- The program read at bits is the same text. -/
theorem frame_kernel : Cert.quiescent_Kernel := fun m ρ _ =>
  (θ_run Cert.KernelIdeal.defs _ _).mono (fun _ h => ⟨fun c => (h.1 c).1, h.2⟩) (Launch.run_main (F := Bits) m ρ)

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- Over finite arguments the kernel ends with the reference's three results. -/
theorem algebraic [Cert.Pre_finite_inputs.Facts] : Cert.algebraic_KernelIdeal_ReferenceIdeal_pre_finite_inputs := by
  intro m g m' g' hpre hargs
  have hX := fun c => Finite.hidden_real (hpre c)
  have hW := fun c => Finite.router_real (hpre c)
  let X (c : Dev Cert.KernelIdeal.nD) : FVec Ideal Cert.KernelIdeal.S4x8192x1024 .f32 := Launch.XA m c
  let W (c : Dev Cert.KernelIdeal.nD) : FVec Ideal Cert.KernelIdeal.S8x1024 .f32 := Launch.WA m c
  refine ⟨fun c => Tokens.shares (Tokens.best (Tokens.chances (Tokens.logits (X c) (W c)))),
    fun c => Tokens.who (Tokens.chances (Tokens.logits (X c) (W c))), fun c => Tokens.logits (X c) (W c), ?_, ?_⟩
  · refine (θ_run Cert.KernelIdeal.defs _ _).mono (fun r h c => ?_) (Launch.run_main (F := Ideal) m g)
    obtain ⟨⟨a0, a1⟩, v1, v2, v3⟩ := h.1 c
    exact ⟨v1.trans (Meet.out_weights c (X c) (W c) (hX c) (hW c)), v2.trans (Meet.out_experts c (X c) (W c) (hX c) (hW c)),
      v3.trans (Meet.out_logits c (X c) (W c)), a0, a1⟩
  · refine (θ_run Cert.ReferenceIdeal.defs _ _).mono (fun r h c => ?_) (Cert.ReferenceIdeal.Value.run (F := Ideal) m' g')
    obtain ⟨v15, vi, v0, a0, a1⟩ := h c
    obtain ⟨e0, e1⟩ := hargs c
    rw [e0, e1] at v15 vi v0
    exact ⟨v15, vi, v0, a0, a1⟩

theorem claim : Cert.Claim :=
  haveI := Finite.facts
  ⟨Cert.Kernel.Gen.facts, Cert.KernelIdeal.Gen.facts, Cert.ReferenceIdeal.Gen.facts, Finite.facts,
    frame_kernel, frame_ideal, fun m g _ => frame_ideal m g trivial, frame_reference, fun m g _ => frame_reference m g trivial,
    trivial, algebraic⟩

end Cert.Proof

end
